-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v62_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)) (v1 : (c : Dev Cert.Kernel3Ideal.nD) → Buf (Elt Ideal) ((c.tc : Thread Cert.Kernel3Ideal.nD Cert.Kernel3Ideal.τ).loc Cert.Kernel3Ideal.main_v5)) (v2 : (c : Dev Cert.Kernel3Ideal.nD) → Buf (Elt Ideal) ((c.tc : Thread Cert.Kernel3Ideal.nD Cert.Kernel3Ideal.τ).loc Cert.Kernel3Ideal.main_v6)) (v3 : (c : Dev Cert.Kernel3Ideal.nD) → Buf (Elt Ideal) ((c.tc : Thread Cert.Kernel3Ideal.nD Cert.Kernel3Ideal.τ).loc Cert.Kernel3Ideal.main_v7)) (v4 : (c : Dev Cert.Kernel3Ideal.nD) → Buf (Elt Ideal) ((c.tc : Thread Cert.Kernel3Ideal.nD Cert.Kernel3Ideal.τ).loc Cert.Kernel3Ideal.main_v8)) (v5 : (c : Dev Cert.Kernel3Ideal.nD) → Buf (Elt Ideal) ((c.tc : Thread Cert.Kernel3Ideal.nD Cert.Kernel3Ideal.τ).loc Cert.Kernel3Ideal.main_v11)) (v6 : (c : Dev Cert.Kernel3Ideal.nD) → Buf (Elt Ideal) ((c.tc : Thread Cert.Kernel3Ideal.nD Cert.Kernel3Ideal.τ).loc Cert.Kernel3Ideal.main_v12)) (v7 : (c : Dev Cert.Kernel3Ideal.nD) → Buf (Elt Ideal) ((c.tc : Thread Cert.Kernel3Ideal.nD Cert.Kernel3Ideal.τ).loc Cert.Kernel3Ideal.main_v13)) (v8 : (c : Dev Cert.Kernel3Ideal.nD) → Buf (Elt Ideal) ((c.tc : Thread Cert.Kernel3Ideal.nD Cert.Kernel3Ideal.τ).loc Cert.Kernel3Ideal.main_v14)) (v9 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_v5) = v1 c
          ∧ r.2.mem ((c.tc : Thread Cert.Kernel3Ideal.nD Cert.Kernel3Ideal.τ).loc Cert.Kernel3Ideal.main_v6) = v2 c
          ∧ r.2.mem ((c.tc : Thread Cert.Kernel3Ideal.nD Cert.Kernel3Ideal.τ).loc Cert.Kernel3Ideal.main_v7) = v3 c
          ∧ r.2.mem ((c.tc : Thread Cert.Kernel3Ideal.nD Cert.Kernel3Ideal.τ).loc Cert.Kernel3Ideal.main_v8) = v4 c
          ∧ r.2.mem ((c.tc : Thread Cert.Kernel3Ideal.nD Cert.Kernel3Ideal.τ).loc Cert.Kernel3Ideal.main_v11) = v5 c
          ∧ r.2.mem ((c.tc : Thread Cert.Kernel3Ideal.nD Cert.Kernel3Ideal.τ).loc Cert.Kernel3Ideal.main_v12) = v6 c
          ∧ r.2.mem ((c.tc : Thread Cert.Kernel3Ideal.nD Cert.Kernel3Ideal.τ).loc Cert.Kernel3Ideal.main_v13) = v7 c
          ∧ r.2.mem ((c.tc : Thread Cert.Kernel3Ideal.nD Cert.Kernel3Ideal.τ).loc Cert.Kernel3Ideal.main_v14) = v8 c
          ∧ r.2.mem ((c.tc : Thread Cert.Kernel3Ideal.nD Cert.Kernel3Ideal.τ).loc Cert.Kernel3Ideal.main_v15) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_v17) = v2 c
          ∧ r.2.mem ((c.tc : Thread Cert.Reference3Ideal.nD Cert.Reference3Ideal.τ).loc Cert.Reference3Ideal.main_v18) = v3 c
          ∧ r.2.mem ((c.tc : Thread Cert.Reference3Ideal.nD Cert.Reference3Ideal.τ).loc Cert.Reference3Ideal.main_v19) = v4 c
          ∧ r.2.mem ((c.tc : Thread Cert.Reference3Ideal.nD Cert.Reference3Ideal.τ).loc Cert.Reference3Ideal.main_v35) = v5 c
          ∧ r.2.mem ((c.tc : Thread Cert.Reference3Ideal.nD Cert.Reference3Ideal.τ).loc Cert.Reference3Ideal.main_v36) = v6 c
          ∧ r.2.mem ((c.tc : Thread Cert.Reference3Ideal.nD Cert.Reference3Ideal.τ).loc Cert.Reference3Ideal.main_v37) = v7 c
          ∧ r.2.mem ((c.tc : Thread Cert.Reference3Ideal.nD Cert.Reference3Ideal.τ).loc Cert.Reference3Ideal.main_v38) = v8 c
          ∧ r.2.mem ((c.tc : Thread Cert.Reference3Ideal.nD Cert.Reference3Ideal.τ).loc Cert.Reference3Ideal.main_v39) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v3) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v11) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v43_0)) (v1 : (c : Dev Cert.Kernel5Ideal.nD) → Buf (Elt Ideal) ((c.tc : Thread Cert.Kernel5Ideal.nD Cert.Kernel5Ideal.τ).loc Cert.Kernel5Ideal.main_v43_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v43_0) = v0 c
          ∧ r.2.mem ((c.tc : Thread Cert.Kernel5Ideal.nD Cert.Kernel5Ideal.τ).loc Cert.Kernel5Ideal.main_v43_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v95) = v0 c
          ∧ r.2.mem ((c.tc : Thread Cert.Reference5Ideal.nD Cert.Reference5Ideal.τ).loc Cert.Reference5Ideal.main_v69) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S8192x8192 : Shape := ⟨2, ![8192, 8192]⟩
abbrev S2048 : Shape := ⟨1, ![2048]⟩
abbrev S16 : Shape := ⟨1, ![16]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S16x1x1 : Shape := ⟨3, ![16, 1, 1]⟩
abbrev S16x128x128 : Shape := ⟨3, ![16, 128, 128]⟩
abbrev S16x1 : Shape := ⟨2, ![16, 1]⟩
abbrev S16x128 : Shape := ⟨2, ![16, 128]⟩
abbrev S16x128x1 : Shape := ⟨3, ![16, 128, 1]⟩
abbrev S1x2048 : Shape := ⟨2, ![1, 2048]⟩
abbrev S8192x2048 : Shape := ⟨2, ![8192, 2048]⟩
abbrev S2x16x128x128 : Shape := ⟨4, ![2, 16, 128, 128]⟩
abbrev S1024x1024 : Shape := ⟨2, ![1024, 1024]⟩
abbrev S8x128x128 : Shape := ⟨3, ![8, 128, 128]⟩
abbrev S1x1024 : Shape := ⟨2, ![1, 1024]⟩
abbrev S1x8x128x128 : Shape := ⟨4, ![1, 8, 128, 128]⟩

abbrev nBuf : Space → Nat
  | .hbm => 66
  | .vmem => 23
  | .smem => 0
  | _ => 0

abbrev bufTy : (tb : Table) → Fin (tcTables nBuf tb) → BufTy
  | .hbm, ⟨0, _⟩ => ⟨S8192x8192, .f32⟩
  | .hbm, ⟨1, _⟩ => ⟨S2048, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S128, .f32⟩
  | .hbm, ⟨13, _⟩ => ⟨S128x1, .f32⟩
  | .hbm, ⟨14, _⟩ => ⟨S1x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S_, .f32⟩
  | .hbm, ⟨19, _⟩ => ⟨S128x128, .f32⟩
  | .hbm, ⟨20, _⟩ => ⟨S128x128, .i1⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S1x128x128, .f32⟩
  | .hbm, ⟨25, _⟩ => ⟨S16x1x1, .f32⟩
  | .hbm, ⟨26, _⟩ => ⟨S16x128x128, .f32⟩
  | .hbm, ⟨27, _⟩ => ⟨S16x128x128, .f32⟩
  | .hbm, ⟨28, _⟩ => ⟨S16x128x128, .f32⟩
  | .hbm, ⟨29, _⟩ => ⟨S16x128x128, .f32⟩
  | .hbm, ⟨30, _⟩ => ⟨S_, .f32⟩
  | .hbm, ⟨31, _⟩ => ⟨S_, .f32⟩
  | .hbm, ⟨32, _⟩ => ⟨S16x128x128, .i1⟩
  | .hbm, ⟨33, _⟩ => ⟨S16x128x128, .f32⟩
  | .hbm, ⟨34, _⟩ => ⟨S16x128x128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S16x1, .f32⟩
  | .hbm, ⟨40, _⟩ => ⟨S16x128, .f32⟩
  | .hbm, ⟨41, _⟩ => ⟨S16x128, .f32⟩
  | .hbm, ⟨42, _⟩ => ⟨S16x128, .f32⟩
  | .hbm, ⟨43, _⟩ => ⟨S16x128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S16x1, .f32⟩
  | .hbm, ⟨49, _⟩ => ⟨S16x128, .f32⟩
  | .hbm, ⟨50, _⟩ => ⟨S16x128, .f32⟩
  | .hbm, ⟨51, _⟩ => ⟨S16x128, .f32⟩
  | .hbm, ⟨52, _⟩ => ⟨S16x128, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S16, .f32⟩
  | .hbm, ⟨57, _⟩ => ⟨S16x128x1, .f32⟩
  | .hbm, ⟨58, _⟩ => ⟨S16x128x128, .f32⟩
  | .hbm, ⟨59, _⟩ => ⟨S16x128x1, .f32⟩
  | .hbm, ⟨60, _⟩ => ⟨S16x128x128, .f32⟩
  | .hbm, ⟨61, _⟩ => ⟨S16x1x1, .f32⟩
  | .hbm, ⟨62, _⟩ => ⟨S16x128x128, .f32⟩
  | .hbm, ⟨63, _⟩ => ⟨S1x2048, .f32⟩
  | .hbm, ⟨64, _⟩ => ⟨S8192x2048, .bf16⟩
  | .hbm, ⟨65, _⟩ => ⟨S2x16x128x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128x128, .f32⟩
  | .local _ .vmem, ⟨9, _⟩ => ⟨S8x128x128, .f32⟩
  | .local _ .vmem, ⟨10, _⟩ => ⟨S8x128x128, .f32⟩
  | .local _ .vmem, ⟨11, _⟩ => ⟨S8x128x128, .f32⟩
  | .local _ .vmem, ⟨12, _⟩ => ⟨S8x128x128, .f32⟩
  | .local _ .vmem, ⟨13, _⟩ => ⟨S8x128x128, .f32⟩
  | .local _ .vmem, ⟨14, _⟩ => ⟨S8x128x128, .f32⟩
  | .local _ .vmem, ⟨15, _⟩ => ⟨S8x128x128, .f32⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S1024x1024, .bf16⟩
  | .local _ .vmem, ⟨20, _⟩ => ⟨S1x8x128x128, .f32⟩
  | .local _ .vmem, ⟨21, _⟩ => ⟨S1x8x128x128, .f32⟩
  | .local _ .vmem, ⟨22, _⟩ => ⟨S8x128x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51_0 : Ref sig .tc := ⟨.hbm, 64, rfl⟩
abbrev main_v51_1 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 4], ![false, false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg15 : BitVec 32 := Scf.iv c0_i32_1 c1_i32 k0_t1
  let c128_i32 : BitVec 32 := 128#32
  let v7 : BitVec 32 := Scalar.muli arg15 c128_i32
  v7
def k0_off1 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c128_i32 : BitVec 32 := 128#32
  let v7 : BitVec 32 := Scalar.muli arg15 c128_i32
  let v8 : BitVec 32 := v7
  let v9 : Index := Scalar.indexCast v8
  let c0 : Index := 0#32
  ![v9.toNat, 0]
def k0_off2 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c128_i32 : BitVec 32 := 128#32
  let v7 : BitVec 32 := Scalar.muli arg15 c128_i32
  let v8 : BitVec 32 := v7
  let v84 : Index := Scalar.indexCast v8
  let c128 : Index := 128#32
  ![v84.toNat, 128]
def k0_off3 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c128_i32 : BitVec 32 := 128#32
  let v7 : BitVec 32 := Scalar.muli arg15 c128_i32
  let v8 : BitVec 32 := v7
  let v159 : Index := Scalar.indexCast v8
  let c256 : Index := 256#32
  ![v159.toNat, 256]
def k0_off4 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c128_i32 : BitVec 32 := 128#32
  let v7 : BitVec 32 := Scalar.muli arg15 c128_i32
  let v8 : BitVec 32 := v7
  let v234 : Index := Scalar.indexCast v8
  let c384 : Index := 384#32
  ![v234.toNat, 384]
def k0_off5 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c128_i32 : BitVec 32 := 128#32
  let v7 : BitVec 32 := Scalar.muli arg15 c128_i32
  let v8 : BitVec 32 := v7
  let v309 : Index := Scalar.indexCast v8
  let c512 : Index := 512#32
  ![v309.toNat, 512]
def k0_off6 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c128_i32 : BitVec 32 := 128#32
  let v7 : BitVec 32 := Scalar.muli arg15 c128_i32
  let v8 : BitVec 32 := v7
  let v384 : Index := Scalar.indexCast v8
  let c640 : Index := 640#32
  ![v384.toNat, 640]
def k0_off7 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c128_i32 : BitVec 32 := 128#32
  let v7 : BitVec 32 := Scalar.muli arg15 c128_i32
  let v8 : BitVec 32 := v7
  let v459 : Index := Scalar.indexCast v8
  let c768 : Index := 768#32
  ![v459.toNat, 768]
def k0_off8 (k0_t1 : Fin k0_t1_loop.trips) : Fin 2 → Nat :=
  let c0_i32_1 : BitVec 32 := 0#32
  let c1_i32 : BitVec 32 := 1#32
  let arg15 : BitVec 32 := Scf.iv c0_i32_1 c1_i32 k0_t1
  let c128_i32 : BitVec 32 := 128#32
  let v7 : BitVec 32 := Scalar.muli arg15 c128_i32
  let v8 : BitVec 32 := v7
  let v534 : Index := Scalar.indexCast v8
  let c896 : Index := 896#32
  ![v534.toNat, 896]
def k0_cond2 (i : grid0.Coords) : BitVec 1 :=
  let arg2 : BitVec 32 := BitVec.ofNat 32 (i 2).val
  let c3_i32 : BitVec 32 := 3#32
  let v4 : BitVec 1 := Scalar.cmpi .eq arg2 c3_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceIdeal.lean ====
abbrev S8192x8192 : Shape := ⟨2, ![8192, 8192]⟩
abbrev S2048 : Shape := ⟨1, ![2048]⟩
abbrev S2x4096x8192 : Shape := ⟨3, ![2, 4096, 8192]⟩
abbrev S2x4096x2048 : Shape := ⟨3, ![2, 4096, 2048]⟩
abbrev S2x4096x16x128 : Shape := ⟨4, ![2, 4096, 16, 128]⟩
abbrev S16 : Shape := ⟨1, ![16]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S16x1x1 : Shape := ⟨3, ![16, 1, 1]⟩
abbrev S16x128x128 : Shape := ⟨3, ![16, 128, 128]⟩
abbrev S1x16 : Shape := ⟨2, ![1, 16]⟩
abbrev S128x16 : Shape := ⟨2, ![128, 16]⟩
abbrev S2x32x128x16x128 : Shape := ⟨5, ![2, 32, 128, 16, 128]⟩
abbrev S32x2x128x16x128 : Shape := ⟨5, ![32, 2, 128, 16, 128]⟩
abbrev S2x16x128x128 : Shape := ⟨4, ![2, 16, 128, 128]⟩
abbrev S1x2x128x16x128 : Shape := ⟨5, ![1, 2, 128, 16, 128]⟩
abbrev S2x128x16x128 : Shape := ⟨4, ![2, 128, 16, 128]⟩
abbrev S1x16x128x128 : Shape := ⟨4, ![1, 16, 128, 128]⟩
abbrev S1x128x16x1 : Shape := ⟨4, ![1, 128, 16, 1]⟩
abbrev S1x16x1x1 : Shape := ⟨4, ![1, 16, 1, 1]⟩
abbrev S2x4096x16 : Shape := ⟨3, ![2, 4096, 16]⟩
abbrev S2x4096x16x1 : Shape := ⟨4, ![2, 4096, 16, 1]⟩
abbrev S1x1x2048 : Shape := ⟨3, ![1, 1, 2048]⟩
abbrev S8192x2048 : Shape := ⟨2, ![8192, 2048]⟩

abbrev nBuf : Space → Nat
  | .hbm => 178
  | .vmem => 0
  | .smem => 0
  | _ => 0

abbrev hbmTy0_0 (i : Nat) : BufTy := match i % 128 with
  | 0 => ⟨S8192x8192, .f32⟩
  | 1 => ⟨S2048, .f32⟩
  | 2 => ⟨S2x4096x8192, .f32⟩
  | 3 => ⟨S2x4096x2048, .f32⟩
  | 4 => ⟨S2x4096x2048, .f32⟩
  | 5 => ⟨S2x4096x2048, .f32⟩
  | 6 => ⟨S2x4096x2048, .f32⟩
  | 7 => ⟨S2x4096x16x128, .f32⟩
  | 8 => ⟨S2x4096x16x128, .f32⟩
  | 9 => ⟨S2x4096x16x128, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S16, .f32⟩
  | 19 => ⟨S16, .f32⟩
  | 20 => ⟨S128, .f32⟩
  | 21 => ⟨S128x1, .f32⟩
  | 22 => ⟨S1x128, .f32⟩
  | 23 => ⟨S128x128, .f32⟩
  | 24 => ⟨S128x128, .f32⟩
  | 25 => ⟨S128x128, .f32⟩
  | 26 => ⟨S_, .f32⟩
  | 27 => ⟨S128x128, .f32⟩
  | 28 => ⟨S128x128, .i1⟩
  | 29 => ⟨S_, .f32⟩
  | 30 => ⟨S128x128, .f32⟩
  | 31 => ⟨S128x128, .f32⟩
  | 32 => ⟨S1x128x128, .f32⟩
  | 33 => ⟨S16x1x1, .f32⟩
  | 34 => ⟨S16x128x128, .f32⟩
  | 35 => ⟨S16x128x128, .f32⟩
  | 36 => ⟨S16x128x128, .f32⟩
  | 37 => ⟨S16x128x128, .f32⟩
  | 38 => ⟨S_, .f32⟩
  | 39 => ⟨S_, .f32⟩
  | 40 => ⟨S16x128x128, .i1⟩
  | 41 => ⟨S16x128x128, .f32⟩
  | 42 => ⟨S16x128x128, .f32⟩
  | 43 => ⟨S128x1, .f32⟩
  | 44 => ⟨S_, .f32⟩
  | 45 => ⟨S128x1, .f32⟩
  | 46 => ⟨S128x1, .f32⟩
  | 47 => ⟨S1x16, .f32⟩
  | 48 => ⟨S128x16, .f32⟩
  | 49 => ⟨S128x16, .f32⟩
  | 50 => ⟨S128x16, .f32⟩
  | 51 => ⟨S128x16, .f32⟩
  | 52 => ⟨S_, .f32⟩
  | 53 => ⟨S128, .f32⟩
  | 54 => ⟨S128, .f32⟩
  | 55 => ⟨S128x1, .f32⟩
  | 56 => ⟨S1x16, .f32⟩
  | 57 => ⟨S128x16, .f32⟩
  | 58 => ⟨S128x16, .f32⟩
  | 59 => ⟨S128x16, .f32⟩
  | 60 => ⟨S128x16, .f32⟩
  | 61 => ⟨S_, .f32⟩
  | 62 => ⟨S16, .f32⟩
  | 63 => ⟨S16, .f32⟩
  | 64 => ⟨S16, .f32⟩
  | 65 => ⟨S2x32x128x16x128, .f32⟩
  | 66 => ⟨S32x2x128x16x128, .f32⟩
  | 67 => ⟨S_, .f32⟩
  | 68 => ⟨S2x4096x16x128, .f32⟩
  | 69 => ⟨S2x4096x16x128, .f32⟩
  | 70 => ⟨S2x32x128x16x128, .f32⟩
  | 71 => ⟨S32x2x128x16x128, .f32⟩
  | 72 => ⟨S2x32x128x16x128, .f32⟩
  | 73 => ⟨S32x2x128x16x128, .f32⟩
  | 74 => ⟨S_, .f32⟩
  | 75 => ⟨S2x16x128x128, .f32⟩
  | 76 => ⟨S_, .f32⟩
  | 77 => ⟨S32x2x128x16x128, .f32⟩
  | 78 => ⟨S_, .i32⟩
  | 79 => ⟨S32x2x128x16x128, .f32⟩
  | 80 => ⟨S32x2x128x16x128, .f32⟩
  | 81 => ⟨S32x2x128x16x128, .f32⟩
  | 82 => ⟨S16x128x128, .f32⟩
  | 83 => ⟨S128x16, .f32⟩
  | 84 => ⟨S16, .f32⟩
  | 85 => ⟨S128x16, .f32⟩
  | 86 => ⟨S_, .i32⟩
  | 87 => ⟨S2x16x128x128, .f32⟩
  | 88 => ⟨S32x2x128x16x128, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S1x2x128x16x128, .f32⟩
  | 96 => ⟨S2x128x16x128, .f32⟩
  | 97 => ⟨S_, .i32⟩
  | 98 => ⟨S_, .i32⟩
  | 99 => ⟨S_, .i32⟩
  | 100 => ⟨S_, .i32⟩
  | 101 => ⟨S1x2x128x16x128, .f32⟩
  | 102 => ⟨S2x128x16x128, .f32⟩
  | 103 => ⟨S_, .i32⟩
  | 104 => ⟨S_, .i32⟩
  | 105 => ⟨S_, .i32⟩
  | 106 => ⟨S_, .i32⟩
  | 107 => ⟨S1x2x128x16x128, .f32⟩
  | 108 => ⟨S2x128x16x128, .f32⟩
  | 109 => ⟨S2x16x128x128, .f32⟩
  | 110 => ⟨S1x16x128x128, .f32⟩
  | 111 => ⟨S2x16x128x128, .f32⟩
  | 112 => ⟨S2x16x128x128, .f32⟩
  | 113 => ⟨S2x16x128x128, .f32⟩
  | 114 => ⟨S2x128x16x128, .f32⟩
  | 115 => ⟨S1x128x16x1, .f32⟩
  | 116 => ⟨S2x128x16x128, .f32⟩
  | 117 => ⟨S2x128x16x128, .f32⟩
  | 118 => ⟨S2x16x128x128, .f32⟩
  | 119 => ⟨S2x128x16x128, .f32⟩
  | 120 => ⟨S2x128x16x128, .f32⟩
  | 121 => ⟨S1x16x1x1, .f32⟩
  | 122 => ⟨S2x16x128x128, .f32⟩
  | 123 => ⟨S2x16x128x128, .f32⟩
  | 124 => ⟨S1x128x16x1, .f32⟩
  | 125 => ⟨S2x128x16x128, .f32⟩
  | 126 => ⟨S2x128x16x128, .f32⟩
  | 127 => ⟨S2x16x128x128, .f32⟩
  | _ => ⟨S8192x8192, .f32⟩

abbrev hbmTy0_1 (i : Nat) : BufTy := match i % 128 with
  | 0 => ⟨S2x16x128x128, .f32⟩
  | 1 => ⟨S1x2x128x16x128, .f32⟩
  | 2 => ⟨S_, .i32⟩
  | 3 => ⟨S_, .i32⟩
  | 4 => ⟨S_, .i32⟩
  | 5 => ⟨S_, .i32⟩
  | 6 => ⟨S32x2x128x16x128, .f32⟩
  | 7 => ⟨S_, .i32⟩
  | 8 => ⟨S_, .i32⟩
  | 9 => ⟨S2x32x128x16x128, .f32⟩
  | 10 => ⟨S2x4096x16x128, .f32⟩
  | 11 => ⟨S_, .f32⟩
  | 12 => ⟨S2x4096x16, .f32⟩
  | 13 => ⟨S2x4096x16x1, .f32⟩
  | 14 => ⟨S_, .f32⟩
  | 15 => ⟨S2x4096x16x1, .f32⟩
  | 16 => ⟨S2x4096x16x1, .f32⟩
  | 17 => ⟨S2x4096x16x128, .f32⟩
  | 18 => ⟨S2x4096x16x128, .f32⟩
  | 19 => ⟨S2x4096x16x128, .f32⟩
  | 20 => ⟨S_, .f32⟩
  | 21 => ⟨S2x4096x16, .f32⟩
  | 22 => ⟨S2x4096x16x1, .f32⟩
  | 23 => ⟨S_, .f32⟩
  | 24 => ⟨S2x4096x16x1, .f32⟩
  | 25 => ⟨S2x4096x16x1, .f32⟩
  | 26 => ⟨S2x4096x16x128, .f32⟩
  | 27 => ⟨S2x4096x16x128, .f32⟩
  | 28 => ⟨S_, .f32⟩
  | 29 => ⟨S2x4096x16x1, .f32⟩
  | 30 => ⟨S2x4096x16x1, .f32⟩
  | 31 => ⟨S2x4096x16x1, .f32⟩
  | 32 => ⟨S2x4096x16x128, .f32⟩
  | 33 => ⟨S2x4096x16x128, .f32⟩
  | 34 => ⟨S2x4096x2048, .f32⟩
  | 35 => ⟨S1x1x2048, .f32⟩
  | 36 => ⟨S2x4096x2048, .f32⟩
  | 37 => ⟨S2x4096x2048, .f32⟩
  | 38 => ⟨S2x4096x2048, .f32⟩
  | 39 => ⟨S2x4096x2048, .f32⟩
  | 40 => ⟨S_, .f32⟩
  | 41 => ⟨S2x4096x2048, .f32⟩
  | 42 => ⟨S2x4096x2048, .f32⟩
  | 43 => ⟨S_, .f32⟩
  | 44 => ⟨S2x4096x2048, .f32⟩
  | 45 => ⟨S2x4096x2048, .f32⟩
  | 46 => ⟨S2x4096x2048, .f32⟩
  | 47 => ⟨S2x4096x2048, .f32⟩
  | 48 => ⟨S8192x2048, .f32⟩
  | 49 => ⟨S8192x2048, .bf16⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_7 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_c : Ref sig .tc := ⟨.hbm, 78, rfl⟩
abbrev main_v62_0 : Ref sig .tc := ⟨.hbm, 79, rfl⟩
abbrev main_v62_1 : Ref sig .tc := ⟨.hbm, 80, rfl⟩
abbrev main_v62_2 : Ref sig .tc := ⟨.hbm, 81, rfl⟩
abbrev main_v62_3 : Ref sig .tc := ⟨.hbm, 82, rfl⟩
abbrev main_v62_4 : Ref sig .tc := ⟨.hbm, 83, rfl⟩
abbrev main_v62_5 : Ref sig .tc := ⟨.hbm, 84, rfl⟩
abbrev main_v62_6 : Ref sig .tc := ⟨.hbm, 85, rfl⟩
abbrev main_v62_7 : Ref sig .tc := ⟨.hbm, 86, rfl⟩
abbrev main_v62_8 : Ref sig .tc := ⟨.hbm, 87, rfl⟩
abbrev main_v62_9 : Ref sig .tc := ⟨.hbm, 88, rfl⟩
abbrev main_while0c_c_24 : Ref sig .tc := ⟨.hbm, 89, rfl⟩
abbrev main_while0c_v91 : Ref sig .tc := ⟨.hbm, 90, rfl⟩
abbrev main_while0b_call1_c : Ref sig .tc := ⟨.hbm, 91, rfl⟩
abbrev main_while0b_call1_c_0 : Ref sig .tc := ⟨.hbm, 92, rfl⟩
abbrev main_while0b_call1_c_1 : Ref sig .tc := ⟨.hbm, 93, rfl⟩
abbrev main_while0b_call1_c_2 : Ref sig .tc := ⟨.hbm, 94, rfl⟩
abbrev main_while0b_call1_v0 : Ref sig .tc := ⟨.hbm, 95, rfl⟩
abbrev main_while0b_v91 : Ref sig .tc := ⟨.hbm, 96, rfl⟩
abbrev main_while0b_call2_c : Ref sig .tc := ⟨.hbm, 97, rfl⟩
abbrev main_while0b_call2_c_0 : Ref sig .tc := ⟨.hbm, 98, rfl⟩
abbrev main_while0b_call2_c_1 : Ref sig .tc := ⟨.hbm, 99, rfl⟩
abbrev main_while0b_call2_c_2 : Ref sig .tc := ⟨.hbm, 100, rfl⟩
abbrev main_while0b_call2_v0 : Ref sig .tc := ⟨.hbm, 101, rfl⟩
abbrev main_while0b_v92 : Ref sig .tc := ⟨.hbm, 102, rfl⟩
abbrev main_while0b_call3_c : Ref sig .tc := ⟨.hbm, 103, rfl⟩
abbrev main_while0b_call3_c_0 : Ref sig .tc := ⟨.hbm, 104, rfl⟩
abbrev main_while0b_call3_c_1 : Ref sig .tc := ⟨.hbm, 105, rfl⟩
abbrev main_while0b_call3_c_2 : Ref sig .tc := ⟨.hbm, 106, rfl⟩
abbrev main_while0b_call3_v0 : Ref sig .tc := ⟨.hbm, 107, rfl⟩
abbrev main_while0b_v93 : Ref sig .tc := ⟨.hbm, 108, rfl⟩
abbrev main_while0b_v94 : Ref sig .tc := ⟨.hbm, 109, rfl⟩
abbrev main_while0b_v95 : Ref sig .tc := ⟨.hbm, 110, rfl⟩
abbrev main_while0b_v96 : Ref sig .tc := ⟨.hbm, 111, rfl⟩
abbrev main_while0b_v97 : Ref sig .tc := ⟨.hbm, 112, rfl⟩
abbrev main_while0b_v98 : Ref sig .tc := ⟨.hbm, 113, rfl⟩
abbrev main_while0b_v99 : Ref sig .tc := ⟨.hbm, 114, rfl⟩
abbrev main_while0b_v100 : Ref sig .tc := ⟨.hbm, 115, rfl⟩
abbrev main_while0b_v101 : Ref sig .tc := ⟨.hbm, 116, rfl⟩
abbrev main_while0b_v102 : Ref sig .tc := ⟨.hbm, 117, rfl⟩
abbrev main_while0b_v103 : Ref sig .tc := ⟨.hbm, 118, rfl⟩
abbrev main_while0b_v104 : Ref sig .tc := ⟨.hbm, 119, rfl⟩
abbrev main_while0b_v105 : Ref sig .tc := ⟨.hbm, 120, rfl⟩
abbrev main_while0b_v106 : Ref sig .tc := ⟨.hbm, 121, rfl⟩
abbrev main_while0b_v107 : Ref sig .tc := ⟨.hbm, 122, rfl⟩
abbrev main_while0b_v108 : Ref sig .tc := ⟨.hbm, 123, rfl⟩
abbrev main_while0b_v109 : Ref sig .tc := ⟨.hbm, 124, rfl⟩
abbrev main_while0b_v110 : Ref sig .tc := ⟨.hbm, 125, rfl⟩
abbrev main_while0b_v111 : Ref sig .tc := ⟨.hbm, 126, rfl⟩
abbrev main_while0b_v112 : Ref sig .tc := ⟨.hbm, 127, rfl⟩
abbrev main_while0b_v113 : Ref sig .tc := ⟨.hbm, 128, rfl⟩
abbrev main_while0b_call4_v0 : Ref sig .tc := ⟨.hbm, 129, rfl⟩
abbrev main_while0b_call4_c : Ref sig .tc := ⟨.hbm, 130, rfl⟩
abbrev main_while0b_call4_c_0 : Ref sig .tc := ⟨.hbm, 131, rfl⟩
abbrev main_while0b_call4_c_1 : Ref sig .tc := ⟨.hbm, 132, rfl⟩
abbrev main_while0b_call4_c_2 : Ref sig .tc := ⟨.hbm, 133, rfl⟩
abbrev main_while0b_v114 : Ref sig .tc := ⟨.hbm, 134, rfl⟩
abbrev main_while0b_c_24 : Ref sig .tc := ⟨.hbm, 135, rfl⟩
abbrev main_while0b_v115 : Ref sig .tc := ⟨.hbm, 136, rfl⟩
abbrev main_v63 : Ref sig .tc := ⟨.hbm, 137, rfl⟩
abbrev main_v64 : Ref sig .tc := ⟨.hbm, 138, rfl⟩
abbrev main_cst_10 : Ref sig .tc := ⟨.hbm, 139, rfl⟩
abbrev main_v65 : Ref sig .tc := ⟨.hbm, 140, rfl⟩
abbrev main_v66 : Ref sig .tc := ⟨.hbm, 141, rfl⟩
abbrev main_cst_11 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_cst_12 : Ref sig .tc := ⟨.hbm, 148, rfl⟩
abbrev main_v72 : Ref sig .tc := ⟨.hbm, 149, rfl⟩
abbrev main_v73 : Ref sig .tc := ⟨.hbm, 150, rfl⟩
abbrev main_cst_13 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_cst_14 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_call5_v0 : Ref sig .tc := ⟨.hbm, 166, rfl⟩
abbrev main_call5_v1 : Ref sig .tc := ⟨.hbm, 167, rfl⟩
abbrev main_call5_cst : Ref sig .tc := ⟨.hbm, 168, rfl⟩
abbrev main_call5_v2 : Ref sig .tc := ⟨.hbm, 169, rfl⟩
abbrev main_call5_v3 : Ref sig .tc := ⟨.hbm, 170, rfl⟩
abbrev main_call5_cst_0 : Ref sig .tc := ⟨.hbm, 171, rfl⟩
abbrev main_call5_v4 : Ref sig .tc := ⟨.hbm, 172, rfl⟩
abbrev main_call5_v5 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8192x4096 : Shape := ⟨2, ![8192, 4096]⟩
abbrev S32x4096 : Shape := ⟨2, ![32, 4096]⟩
abbrev S4096 : Shape := ⟨1, ![4096]⟩
abbrev S1x2x4096x11008 : Shape := ⟨4, ![1, 2, 4096, 11008]⟩
abbrev S1x2x11008x4096 : Shape := ⟨4, ![1, 2, 11008, 4096]⟩
abbrev S1x4096 : Shape := ⟨2, ![1, 4096]⟩
abbrev S1x1x4096x256 : Shape := ⟨4, ![1, 1, 4096, 256]⟩
abbrev S1x1x256x4096 : Shape := ⟨4, ![1, 1, 256, 4096]⟩
abbrev S1024x4096 : Shape := ⟨2, ![1024, 4096]⟩
abbrev S1056x4096 : Shape := ⟨2, ![1056, 4096]⟩
abbrev S2 : Shape := ⟨1, ![2]⟩
abbrev S1 : Shape := ⟨1, ![1]⟩
abbrev S_ : Shape := ⟨0, ![]⟩
abbrev S64x4096 : Shape := ⟨2, ![64, 4096]⟩
abbrev S64 : Shape := ⟨1, ![64]⟩
abbrev S64x1 : Shape := ⟨2, ![64, 1]⟩
abbrev S32 : Shape := ⟨1, ![32]⟩
abbrev S32x1 : Shape := ⟨2, ![32, 1]⟩
abbrev S4096x256 : Shape := ⟨2, ![4096, 256]⟩
abbrev S1056x256 : Shape := ⟨2, ![1056, 256]⟩
abbrev S1024x256 : Shape := ⟨2, ![1024, 256]⟩
abbrev S256x4096 : Shape := ⟨2, ![256, 4096]⟩
abbrev S32x256 : Shape := ⟨2, ![32, 256]⟩

abbrev nBuf : Space → Nat
  | .hbm => 9
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S32x4096, .f32⟩
  | .hbm, ⟨2, _⟩ => ⟨S4096, .f32⟩
  | .hbm, ⟨3, _⟩ => ⟨S1x2x4096x11008, .f32⟩
  | .hbm, ⟨4, _⟩ => ⟨S1x2x4096x11008, .f32⟩
  | .hbm, ⟨5, _⟩ => ⟨S1x2x11008x4096, .f32⟩
  | .hbm, ⟨6, _⟩ => ⟨S1x4096, .f32⟩
  | .hbm, ⟨7, _⟩ => ⟨S8192x4096, .f32⟩
  | .hbm, ⟨8, _⟩ => ⟨S32x4096, .f32⟩
  | .local _ .vmem, ⟨0, _⟩ => ⟨S1x4096, .f32⟩
  | .local _ .vmem, ⟨1, _⟩ => ⟨S1x1x4096x256, .f32⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x256x4096, .f32⟩
  | .local _ .vmem, ⟨6, _⟩ => ⟨S1x1x256x4096, .f32⟩
  | .local _ .vmem, ⟨7, _⟩ => ⟨S1024x4096, .f32⟩
  | .local _ .vmem, ⟨8, _⟩ => ⟨S32x4096, .f32⟩
  | .local _ .vmem, ⟨9, _⟩ => ⟨S1056x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![8, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1024_i32 : BitVec 32 := 1024#32
  let v14 : BitVec 32 := Scalar.muli arg0 c1024_i32
  v14
def k0_off1 (i : grid0.Coords) : Fin 2 → Nat :=
  let arg0 : BitVec 32 := BitVec.ofNat 32 (i 0).val
  let c1024_i32 : BitVec 32 := 1024#32
  let v14 : BitVec 32 := Scalar.muli arg0 c1024_i32
  let v15 : BitVec 32 := v14
  let c0_i32_9 : BitVec 32 := 0#32
  ![v15.toNat, 0]
@[reducible] def k0_t1_loop : Scf.Loop 32 :=
  let c0_i32_12 : BitVec 32 := 0#32
  let c16_i32 : BitVec 32 := 16#32
  let v22 : BitVec 32 := Scalar.addi c0_i32_12 c16_i32
  let c1_i32 : BitVec 32 := 1#32
  ⟨c0_i32_12, v22, c1_i32⟩
def k0_mult2 (k0_t1 : Fin k0_t1_loop.trips) : BitVec 32 :=
  let c0_i32_12 : BitVec 32 := 0#32
  let c1_i32 : BitVec 32 := 1#32
  let arg12 : BitVec 32 := Scf.iv c0_i32_12 c1_i32 k0_t1
  let c64_i32 : BitVec 32 := 64#32
  let v23 : BitVec 32 := Scalar.muli arg12 c64_i32
  v23
def k0_off2 (k0_t1 : Fin k0_t1_loop.trips) : Fin 2 → Nat :=
  let c0_i32_12 : BitVec 32 := 0#32
  let c1_i32 : BitVec 32 := 1#32
  let arg12 : BitVec 32 := Scf.iv c0_i32_12 c1_i32 k0_t1
  let c64_i32 : BitVec 32 := 64#32
  let v23 : BitVec 32 := Scalar.muli arg12 c64_i32
  let v24 : BitVec 32 := v23
  let v25 : Index := Scalar.indexCast v24
  let c0 : Index := 0#32
  ![v25.toNat, 0]
def k0_off3 (k0_t1 : Fin k0_t1_loop.trips) : Fin 2 → Nat :=
  let c0_i32_18 : BitVec 32 := 0#32
  let c0_i32_12 : BitVec 32 := 0#32
  let c1_i32 : BitVec 32 := 1#32
  let arg12 : BitVec 32 := Scf.iv c0_i32_12 c1_i32 k0_t1
  let c64_i32 : BitVec 32 := 64#32
  let v23 : BitVec 32 := Scalar.muli arg12 c64_i32
  let v24 : BitVec 32 := v23
  let v43 : BitVec 32 := Scalar.addi c0_i32_18 v24
  let v44 : Index := Scalar.indexCast v43
  let c0_19 : Index := 0#32
  ![v44.toNat, 0]
def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_mult3 : BitVec 32 :=
  let c0_i32_9 : BitVec 32 := 0#32
  let c32_i32 : BitVec 32 := 32#32
  let v18 : BitVec 32 := Scalar.muli c0_i32_9 c32_i32
  v18
def k0_off4 : Fin 2 → Nat :=
  let c0_i32_9 : BitVec 32 := 0#32
  let c32_i32 : BitVec 32 := 32#32
  let v18 : BitVec 32 := Scalar.muli c0_i32_9 c32_i32
  let v19 : BitVec 32 := v18
  let v20 : Index := Scalar.indexCast v19
  let c0 : Index := 0#32
  ![v20.toNat, 0]
def k0_off5 : Fin 2 → Nat :=
  let c1024_i32 : BitVec 32 := 1024#32
  let c0_i32_9 : BitVec 32 := 0#32
  let c32_i32 : BitVec 32 := 32#32
  let v18 : BitVec 32 := Scalar.muli c0_i32_9 c32_i32
  let v19 : BitVec 32 := v18
  let v38 : BitVec 32 := Scalar.addi c1024_i32 v19
  let v39 : Index := Scalar.indexCast v38
  let c0_14 : Index := 0#32
  ![v39.toNat, 0]
def k0_cond3 (i : grid0.Coords) : BitVec 1 :=
  let arg0 : BitVec 32 := BitVec.ofNat 32 (i 0).val
  let c0_i32_4 : BitVec 32 := 0#32
  let v8 : BitVec 1 := Scalar.cmpi .eq arg0 c0_i32_4
  let v9 : BitVec 32 := Scalar.extui v8
  let c0_i32_5 : BitVec 32 := 0#32
  let v10 : BitVec 1 := Scalar.cmpi .ne v9 c0_i32_5
  v10

def k0_cond4 (i : grid0.Coords) : BitVec 1 :=
  let arg0 : BitVec 32 := BitVec.ofNat 32 (i 0).val
  let c0_i32_6 : BitVec 32 := 0#32
  let v11 : BitVec 1 := Scalar.cmpi .ne arg0 c0_i32_6
  let v12 : BitVec 32 := Scalar.extui v11
  let c0_i32_7 : BitVec 32 := 0#32
  let v13 : BitVec 1 := Scalar.cmpi .ne v12 c0_i32_7
  v13

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S32x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference2Ideal.lean ====
abbrev S8192x4096 : Shape := ⟨2, ![8192, 4096]⟩
abbrev S32x4096 : Shape := ⟨2, ![32, 4096]⟩
abbrev S4096 : Shape := ⟨1, ![4096]⟩
abbrev S1x2x4096x11008 : Shape := ⟨4, ![1, 2, 4096, 11008]⟩
abbrev S1x2x11008x4096 : Shape := ⟨4, ![1, 2, 11008, 4096]⟩
abbrev S1x1x4096x11008 : Shape := ⟨4, ![1, 1, 4096, 11008]⟩
abbrev S4096x11008 : Shape := ⟨2, ![4096, 11008]⟩
abbrev S1x1x11008x4096 : Shape := ⟨4, ![1, 1, 11008, 4096]⟩
abbrev S11008x4096 : Shape := ⟨2, ![11008, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x11008 : Shape := ⟨2, ![8192, 11008]⟩
abbrev S32 : Shape := ⟨1, ![32]⟩
abbrev S32x1 : Shape := ⟨2, ![32, 1]⟩
abbrev S32x11008 : Shape := ⟨2, ![32, 11008]⟩

abbrev nBuf : Space → Nat
  | .hbm => 78
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S32x4096, .f32⟩
  | .hbm, ⟨2, _⟩ => ⟨S4096, .f32⟩
  | .hbm, ⟨3, _⟩ => ⟨S1x2x4096x11008, .f32⟩
  | .hbm, ⟨4, _⟩ => ⟨S1x2x4096x11008, .f32⟩
  | .hbm, ⟨5, _⟩ => ⟨S1x2x11008x4096, .f32⟩
  | .hbm, ⟨6, _⟩ => ⟨S1x1x4096x11008, .f32⟩
  | .hbm, ⟨7, _⟩ => ⟨S4096x11008, .f32⟩
  | .hbm, ⟨8, _⟩ => ⟨S1x1x4096x11008, .f32⟩
  | .hbm, ⟨9, _⟩ => ⟨S4096x11008, .f32⟩
  | .hbm, ⟨10, _⟩ => ⟨S1x1x11008x4096, .f32⟩
  | .hbm, ⟨11, _⟩ => ⟨S11008x4096, .f32⟩
  | .hbm, ⟨12, _⟩ => ⟨S8192x4096, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x4096, .f32⟩
  | .hbm, ⟨24, _⟩ => ⟨S8192x4096, .f32⟩
  | .hbm, ⟨25, _⟩ => ⟨S1x4096, .f32⟩
  | .hbm, ⟨26, _⟩ => ⟨S8192x4096, .f32⟩
  | .hbm, ⟨27, _⟩ => ⟨S8192x4096, .f32⟩
  | .hbm, ⟨28, _⟩ => ⟨S8192x11008, .f32⟩
  | .hbm, ⟨29, _⟩ => ⟨S8192x11008, .f32⟩
  | .hbm, ⟨30, _⟩ => ⟨S8192x11008, .f32⟩
  | .hbm, ⟨31, _⟩ => ⟨S_, .f32⟩
  | .hbm, ⟨32, _⟩ => ⟨S8192x11008, .f32⟩
  | .hbm, ⟨33, _⟩ => ⟨S8192x11008, .f32⟩
  | .hbm, ⟨34, _⟩ => ⟨S_, .f32⟩
  | .hbm, ⟨35, _⟩ => ⟨S8192x11008, .f32⟩
  | .hbm, ⟨36, _⟩ => ⟨S8192x11008, .f32⟩
  | .hbm, ⟨37, _⟩ => ⟨S8192x11008, .f32⟩
  | .hbm, ⟨38, _⟩ => ⟨S8192x11008, .f32⟩
  | .hbm, ⟨39, _⟩ => ⟨S8192x11008, .f32⟩
  | .hbm, ⟨40, _⟩ => ⟨S8192x4096, .f32⟩
  | .hbm, ⟨41, _⟩ => ⟨S_, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S32x4096, .f32⟩
  | .hbm, ⟨46, _⟩ => ⟨S_, .f32⟩
  | .hbm, ⟨47, _⟩ => ⟨S32, .f32⟩
  | .hbm, ⟨48, _⟩ => ⟨S32x1, .f32⟩
  | .hbm, ⟨49, _⟩ => ⟨S_, .f32⟩
  | .hbm, ⟨50, _⟩ => ⟨S32x1, .f32⟩
  | .hbm, ⟨51, _⟩ => ⟨S32x1, .f32⟩
  | .hbm, ⟨52, _⟩ => ⟨S_, .f32⟩
  | .hbm, ⟨53, _⟩ => ⟨S32x1, .f32⟩
  | .hbm, ⟨54, _⟩ => ⟨S32x1, .f32⟩
  | .hbm, ⟨55, _⟩ => ⟨S32x1, .f32⟩
  | .hbm, ⟨56, _⟩ => ⟨S32x4096, .f32⟩
  | .hbm, ⟨57, _⟩ => ⟨S32x4096, .f32⟩
  | .hbm, ⟨58, _⟩ => ⟨S1x4096, .f32⟩
  | .hbm, ⟨59, _⟩ => ⟨S32x4096, .f32⟩
  | .hbm, ⟨60, _⟩ => ⟨S32x4096, .f32⟩
  | .hbm, ⟨61, _⟩ => ⟨S32x11008, .f32⟩
  | .hbm, ⟨62, _⟩ => ⟨S32x11008, .f32⟩
  | .hbm, ⟨63, _⟩ => ⟨S32x11008, .f32⟩
  | .hbm, ⟨64, _⟩ => ⟨S_, .f32⟩
  | .hbm, ⟨65, _⟩ => ⟨S32x11008, .f32⟩
  | .hbm, ⟨66, _⟩ => ⟨S32x11008, .f32⟩
  | .hbm, ⟨67, _⟩ => ⟨S_, .f32⟩
  | .hbm, ⟨68, _⟩ => ⟨S32x11008, .f32⟩
  | .hbm, ⟨69, _⟩ => ⟨S32x11008, .f32⟩
  | .hbm, ⟨70, _⟩ => ⟨S32x11008, .f32⟩
  | .hbm, ⟨71, _⟩ => ⟨S32x11008, .f32⟩
  | .hbm, ⟨72, _⟩ => ⟨S32x11008, .f32⟩
  | .hbm, ⟨73, _⟩ => ⟨S32x4096, .f32⟩
  | .hbm, ⟨74, _⟩ => ⟨S_, .f32⟩
  | .hbm, ⟨75, _⟩ => ⟨S32x4096, .f32⟩
  | .hbm, ⟨76, _⟩ => ⟨S32x4096, .f32⟩
  | .hbm, ⟨77, _⟩ => ⟨S32x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩

abbrev nD : Nat := 1
abbrev τ : Topo := Topo.v7x

variable {F : FTy → Type} [FloatOps F]
-- ==== Kernel3.lean ====
abbrev S8192x4096 : Shape := ⟨2, ![8192, 4096]⟩
abbrev S32x4096 : Shape := ⟨2, ![32, 4096]⟩
abbrev S4096 : Shape := ⟨1, ![4096]⟩
abbrev S1x4096x13360 : Shape := ⟨3, ![1, 4096, 13360]⟩
abbrev S1x13360x4096 : Shape := ⟨3, ![1, 13360, 4096]⟩
abbrev S13360x4096 : Shape := ⟨2, ![13360, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x2048 : Shape := ⟨2, ![8192, 2048]⟩
abbrev S1024x4096 : Shape := ⟨2, ![1024, 4096]⟩
abbrev S512x4096 : Shape := ⟨2, ![512, 4096]⟩
abbrev S1024x512 : Shape := ⟨2, ![1024, 512]⟩
abbrev S8192x1024 : Shape := ⟨2, ![8192, 1024]⟩
abbrev S8192x128 : Shape := ⟨2, ![8192, 128]⟩
abbrev S128x4096 : Shape := ⟨2, ![128, 4096]⟩
abbrev S1024x128 : Shape := ⟨2, ![1024, 128]⟩
abbrev S8192x8192 : Shape := ⟨2, ![8192, 8192]⟩
abbrev S32 : Shape := ⟨1, ![32]⟩
abbrev S32x1 : Shape := ⟨2, ![32, 1]⟩
abbrev S32x2048 : Shape := ⟨2, ![32, 2048]⟩
abbrev S32x512 : Shape := ⟨2, ![32, 512]⟩
abbrev S32x1024 : Shape := ⟨2, ![32, 1024]⟩
abbrev S32x128 : Shape := ⟨2, ![32, 128]⟩
abbrev S32x8192 : Shape := ⟨2, ![32, 8192]⟩

abbrev nBuf : Space → Nat
  | .hbm => 20
  | .vmem => 60
  | .smem => 0
  | _ => 0

abbrev bufTy : (tb : Table) → Fin (tcTables nBuf tb) → BufTy
  | .hbm, ⟨0, _⟩ => ⟨S8192x4096, .f32⟩
  | .hbm, ⟨1, _⟩ => ⟨S32x4096, .f32⟩
  | .hbm, ⟨2, _⟩ => ⟨S4096, .f32⟩
  | .hbm, ⟨3, _⟩ => ⟨S1x4096x13360, .f32⟩
  | .hbm, ⟨4, _⟩ => ⟨S1x13360x4096, .f32⟩
  | .hbm, ⟨5, _⟩ => ⟨S13360x4096, .f32⟩
  | .hbm, ⟨6, _⟩ => ⟨S1x4096, .f32⟩
  | .hbm, ⟨7, _⟩ => ⟨S8192x4096, .bf16⟩
  | .hbm, ⟨8, _⟩ => ⟨S8192x2048, .f32⟩
  | .hbm, ⟨9, _⟩ => ⟨S8192x2048, .f32⟩
  | .hbm, ⟨10, _⟩ => ⟨S8192x1024, .f32⟩
  | .hbm, ⟨11, _⟩ => ⟨S8192x128, .f32⟩
  | .hbm, ⟨12, _⟩ => ⟨S8192x8192, .f32⟩
  | .hbm, ⟨13, _⟩ => ⟨S1x4096, .f32⟩
  | .hbm, ⟨14, _⟩ => ⟨S32x4096, .bf16⟩
  | .hbm, ⟨15, _⟩ => ⟨S32x2048, .f32⟩
  | .hbm, ⟨16, _⟩ => ⟨S32x2048, .f32⟩
  | .hbm, ⟨17, _⟩ => ⟨S32x1024, .f32⟩
  | .hbm, ⟨18, _⟩ => ⟨S32x128, .f32⟩
  | .hbm, ⟨19, _⟩ => ⟨S32x8192, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S1024x4096, .bf16⟩
  | .local _ .vmem, ⟨7, _⟩ => ⟨S512x4096, .f32⟩
  | .local _ .vmem, ⟨8, _⟩ => ⟨S512x4096, .f32⟩
  | .local _ .vmem, ⟨9, _⟩ => ⟨S1024x512, .f32⟩
  | .local _ .vmem, ⟨10, _⟩ => ⟨S1024x512, .f32⟩
  | .local _ .vmem, ⟨11, _⟩ => ⟨S1024x4096, .bf16⟩
  | .local _ .vmem, ⟨12, _⟩ => ⟨S1024x4096, .bf16⟩
  | .local _ .vmem, ⟨13, _⟩ => ⟨S512x4096, .f32⟩
  | .local _ .vmem, ⟨14, _⟩ => ⟨S512x4096, .f32⟩
  | .local _ .vmem, ⟨15, _⟩ => ⟨S1024x512, .f32⟩
  | .local _ .vmem, ⟨16, _⟩ => ⟨S1024x512, .f32⟩
  | .local _ .vmem, ⟨17, _⟩ => ⟨S1024x4096, .bf16⟩
  | .local _ .vmem, ⟨18, _⟩ => ⟨S1024x4096, .bf16⟩
  | .local _ .vmem, ⟨19, _⟩ => ⟨S512x4096, .f32⟩
  | .local _ .vmem, ⟨20, _⟩ => ⟨S512x4096, .f32⟩
  | .local _ .vmem, ⟨21, _⟩ => ⟨S1024x512, .f32⟩
  | .local _ .vmem, ⟨22, _⟩ => ⟨S1024x512, .f32⟩
  | .local _ .vmem, ⟨23, _⟩ => ⟨S1024x4096, .bf16⟩
  | .local _ .vmem, ⟨24, _⟩ => ⟨S1024x4096, .bf16⟩
  | .local _ .vmem, ⟨25, _⟩ => ⟨S128x4096, .f32⟩
  | .local _ .vmem, ⟨26, _⟩ => ⟨S1024x128, .f32⟩
  | .local _ .vmem, ⟨27, _⟩ => ⟨S1024x128, .f32⟩
  | .local _ .vmem, ⟨28, _⟩ => ⟨S1024x4096, .bf16⟩
  | .local _ .vmem, ⟨29, _⟩ => ⟨S1024x4096, .bf16⟩
  | .local _ .vmem, ⟨30, _⟩ => ⟨S512x4096, .f32⟩
  | .local _ .vmem, ⟨31, _⟩ => ⟨S512x4096, .f32⟩
  | .local _ .vmem, ⟨32, _⟩ => ⟨S1024x512, .f32⟩
  | .local _ .vmem, ⟨33, _⟩ => ⟨S1024x512, .f32⟩
  | .local _ .vmem, ⟨34, _⟩ => ⟨S32x4096, .f32⟩
  | .local _ .vmem, ⟨35, _⟩ => ⟨S1x4096, .f32⟩
  | .local _ .vmem, ⟨36, _⟩ => ⟨S32x4096, .bf16⟩
  | .local _ .vmem, ⟨37, _⟩ => ⟨S32x4096, .bf16⟩
  | .local _ .vmem, ⟨38, _⟩ => ⟨S512x4096, .f32⟩
  | .local _ .vmem, ⟨39, _⟩ => ⟨S512x4096, .f32⟩
  | .local _ .vmem, ⟨40, _⟩ => ⟨S32x512, .f32⟩
  | .local _ .vmem, ⟨41, _⟩ => ⟨S32x512, .f32⟩
  | .local _ .vmem, ⟨42, _⟩ => ⟨S32x4096, .bf16⟩
  | .local _ .vmem, ⟨43, _⟩ => ⟨S512x4096, .f32⟩
  | .local _ .vmem, ⟨44, _⟩ => ⟨S512x4096, .f32⟩
  | .local _ .vmem, ⟨45, _⟩ => ⟨S32x512, .f32⟩
  | .local _ .vmem, ⟨46, _⟩ => ⟨S32x512, .f32⟩
  | .local _ .vmem, ⟨47, _⟩ => ⟨S32x4096, .bf16⟩
  | .local _ .vmem, ⟨48, _⟩ => ⟨S512x4096, .f32⟩
  | .local _ .vmem, ⟨49, _⟩ => ⟨S512x4096, .f32⟩
  | .local _ .vmem, ⟨50, _⟩ => ⟨S32x512, .f32⟩
  | .local _ .vmem, ⟨51, _⟩ => ⟨S32x512, .f32⟩
  | .local _ .vmem, ⟨52, _⟩ => ⟨S32x4096, .bf16⟩
  | .local _ .vmem, ⟨53, _⟩ => ⟨S128x4096, .f32⟩
  | .local _ .vmem, ⟨54, _⟩ => ⟨S32x128, .f32⟩
  | .local _ .vmem, ⟨55, _⟩ => ⟨S32x4096, .bf16⟩
  | .local _ .vmem, ⟨56, _⟩ => ⟨S512x4096, .f32⟩
  | .local _ .vmem, ⟨57, _⟩ => ⟨S512x4096, .f32⟩
  | .local _ .vmem, ⟨58, _⟩ => ⟨S32x512, .f32⟩
  | .local _ .vmem, ⟨59, _⟩ => ⟨S32x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg1_0 : Ref sig .tc := ⟨.vmem, 35, rfl⟩
abbrev cc6_stg2_0 : Ref sig .tc := ⟨.vmem, 36, rfl⟩
abbrev cc7_stg0_0 : Ref sig .tc := ⟨.vmem, 37, rfl⟩
abbrev cc7_stg1_0 : Ref sig .tc := ⟨.vmem, 38, rfl⟩
abbrev cc7_stg1_1 : Ref sig .tc := ⟨.vmem, 39, rfl⟩
abbrev cc7_stg2_0 : Ref sig .tc := ⟨.vmem, 40, rfl⟩
abbrev cc7_stg2_1 : Ref sig .tc := ⟨.vmem, 41, rfl⟩
abbrev cc8_stg0_0 : Ref sig .tc := ⟨.vmem, 42, rfl⟩
abbrev cc8_stg1_0 : Ref sig .tc := ⟨.vmem, 43, rfl⟩
abbrev cc8_stg1_1 : Ref sig .tc := ⟨.vmem, 44, rfl⟩
abbrev cc8_stg2_0 : Ref sig .tc := ⟨.vmem, 45, rfl⟩
abbrev cc8_stg2_1 : Ref sig .tc := ⟨.vmem, 46, rfl⟩
abbrev cc9_stg0_0 : Ref sig .tc := ⟨.vmem, 47, rfl⟩
abbrev cc9_stg1_0 : Ref sig .tc := ⟨.vmem, 48, rfl⟩
abbrev cc9_stg1_1 : Ref sig .tc := ⟨.vmem, 49, rfl⟩
abbrev cc9_stg2_0 : Ref sig .tc := ⟨.vmem, 50, rfl⟩
abbrev cc9_stg2_1 : Ref sig .tc := ⟨.vmem, 51, rfl⟩
abbrev cc10_stg0_0 : Ref sig .tc := ⟨.vmem, 52, rfl⟩
abbrev cc10_stg1_0 : Ref sig .tc := ⟨.vmem, 53, rfl⟩
abbrev cc10_stg2_0 : Ref sig .tc := ⟨.vmem, 54, rfl⟩
abbrev cc11_stg0_0 : Ref sig .tc := ⟨.vmem, 55, rfl⟩
abbrev cc11_stg1_0 : Ref sig .tc := ⟨.vmem, 56, rfl⟩
abbrev cc11_stg1_1 : Ref sig .tc := ⟨.vmem, 57, rfl⟩
abbrev cc11_stg2_0 : Ref sig .tc := ⟨.vmem, 58, rfl⟩
abbrev cc11_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem1_0 : DmaSem sig := 35
abbrev cc6_sem2_0 : DmaSem sig := 36
abbrev cc7_sem0_0 : DmaSem sig := 37
abbrev cc7_sem1_0 : DmaSem sig := 38
abbrev cc7_sem1_1 : DmaSem sig := 39
abbrev cc7_sem2_0 : DmaSem sig := 40
abbrev cc7_sem2_1 : DmaSem sig := 41
abbrev cc8_sem0_0 : DmaSem sig := 42
abbrev cc8_sem1_0 : DmaSem sig := 43
abbrev cc8_sem1_1 : DmaSem sig := 44
abbrev cc8_sem2_0 : DmaSem sig := 45
abbrev cc8_sem2_1 : DmaSem sig := 46
abbrev cc9_sem0_0 : DmaSem sig := 47
abbrev cc9_sem1_0 : DmaSem sig := 48
abbrev cc9_sem1_1 : DmaSem sig := 49
abbrev cc9_sem2_0 : DmaSem sig := 50
abbrev cc9_sem2_1 : DmaSem sig := 51
abbrev cc10_sem0_0 : DmaSem sig := 52
abbrev cc10_sem1_0 : DmaSem sig := 53
abbrev cc10_sem2_0 : DmaSem sig := 54
abbrev cc11_sem0_0 : DmaSem sig := 55
abbrev cc11_sem1_0 : DmaSem sig := 56
abbrev cc11_sem1_1 : DmaSem sig := 57
abbrev cc11_sem2_0 : DmaSem sig := 58
abbrev cc11_sem2_1 : DmaSem sig := 59

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c0_i32 : BitVec 32 := 0#32
  let v1 : BitVec 32 := Scalar.addi c0_i32 v0
  let c8_i32 : BitVec 32 := 8#32
  let v2 : BitVec 32 := Scalar.muli v1 c8_i32
  let c0_i32_0 : BitVec 32 := 0#32
  let c0_i32_1 : BitVec 32 := 0#32
  ![v2.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c256_i32 : BitVec 32 := 256#32
  let v1 : BitVec 32 := Scalar.addi c256_i32 v0
  let c8_i32 : BitVec 32 := 8#32
  let v2 : BitVec 32 := Scalar.muli v1 c8_i32
  let c0_i32 : BitVec 32 := 0#32
  let c0_i32_0 : BitVec 32 := 0#32
  ![v2.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c512_i32 : BitVec 32 := 512#32
  let v1 : BitVec 32 := Scalar.addi c512_i32 v0
  let c8_i32 : BitVec 32 := 8#32
  let v2 : BitVec 32 := Scalar.muli v1 c8_i32
  let c0_i32 : BitVec 32 := 0#32
  let c0_i32_0 : BitVec 32 := 0#32
  ![v2.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c640_i32 : BitVec 32 := 640#32
  let v1 : BitVec 32 := Scalar.addi c640_i32 v0
  let c8_i32 : BitVec 32 := 8#32
  let v2 : BitVec 32 := Scalar.muli v1 c8_i32
  let c0_i32 : BitVec 32 := 0#32
  let c0_i32_0 : BitVec 32 := 0#32
  ![v2.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S128x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 16], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c646_i32 : BitVec 32 := 646#32
  let v1 : BitVec 32 := Scalar.addi c646_i32 v0
  let c8_i32 : BitVec 32 := 8#32
  let v2 : BitVec 32 := Scalar.muli v1 c8_i32
  let c0_i32 : BitVec 32 := 0#32
  let c0_i32_0 : BitVec 32 := 0#32
  ![v2.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x4096 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S32x4096 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S1x4096 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S32x4096 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev grid7 : Pipeline.Grid := ⟨2, ![1, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c0_i32 : BitVec 32 := 0#32
  let v1 : BitVec 32 := Scalar.addi c0_i32 v0
  let c8_i32 : BitVec 32 := 8#32
  let v2 : BitVec 32 := Scalar.muli v1 c8_i32
  let c0_i32_0 : BitVec 32 := 0#32
  let c0_i32_1 : BitVec 32 := 0#32
  ![v2.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S32x4096 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 2 → Memref sig .tc .vmem S512x4096 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S32x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![1, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c256_i32 : BitVec 32 := 256#32
  let v1 : BitVec 32 := Scalar.addi c256_i32 v0
  let c8_i32 : BitVec 32 := 8#32
  let v2 : BitVec 32 := Scalar.muli v1 c8_i32
  let c0_i32 : BitVec 32 := 0#32
  let c0_i32_0 : BitVec 32 := 0#32
  ![v2.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 1 → Memref sig .tc .vmem S32x4096 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 2 → Memref sig .tc .vmem S512x4096 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S32x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![1, 2], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c512_i32 : BitVec 32 := 512#32
  let v1 : BitVec 32 := Scalar.addi c512_i32 v0
  let c8_i32 : BitVec 32 := 8#32
  let v2 : BitVec 32 := Scalar.muli v1 c8_i32
  let c0_i32 : BitVec 32 := 0#32
  let c0_i32_0 : BitVec 32 := 0#32
  ![v2.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 1 → Memref sig .tc .vmem S32x4096 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false]

abbrev stage9_1 : Fin 2 → Memref sig .tc .vmem S512x4096 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S32x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨2, ![1, 1], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c640_i32 : BitVec 32 := 640#32
  let v1 : BitVec 32 := Scalar.addi c640_i32 v0
  let c8_i32 : BitVec 32 := 8#32
  let v2 : BitVec 32 := Scalar.muli v1 c8_i32
  let c0_i32 : BitVec 32 := 0#32
  let c0_i32_0 : BitVec 32 := 0#32
  ![v2.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 1 → Memref sig .tc .vmem S32x4096 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true, false]

abbrev stage10_1 : Fin 1 → Memref sig .tc .vmem S128x4096 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true]

abbrev stage10_2 : Fin 1 → Memref sig .tc .vmem S32x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![true, true]

abbrev grid11 : Pipeline.Grid := ⟨2, ![1, 16], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c646_i32 : BitVec 32 := 646#32
  let v1 : BitVec 32 := Scalar.addi c646_i32 v0
  let c8_i32 : BitVec 32 := 8#32
  let v2 : BitVec 32 := Scalar.muli v1 c8_i32
  let c0_i32 : BitVec 32 := 0#32
  let c0_i32_0 : BitVec 32 := 0#32
  ![v2.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 1 → Memref sig .tc .vmem S32x4096 .bf16 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true, false]

abbrev stage11_1 : Fin 2 → Memref sig .tc .vmem S512x4096 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S32x512 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]
-- ==== Reference3Ideal.lean ====
abbrev S8192x4096 : Shape := ⟨2, ![8192, 4096]⟩
abbrev S32x4096 : Shape := ⟨2, ![32, 4096]⟩
abbrev S4096 : Shape := ⟨1, ![4096]⟩
abbrev S1x4096x13360 : Shape := ⟨3, ![1, 4096, 13360]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S4096x13360 : Shape := ⟨2, ![4096, 13360]⟩
abbrev S8192x13360 : Shape := ⟨2, ![8192, 13360]⟩
abbrev S8192x2048 : Shape := ⟨2, ![8192, 2048]⟩
abbrev S8192x1024 : Shape := ⟨2, ![8192, 1024]⟩
abbrev S8192x128 : Shape := ⟨2, ![8192, 128]⟩
abbrev S8192x8192 : Shape := ⟨2, ![8192, 8192]⟩
abbrev S32 : Shape := ⟨1, ![32]⟩
abbrev S32x1 : Shape := ⟨2, ![32, 1]⟩
abbrev S32x13360 : Shape := ⟨2, ![32, 13360]⟩
abbrev S32x2048 : Shape := ⟨2, ![32, 2048]⟩
abbrev S32x1024 : Shape := ⟨2, ![32, 1024]⟩
abbrev S32x128 : Shape := ⟨2, ![32, 128]⟩
abbrev S32x8192 : Shape := ⟨2, ![32, 8192]⟩

abbrev nBuf : Space → Nat
  | .hbm => 50
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S32x4096, .f32⟩
  | .hbm, ⟨2, _⟩ => ⟨S4096, .f32⟩
  | .hbm, ⟨3, _⟩ => ⟨S1x4096x13360, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S4096x13360, .f32⟩
  | .hbm, ⟨21, _⟩ => ⟨S8192x13360, .f32⟩
  | .hbm, ⟨22, _⟩ => ⟨S8192x2048, .f32⟩
  | .hbm, ⟨23, _⟩ => ⟨S8192x2048, .f32⟩
  | .hbm, ⟨24, _⟩ => ⟨S8192x1024, .f32⟩
  | .hbm, ⟨25, _⟩ => ⟨S8192x128, .f32⟩
  | .hbm, ⟨26, _⟩ => ⟨S8192x8192, .f32⟩
  | .hbm, ⟨27, _⟩ => ⟨S32x4096, .f32⟩
  | .hbm, ⟨28, _⟩ => ⟨S_, .f32⟩
  | .hbm, ⟨29, _⟩ => ⟨S32, .f32⟩
  | .hbm, ⟨30, _⟩ => ⟨S32x1, .f32⟩
  | .hbm, ⟨31, _⟩ => ⟨S_, .f32⟩
  | .hbm, ⟨32, _⟩ => ⟨S32x1, .f32⟩
  | .hbm, ⟨33, _⟩ => ⟨S32x1, .f32⟩
  | .hbm, ⟨34, _⟩ => ⟨S_, .f32⟩
  | .hbm, ⟨35, _⟩ => ⟨S32x1, .f32⟩
  | .hbm, ⟨36, _⟩ => ⟨S32x1, .f32⟩
  | .hbm, ⟨37, _⟩ => ⟨S32x1, .f32⟩
  | .hbm, ⟨38, _⟩ => ⟨S32x4096, .f32⟩
  | .hbm, ⟨39, _⟩ => ⟨S32x4096, .f32⟩
  | .hbm, ⟨40, _⟩ => ⟨S1x4096, .f32⟩
  | .hbm, ⟨41, _⟩ => ⟨S32x4096, .f32⟩
  | .hbm, ⟨42, _⟩ => ⟨S32x4096, .f32⟩
  | .hbm, ⟨43, _⟩ => ⟨S4096x13360, .f32⟩
  | .hbm, ⟨44, _⟩ => ⟨S32x13360, .f32⟩
  | .hbm, ⟨45, _⟩ => ⟨S32x2048, .f32⟩
  | .hbm, ⟨46, _⟩ => ⟨S32x2048, .f32⟩
  | .hbm, ⟨47, _⟩ => ⟨S32x1024, .f32⟩
  | .hbm, ⟨48, _⟩ => ⟨S32x128, .f32⟩
  | .hbm, ⟨49, _⟩ => ⟨S32x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel4.lean ====
abbrev S8192x2048 : Shape := ⟨2, ![8192, 2048]⟩
abbrev S8192x4096 : Shape := ⟨2, ![8192, 4096]⟩
abbrev S32x16x128 : Shape := ⟨3, ![32, 16, 128]⟩
abbrev S32x4096 : Shape := ⟨2, ![32, 4096]⟩
abbrev S1x4096x4096 : Shape := ⟨3, ![1, 4096, 4096]⟩
abbrev S1024x2048 : Shape := ⟨2, ![1024, 2048]⟩
abbrev S1x4096x512 : Shape := ⟨3, ![1, 4096, 512]⟩
abbrev S1024x512 : Shape := ⟨2, ![1024, 512]⟩
abbrev S1x2048x512 : Shape := ⟨3, ![1, 2048, 512]⟩
abbrev S2048x512 : Shape := ⟨2, ![2048, 512]⟩
abbrev S32x2048 : Shape := ⟨2, ![32, 2048]⟩
abbrev S32x512 : Shape := ⟨2, ![32, 512]⟩

abbrev nBuf : Space → Nat
  | .hbm => 11
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .f32⟩
  | .hbm, ⟨3, _⟩ => ⟨S32x16x128, .bf16⟩
  | .hbm, ⟨4, _⟩ => ⟨S32x16x128, .bf16⟩
  | .hbm, ⟨5, _⟩ => ⟨S32x4096, .f32⟩
  | .hbm, ⟨6, _⟩ => ⟨S1x4096x4096, .f32⟩
  | .hbm, ⟨7, _⟩ => ⟨S8192x4096, .f32⟩
  | .hbm, ⟨8, _⟩ => ⟨S32x2048, .bf16⟩
  | .hbm, ⟨9, _⟩ => ⟨S32x2048, .bf16⟩
  | .hbm, ⟨10, _⟩ => ⟨S32x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x4096x512, .f32⟩
  | .local _ .vmem, ⟨5, _⟩ => ⟨S1x4096x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S32x2048, .bf16⟩
  | .local _ .vmem, ⟨11, _⟩ => ⟨S32x2048, .bf16⟩
  | .local _ .vmem, ⟨12, _⟩ => ⟨S1x4096x512, .f32⟩
  | .local _ .vmem, ⟨13, _⟩ => ⟨S1x4096x512, .f32⟩
  | .local _ .vmem, ⟨14, _⟩ => ⟨S32x512, .f32⟩
  | .local _ .vmem, ⟨15, _⟩ => ⟨S32x512, .f32⟩
  | .local _ .vmem, ⟨16, _⟩ => ⟨S32x512, .f32⟩
  | .local _ .vmem, ⟨17, _⟩ => ⟨S32x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S32x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S32x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1x4096x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S32x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S32x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Reference4Ideal.lean ====
abbrev S8192x2048 : Shape := ⟨2, ![8192, 2048]⟩
abbrev S8192x4096 : Shape := ⟨2, ![8192, 4096]⟩
abbrev S32x16x128 : Shape := ⟨3, ![32, 16, 128]⟩
abbrev S32x4096 : Shape := ⟨2, ![32, 4096]⟩
abbrev S1x4096x4096 : Shape := ⟨3, ![1, 4096, 4096]⟩
abbrev S4096x4096 : Shape := ⟨2, ![4096, 4096]⟩
abbrev S32x2048 : Shape := ⟨2, ![32, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .f32⟩
  | .hbm, ⟨3, _⟩ => ⟨S32x16x128, .bf16⟩
  | .hbm, ⟨4, _⟩ => ⟨S32x16x128, .bf16⟩
  | .hbm, ⟨5, _⟩ => ⟨S32x4096, .f32⟩
  | .hbm, ⟨6, _⟩ => ⟨S1x4096x4096, .f32⟩
  | .hbm, ⟨7, _⟩ => ⟨S8192x4096, .bf16⟩
  | .hbm, ⟨8, _⟩ => ⟨S8192x4096, .f32⟩
  | .hbm, ⟨9, _⟩ => ⟨S4096x4096, .f32⟩
  | .hbm, ⟨10, _⟩ => ⟨S8192x4096, .f32⟩
  | .hbm, ⟨11, _⟩ => ⟨S8192x4096, .f32⟩
  | .hbm, ⟨12, _⟩ => ⟨S32x2048, .bf16⟩
  | .hbm, ⟨13, _⟩ => ⟨S32x2048, .bf16⟩
  | .hbm, ⟨14, _⟩ => ⟨S32x4096, .bf16⟩
  | .hbm, ⟨15, _⟩ => ⟨S32x4096, .f32⟩
  | .hbm, ⟨16, _⟩ => ⟨S4096x4096, .f32⟩
  | .hbm, ⟨17, _⟩ => ⟨S32x4096, .f32⟩
  | .hbm, ⟨18, _⟩ => ⟨S32x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel5.lean ====
abbrev S1x32x16x128x128 : Shape := ⟨5, ![1, 32, 16, 128, 128]⟩
abbrev S32x8192 : Shape := ⟨2, ![32, 8192]⟩
abbrev S2048 : Shape := ⟨1, ![2048]⟩
abbrev S32x16x128x128 : Shape := ⟨4, ![32, 16, 128, 128]⟩
abbrev S32x4x16x128 : Shape := ⟨4, ![32, 4, 16, 128]⟩
abbrev S16 : Shape := ⟨1, ![16]⟩
abbrev S_ : Shape := ⟨0, ![]⟩
abbrev S1 : Shape := ⟨1, ![1]⟩
abbrev S1x1 : Shape := ⟨2, ![1, 1]⟩
abbrev S1x1x1 : Shape := ⟨3, ![1, 1, 1]⟩
abbrev S16x1x1 : Shape := ⟨3, ![16, 1, 1]⟩
abbrev S16x1 : Shape := ⟨2, ![16, 1]⟩
abbrev S16x128 : Shape := ⟨2, ![16, 128]⟩
abbrev S32x16x128 : Shape := ⟨3, ![32, 16, 128]⟩
abbrev S1x16x128x128 : Shape := ⟨4, ![1, 16, 128, 128]⟩
abbrev S1x4x16x128 : Shape := ⟨4, ![1, 4, 16, 128]⟩
abbrev S1x16x128 : Shape := ⟨3, ![1, 16, 128]⟩
abbrev S1x1x16x128 : Shape := ⟨4, ![1, 1, 16, 128]⟩
abbrev S128x16 : Shape := ⟨2, ![128, 16]⟩
abbrev S1x1x128x128 : Shape := ⟨4, ![1, 1, 128, 128]⟩
abbrev S128x128 : Shape := ⟨2, ![128, 128]⟩
abbrev S1x128 : Shape := ⟨2, ![1, 128]⟩
abbrev S128x1 : Shape := ⟨2, ![128, 1]⟩

abbrev nBuf : Space → Nat
  | .hbm => 59
  | .vmem => 10
  | .smem => 0
  | _ => 0

abbrev bufTy : (tb : Table) → Fin (tcTables nBuf tb) → BufTy
  | .hbm, ⟨0, _⟩ => ⟨S1x32x16x128x128, .f32⟩
  | .hbm, ⟨1, _⟩ => ⟨S32x8192, .f32⟩
  | .hbm, ⟨2, _⟩ => ⟨S2048, .f32⟩
  | .hbm, ⟨3, _⟩ => ⟨S32x16x128x128, .f32⟩
  | .hbm, ⟨4, _⟩ => ⟨S32x4x16x128, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S1, .f32⟩
  | .hbm, ⟨16, _⟩ => ⟨S1x1, .f32⟩
  | .hbm, ⟨17, _⟩ => ⟨S1x1, .f32⟩
  | .hbm, ⟨18, _⟩ => ⟨S1x1, .f32⟩
  | .hbm, ⟨19, _⟩ => ⟨S_, .f32⟩
  | .hbm, ⟨20, _⟩ => ⟨S1x1, .f32⟩
  | .hbm, ⟨21, _⟩ => ⟨S1x1, .i1⟩
  | .hbm, ⟨22, _⟩ => ⟨S_, .f32⟩
  | .hbm, ⟨23, _⟩ => ⟨S1x1, .f32⟩
  | .hbm, ⟨24, _⟩ => ⟨S1x1, .f32⟩
  | .hbm, ⟨25, _⟩ => ⟨S1x1x1, .f32⟩
  | .hbm, ⟨26, _⟩ => ⟨S16x1x1, .f32⟩
  | .hbm, ⟨27, _⟩ => ⟨S16x1x1, .f32⟩
  | .hbm, ⟨28, _⟩ => ⟨S16x1x1, .f32⟩
  | .hbm, ⟨29, _⟩ => ⟨S16x1x1, .f32⟩
  | .hbm, ⟨30, _⟩ => ⟨S_, .f32⟩
  | .hbm, ⟨31, _⟩ => ⟨S_, .f32⟩
  | .hbm, ⟨32, _⟩ => ⟨S16x1x1, .i1⟩
  | .hbm, ⟨33, _⟩ => ⟨S16x1x1, .f32⟩
  | .hbm, ⟨34, _⟩ => ⟨S16x1x1, .f32⟩
  | .hbm, ⟨35, _⟩ => ⟨S1x1, .f32⟩
  | .hbm, ⟨36, _⟩ => ⟨S_, .f32⟩
  | .hbm, ⟨37, _⟩ => ⟨S1x1, .f32⟩
  | .hbm, ⟨38, _⟩ => ⟨S1x1, .f32⟩
  | .hbm, ⟨39, _⟩ => ⟨S16x1, .f32⟩
  | .hbm, ⟨40, _⟩ => ⟨S16x1, .f32⟩
  | .hbm, ⟨41, _⟩ => ⟨S16x1, .f32⟩
  | .hbm, ⟨42, _⟩ => ⟨S16x1, .f32⟩
  | .hbm, ⟨43, _⟩ => ⟨S_, .f32⟩
  | .hbm, ⟨44, _⟩ => ⟨S1, .f32⟩
  | .hbm, ⟨45, _⟩ => ⟨S1, .f32⟩
  | .hbm, ⟨46, _⟩ => ⟨S1x1, .f32⟩
  | .hbm, ⟨47, _⟩ => ⟨S16x1, .f32⟩
  | .hbm, ⟨48, _⟩ => ⟨S16x1, .f32⟩
  | .hbm, ⟨49, _⟩ => ⟨S16x1, .f32⟩
  | .hbm, ⟨50, _⟩ => ⟨S16x1, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S16, .f32⟩
  | .hbm, ⟨55, _⟩ => ⟨S16x128, .f32⟩
  | .hbm, ⟨56, _⟩ => ⟨S16x128, .f32⟩
  | .hbm, ⟨57, _⟩ => ⟨S32x16x128, .bf16⟩
  | .hbm, ⟨58, _⟩ => ⟨S32x16x128x128, .f32⟩
  | .local _ .vmem, ⟨0, _⟩ => ⟨S1x16x128x128, .f32⟩
  | .local _ .vmem, ⟨1, _⟩ => ⟨S1x16x128x128, .f32⟩
  | .local _ .vmem, ⟨2, _⟩ => ⟨S1x4x16x128, .f32⟩
  | .local _ .vmem, ⟨3, _⟩ => ⟨S1x4x16x128, .f32⟩
  | .local _ .vmem, ⟨4, _⟩ => ⟨S16x128, .f32⟩
  | .local _ .vmem, ⟨5, _⟩ => ⟨S16x128, .f32⟩
  | .local _ .vmem, ⟨6, _⟩ => ⟨S1x16x128, .bf16⟩
  | .local _ .vmem, ⟨7, _⟩ => ⟨S1x16x128, .bf16⟩
  | .local _ .vmem, ⟨8, _⟩ => ⟨S1x16x128x128, .f32⟩
  | .local _ .vmem, ⟨9, _⟩ => ⟨S1x16x128x128, .f32⟩
  | _, _ => ⟨S1x32x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43_0 : Ref sig .tc := ⟨.hbm, 57, rfl⟩
abbrev main_v43_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S1x32x16x128x128 : Shape := ⟨5, ![1, 32, 16, 128, 128]⟩
abbrev S32x8192 : Shape := ⟨2, ![32, 8192]⟩
abbrev S2048 : Shape := ⟨1, ![2048]⟩
abbrev S32x1x8192 : Shape := ⟨3, ![32, 1, 8192]⟩
abbrev S32x1x2048 : Shape := ⟨3, ![32, 1, 2048]⟩
abbrev S32x1x16x128 : Shape := ⟨4, ![32, 1, 16, 128]⟩
abbrev S16 : Shape := ⟨1, ![16]⟩
abbrev S_ : Shape := ⟨0, ![]⟩
abbrev S1 : Shape := ⟨1, ![1]⟩
abbrev S1x1 : Shape := ⟨2, ![1, 1]⟩
abbrev S1x1x1 : Shape := ⟨3, ![1, 1, 1]⟩
abbrev S16x1x1 : Shape := ⟨3, ![16, 1, 1]⟩
abbrev S1x16 : Shape := ⟨2, ![1, 16]⟩
abbrev S32x16x128x128 : Shape := ⟨4, ![32, 16, 128, 128]⟩
abbrev S32x16x1x1 : Shape := ⟨4, ![32, 16, 1, 1]⟩
abbrev S1x16x1x1 : Shape := ⟨4, ![1, 16, 1, 1]⟩
abbrev S32x16x128x1 : Shape := ⟨4, ![32, 16, 128, 1]⟩
abbrev S1x1x16x1 : Shape := ⟨4, ![1, 1, 16, 1]⟩
abbrev S32x1x16 : Shape := ⟨3, ![32, 1, 16]⟩
abbrev S32x1x16x1 : Shape := ⟨4, ![32, 1, 16, 1]⟩
abbrev S1x1x2048 : Shape := ⟨3, ![1, 1, 2048]⟩
abbrev S32x16x128 : Shape := ⟨3, ![32, 16, 128]⟩

abbrev nBuf : Space → Nat
  | .hbm => 124
  | .vmem => 0
  | .smem => 0
  | _ => 0

abbrev bufTy : (tb : Table) → Fin (tcTables nBuf tb) → BufTy
  | .hbm, ⟨0, _⟩ => ⟨S1x32x16x128x128, .f32⟩
  | .hbm, ⟨1, _⟩ => ⟨S32x8192, .f32⟩
  | .hbm, ⟨2, _⟩ => ⟨S2048, .f32⟩
  | .hbm, ⟨3, _⟩ => ⟨S32x1x8192, .f32⟩
  | .hbm, ⟨4, _⟩ => ⟨S32x1x2048, .f32⟩
  | .hbm, ⟨5, _⟩ => ⟨S32x1x2048, .f32⟩
  | .hbm, ⟨6, _⟩ => ⟨S32x1x2048, .f32⟩
  | .hbm, ⟨7, _⟩ => ⟨S32x1x2048, .f32⟩
  | .hbm, ⟨8, _⟩ => ⟨S32x1x16x128, .f32⟩
  | .hbm, ⟨9, _⟩ => ⟨S32x1x16x128, .f32⟩
  | .hbm, ⟨10, _⟩ => ⟨S32x1x16x128, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S1, .f32⟩
  | .hbm, ⟨22, _⟩ => ⟨S1x1, .f32⟩
  | .hbm, ⟨23, _⟩ => ⟨S1x1, .f32⟩
  | .hbm, ⟨24, _⟩ => ⟨S1x1, .f32⟩
  | .hbm, ⟨25, _⟩ => ⟨S_, .f32⟩
  | .hbm, ⟨26, _⟩ => ⟨S1x1, .f32⟩
  | .hbm, ⟨27, _⟩ => ⟨S1x1, .i1⟩
  | .hbm, ⟨28, _⟩ => ⟨S_, .f32⟩
  | .hbm, ⟨29, _⟩ => ⟨S1x1, .f32⟩
  | .hbm, ⟨30, _⟩ => ⟨S1x1, .f32⟩
  | .hbm, ⟨31, _⟩ => ⟨S1x1x1, .f32⟩
  | .hbm, ⟨32, _⟩ => ⟨S16x1x1, .f32⟩
  | .hbm, ⟨33, _⟩ => ⟨S16x1x1, .f32⟩
  | .hbm, ⟨34, _⟩ => ⟨S16x1x1, .f32⟩
  | .hbm, ⟨35, _⟩ => ⟨S16x1x1, .f32⟩
  | .hbm, ⟨36, _⟩ => ⟨S_, .f32⟩
  | .hbm, ⟨37, _⟩ => ⟨S_, .f32⟩
  | .hbm, ⟨38, _⟩ => ⟨S16x1x1, .i1⟩
  | .hbm, ⟨39, _⟩ => ⟨S16x1x1, .f32⟩
  | .hbm, ⟨40, _⟩ => ⟨S16x1x1, .f32⟩
  | .hbm, ⟨41, _⟩ => ⟨S1x1, .f32⟩
  | .hbm, ⟨42, _⟩ => ⟨S_, .f32⟩
  | .hbm, ⟨43, _⟩ => ⟨S1x1, .f32⟩
  | .hbm, ⟨44, _⟩ => ⟨S1x1, .f32⟩
  | .hbm, ⟨45, _⟩ => ⟨S1x16, .f32⟩
  | .hbm, ⟨46, _⟩ => ⟨S1x16, .f32⟩
  | .hbm, ⟨47, _⟩ => ⟨S1x16, .f32⟩
  | .hbm, ⟨48, _⟩ => ⟨S1x16, .f32⟩
  | .hbm, ⟨49, _⟩ => ⟨S_, .f32⟩
  | .hbm, ⟨50, _⟩ => ⟨S1, .f32⟩
  | .hbm, ⟨51, _⟩ => ⟨S1, .f32⟩
  | .hbm, ⟨52, _⟩ => ⟨S1x1, .f32⟩
  | .hbm, ⟨53, _⟩ => ⟨S1x16, .f32⟩
  | .hbm, ⟨54, _⟩ => ⟨S1x16, .f32⟩
  | .hbm, ⟨55, _⟩ => ⟨S1x16, .f32⟩
  | .hbm, ⟨56, _⟩ => ⟨S1x16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S32x1x16x128, .f32⟩
  | .hbm, ⟨63, _⟩ => ⟨S32x1x16x128, .f32⟩
  | .hbm, ⟨64, _⟩ => ⟨S32x16x128x128, .f32⟩
  | .hbm, ⟨65, _⟩ => ⟨S32x16x1x1, .f32⟩
  | .hbm, ⟨66, _⟩ => ⟨S1x16x1x1, .f32⟩
  | .hbm, ⟨67, _⟩ => ⟨S32x16x1x1, .f32⟩
  | .hbm, ⟨68, _⟩ => ⟨S32x16x1x1, .f32⟩
  | .hbm, ⟨69, _⟩ => ⟨S32x16x128x1, .f32⟩
  | .hbm, ⟨70, _⟩ => ⟨S32x1x16x128, .f32⟩
  | .hbm, ⟨71, _⟩ => ⟨S1x1x16x1, .f32⟩
  | .hbm, ⟨72, _⟩ => ⟨S32x1x16x128, .f32⟩
  | .hbm, ⟨73, _⟩ => ⟨S32x1x16x128, .f32⟩
  | .hbm, ⟨74, _⟩ => ⟨S32x16x128x1, .f32⟩
  | .hbm, ⟨75, _⟩ => ⟨S32x1x16x128, .f32⟩
  | .hbm, ⟨76, _⟩ => ⟨S32x1x16x128, .f32⟩
  | .hbm, ⟨77, _⟩ => ⟨S1x16x1x1, .f32⟩
  | .hbm, ⟨78, _⟩ => ⟨S32x16x128x128, .f32⟩
  | .hbm, ⟨79, _⟩ => ⟨S32x16x128x128, .f32⟩
  | .hbm, ⟨80, _⟩ => ⟨S1x1x16x1, .f32⟩
  | .hbm, ⟨81, _⟩ => ⟨S32x1x16x128, .f32⟩
  | .hbm, ⟨82, _⟩ => ⟨S32x1x16x128, .f32⟩
  | .hbm, ⟨83, _⟩ => ⟨S32x16x128x128, .f32⟩
  | .hbm, ⟨84, _⟩ => ⟨S32x16x128x128, .f32⟩
  | .hbm, ⟨85, _⟩ => ⟨S_, .f32⟩
  | .hbm, ⟨86, _⟩ => ⟨S32x1x16, .f32⟩
  | .hbm, ⟨87, _⟩ => ⟨S32x1x16x1, .f32⟩
  | .hbm, ⟨88, _⟩ => ⟨S_, .f32⟩
  | .hbm, ⟨89, _⟩ => ⟨S32x1x16x1, .f32⟩
  | .hbm, ⟨90, _⟩ => ⟨S32x1x16x1, .f32⟩
  | .hbm, ⟨91, _⟩ => ⟨S32x1x16x128, .f32⟩
  | .hbm, ⟨92, _⟩ => ⟨S32x1x16x128, .f32⟩
  | .hbm, ⟨93, _⟩ => ⟨S32x1x16x128, .f32⟩
  | .hbm, ⟨94, _⟩ => ⟨S_, .f32⟩
  | .hbm, ⟨95, _⟩ => ⟨S32x1x16, .f32⟩
  | .hbm, ⟨96, _⟩ => ⟨S32x1x16x1, .f32⟩
  | .hbm, ⟨97, _⟩ => ⟨S_, .f32⟩
  | .hbm, ⟨98, _⟩ => ⟨S32x1x16x1, .f32⟩
  | .hbm, ⟨99, _⟩ => ⟨S32x1x16x1, .f32⟩
  | .hbm, ⟨100, _⟩ => ⟨S32x1x16x128, .f32⟩
  | .hbm, ⟨101, _⟩ => ⟨S32x1x16x128, .f32⟩
  | .hbm, ⟨102, _⟩ => ⟨S_, .f32⟩
  | .hbm, ⟨103, _⟩ => ⟨S32x1x16x1, .f32⟩
  | .hbm, ⟨104, _⟩ => ⟨S32x1x16x1, .f32⟩
  | .hbm, ⟨105, _⟩ => ⟨S32x1x16x1, .f32⟩
  | .hbm, ⟨106, _⟩ => ⟨S32x1x16x128, .f32⟩
  | .hbm, ⟨107, _⟩ => ⟨S32x1x16x128, .f32⟩
  | .hbm, ⟨108, _⟩ => ⟨S32x1x2048, .f32⟩
  | .hbm, ⟨109, _⟩ => ⟨S1x1x2048, .f32⟩
  | .hbm, ⟨110, _⟩ => ⟨S32x1x2048, .f32⟩
  | .hbm, ⟨111, _⟩ => ⟨S32x1x2048, .f32⟩
  | .hbm, ⟨112, _⟩ => ⟨S32x1x2048, .f32⟩
  | .hbm, ⟨113, _⟩ => ⟨S32x1x2048, .f32⟩
  | .hbm, ⟨114, _⟩ => ⟨S_, .f32⟩
  | .hbm, ⟨115, _⟩ => ⟨S32x1x2048, .f32⟩
  | .hbm, ⟨116, _⟩ => ⟨S32x1x2048, .f32⟩
  | .hbm, ⟨117, _⟩ => ⟨S_, .f32⟩
  | .hbm, ⟨118, _⟩ => ⟨S32x1x2048, .f32⟩
  | .hbm, ⟨119, _⟩ => ⟨S32x1x2048, .f32⟩
  | .hbm, ⟨120, _⟩ => ⟨S32x1x2048, .f32⟩
  | .hbm, ⟨121, _⟩ => ⟨S32x1x2048, .f32⟩
  | .hbm, ⟨122, _⟩ => ⟨S32x16x128, .f32⟩
  | .hbm, ⟨123, _⟩ => ⟨S32x16x128, .bf16⟩
  | _, _ => ⟨S1x32x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_cst_9 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_10 : Ref sig .tc := ⟨.hbm, 94, rfl⟩
abbrev main_v77 : Ref sig .tc := ⟨.hbm, 95, rfl⟩
abbrev main_v78 : Ref sig .tc := ⟨.hbm, 96, rfl⟩
abbrev main_cst_11 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_12 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_call1_v0 : Ref sig .tc := ⟨.hbm, 112, rfl⟩
abbrev main_call1_v1 : Ref sig .tc := ⟨.hbm, 113, rfl⟩
abbrev main_call1_cst : Ref sig .tc := ⟨.hbm, 114, rfl⟩
abbrev main_call1_v2 : Ref sig .tc := ⟨.hbm, 115, rfl⟩
abbrev main_call1_v3 : Ref sig .tc := ⟨.hbm, 116, rfl⟩
abbrev main_call1_cst_0 : Ref sig .tc := ⟨.hbm, 117, rfl⟩
abbrev main_call1_v4 : Ref sig .tc := ⟨.hbm, 118, rfl⟩
abbrev main_call1_v5 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩

abbrev nD : Nat := 1
abbrev τ : Topo := Topo.v7x

variable {F : FTy → Type} [FloatOps F]
-- ==== Proof.Ret.Same.lean ====
/-
  The printed retention kernel and its reading over the extended reals have one text, so one run serves both.
-/
module

public import proofs.«01_k».proof.Proof.Gen.Kernel
public import proofs.«01_k».proof.Proof.Gen.KernelIdeal
public import Idealize.ShloMosaic.PureOps.BitExact

@[expose] public section

set_option maxRecDepth 65536
set_option maxHeartbeats 10000000

noncomputable section

namespace Cert.Ret

open Idealize Idealize.ShloMosaic Idealize.ShloMosaic.TcCoe Idealize.ShloMosaic.StableHlo Idealize.SL.Sem

/-- The two kernel bodies are one. -/
theorem body_same : @Cert.Kernel.cc0_retention_prompt Bits _ Cert.Kernel.Gen.facts
    = @Cert.KernelIdeal.cc0_retention_prompt Bits _ Cert.KernelIdeal.Gen.facts := by
  funext i a1 b1 a2 b2 a3 b3 a4 b4 a5 b5 a6 b6 a7 b7 a8 b8 a9 b9 a10 b10 a11 b11 a12
  unfold Cert.Kernel.cc0_retention_prompt Cert.KernelIdeal.cc0_retention_prompt
  congr 1

/-- So are the tables of bodies. -/
theorem table_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun a => ?_)
  match l, a with
  | 0, (t, s) =>
    dsimp only
    rw [body_same]
    rfl

/-- So are the tables of the programs. -/
theorem defs_same : @Cert.Kernel.defs Bits _ Cert.Kernel.Gen.facts = @Cert.KernelIdeal.defs Bits _ Cert.KernelIdeal.Gen.facts :=
  congrArg (Pipeline.defs (@Cert.KernelIdeal.pcfgs Bits _)) table_same

end Cert.Ret
-- ==== Proof.Ret.Trip.lean ====
/-
  The retention kernel's chunk loop by values: what one trip of the loop does to the output block and to the carried
  state, as plain functions of the arrays it reads (one function per head, the same for all eight).
-/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.VecWindow

@[expose] public section

set_option maxRecDepth 8192

noncomputable section

namespace Cert.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- One head's output rows for one chunk: the masked scores times the values, plus the decayed queries times the
    incoming state, group-normalised and gated. -/
def headOut (q k v rg : Vec F S128x128 .f32) (intra qd st : Vec F S1x128x128 .f32) (gn : Vec F S1x128 .f32) : FVec F S128x128 .bf16 :=
  k0_pay11 (k0_pay7 q k v st intra qd) rg gn

/-- One head's state after one chunk: the incoming state decayed, plus the decayed keys' outer products with the values. -/
def headSt (k v : Vec F S128x128 .f32) (cd kd st : Vec F S1x128x128 .f32) : FVec F S1x128x128 .f32 :=
  k0_pay10 (k0_pay5 v) (k0_pay8 st cd) (k0_pay9 k kd)

variable (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x8x128x128 .f32) (harg13 : arg13.IsWhole) (arg14 : Memref sig .tc .vmem S8x128x128 .f32) (harg14 : arg14.IsWhole)
variable (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty)
variable (X_arg12 : BufTy.Contents (Elt F) arg12.view.ty) (X_arg14 : BufTy.Contents (Elt F) arg14.view.ty)

/-- The state pieces one trip writes, newest first: each head's next state over its own slab. -/
abbrev stPieces (k : Fin k0_t1_loop.trips) : List (View.Piece (Elt F) S8x128x128 .f32) :=
  [⟨(Rect.unit (s := S8x128x128) ![7, 0, 0] S1x128x128.size inb_S8x128x128_S1x128x128_7_0_0), headSt (arg4.view.readAt (Elt F) (Rect.unit (s := S1024x1024) (k0_off8 k) S128x128.size (k0_off8_inb k)).toLoadRect X_arg4) (arg5.view.readAt (Elt F) (Rect.unit (s := S1024x1024) (k0_off8 k) S128x128.size (k0_off8_inb k)).toLoadRect X_arg5) (arg10.view.readAt (Elt F) (Rect.unit (s := S8x128x128) ![7, 0, 0] S1x128x128.size inb_S8x128x128_S1x128x128_7_0_0).toLoadRect X_arg10) (arg9.view.readAt (Elt F) (Rect.unit (s := S8x128x128) ![7, 0, 0] S1x128x128.size inb_S8x128x128_S1x128x128_7_0_0).toLoadRect X_arg9) (arg14.view.readAt (Elt F) (Rect.unit (s := S8x128x128) ![7, 0, 0] S1x128x128.size inb_S8x128x128_S1x128x128_7_0_0).toLoadRect X_arg14)⟩,
   ⟨(Rect.unit (s := S8x128x128) ![6, 0, 0] S1x128x128.size inb_S8x128x128_S1x128x128_6_0_0), headSt (arg4.view.readAt (Elt F) (Rect.unit (s := S1024x1024) (k0_off7 k) S128x128.size (k0_off7_inb k)).toLoadRect X_arg4) (arg5.view.readAt (Elt F) (Rect.unit (s := S1024x1024) (k0_off7 k) S128x128.size (k0_off7_inb k)).toLoadRect X_arg5) (arg10.view.readAt (Elt F) (Rect.unit (s := S8x128x128) ![6, 0, 0] S1x128x128.size inb_S8x128x128_S1x128x128_6_0_0).toLoadRect X_arg10) (arg9.view.readAt (Elt F) (Rect.unit (s := S8x128x128) ![6, 0, 0] S1x128x128.size inb_S8x128x128_S1x128x128_6_0_0).toLoadRect X_arg9) (arg14.view.readAt (Elt F) (Rect.unit (s := S8x128x128) ![6, 0, 0] S1x128x128.size inb_S8x128x128_S1x128x128_6_0_0).toLoadRect X_arg14)⟩,
   ⟨(Rect.unit (s := S8x128x128) ![5, 0, 0] S1x128x128.size inb_S8x128x128_S1x128x128_5_0_0), headSt (arg4.view.readAt (Elt F) (Rect.unit (s := S1024x1024) (k0_off6 k) S128x128.size (k0_off6_inb k)).toLoadRect X_arg4) (arg5.view.readAt (Elt F) (Rect.unit (s := S1024x1024) (k0_off6 k) S128x128.size (k0_off6_inb k)).toLoadRect X_arg5) (arg10.view.readAt (Elt F) (Rect.unit (s := S8x128x128) ![5, 0, 0] S1x128x128.size inb_S8x128x128_S1x128x128_5_0_0).toLoadRect X_arg10) (arg9.view.readAt (Elt F) (Rect.unit (s := S8x128x128) ![5, 0, 0] S1x128x128.size inb_S8x128x128_S1x128x128_5_0_0).toLoadRect X_arg9) (arg14.view.readAt (Elt F) (Rect.unit (s := S8x128x128) ![5, 0, 0] S1x128x128.size inb_S8x128x128_S1x128x128_5_0_0).toLoadRect X_arg14)⟩,
   ⟨(Rect.unit (s := S8x128x128) ![4, 0, 0] S1x128x128.size inb_S8x128x128_S1x128x128_4_0_0), headSt (arg4.view.readAt (Elt F) (Rect.unit (s := S1024x1024) (k0_off5 k) S128x128.size (k0_off5_inb k)).toLoadRect X_arg4) (arg5.view.readAt (Elt F) (Rect.unit (s := S1024x1024) (k0_off5 k) S128x128.size (k0_off5_inb k)).toLoadRect X_arg5) (arg10.view.readAt (Elt F) (Rect.unit (s := S8x128x128) ![4, 0, 0] S1x128x128.size inb_S8x128x128_S1x128x128_4_0_0).toLoadRect X_arg10) (arg9.view.readAt (Elt F) (Rect.unit (s := S8x128x128) ![4, 0, 0] S1x128x128.size inb_S8x128x128_S1x128x128_4_0_0).toLoadRect X_arg9) (arg14.view.readAt (Elt F) (Rect.unit (s := S8x128x128) ![4, 0, 0] S1x128x128.size inb_S8x128x128_S1x128x128_4_0_0).toLoadRect X_arg14)⟩,
   ⟨(Rect.unit (s := S8x128x128) ![3, 0, 0] S1x128x128.size inb_S8x128x128_S1x128x128_3_0_0), headSt (arg4.view.readAt (Elt F) (Rect.unit (s := S1024x1024) (k0_off4 k) S128x128.size (k0_off4_inb k)).toLoadRect X_arg4) (arg5.view.readAt (Elt F) (Rect.unit (s := S1024x1024) (k0_off4 k) S128x128.size (k0_off4_inb k)).toLoadRect X_arg5) (arg10.view.readAt (Elt F) (Rect.unit (s := S8x128x128) ![3, 0, 0] S1x128x128.size inb_S8x128x128_S1x128x128_3_0_0).toLoadRect X_arg10) (arg9.view.readAt (Elt F) (Rect.unit (s := S8x128x128) ![3, 0, 0] S1x128x128.size inb_S8x128x128_S1x128x128_3_0_0).toLoadRect X_arg9) (arg14.view.readAt (Elt F) (Rect.unit (s := S8x128x128) ![3, 0, 0] S1x128x128.size inb_S8x128x128_S1x128x128_3_0_0).toLoadRect X_arg14)⟩,
   ⟨(Rect.unit (s := S8x128x128) ![2, 0, 0] S1x128x128.size inb_S8x128x128_S1x128x128_2_0_0), headSt (arg4.view.readAt (Elt F) (Rect.unit (s := S1024x1024) (k0_off3 k) S128x128.size (k0_off3_inb k)).toLoadRect X_arg4) (arg5.view.readAt (Elt F) (Rect.unit (s := S1024x1024) (k0_off3 k) S128x128.size (k0_off3_inb k)).toLoadRect X_arg5) (arg10.view.readAt (Elt F) (Rect.unit (s := S8x128x128) ![2, 0, 0] S1x128x128.size inb_S8x128x128_S1x128x128_2_0_0).toLoadRect X_arg10) (arg9.view.readAt (Elt F) (Rect.unit (s := S8x128x128) ![2, 0, 0] S1x128x128.size inb_S8x128x128_S1x128x128_2_0_0).toLoadRect X_arg9) (arg14.view.readAt (Elt F) (Rect.unit (s := S8x128x128) ![2, 0, 0] S1x128x128.size inb_S8x128x128_S1x128x128_2_0_0).toLoadRect X_arg14)⟩,
   ⟨(Rect.unit (s := S8x128x128) ![1, 0, 0] S1x128x128.size inb_S8x128x128_S1x128x128_1_0_0), headSt (arg4.view.readAt (Elt F) (Rect.unit (s := S1024x1024) (k0_off2 k) S128x128.size (k0_off2_inb k)).toLoadRect X_arg4) (arg5.view.readAt (Elt F) (Rect.unit (s := S1024x1024) (k0_off2 k) S128x128.size (k0_off2_inb k)).toLoadRect X_arg5) (arg10.view.readAt (Elt F) (Rect.unit (s := S8x128x128) ![1, 0, 0] S1x128x128.size inb_S8x128x128_S1x128x128_1_0_0).toLoadRect X_arg10) (arg9.view.readAt (Elt F) (Rect.unit (s := S8x128x128) ![1, 0, 0] S1x128x128.size inb_S8x128x128_S1x128x128_1_0_0).toLoadRect X_arg9) (arg14.view.readAt (Elt F) (Rect.unit (s := S8x128x128) ![1, 0, 0] S1x128x128.size inb_S8x128x128_S1x128x128_1_0_0).toLoadRect X_arg14)⟩,
   ⟨(Rect.unit (s := S8x128x128) ![0, 0, 0] S1x128x128.size inb_S8x128x128_S1x128x128_0_0_0), headSt (arg4.view.readAt (Elt F) (Rect.unit (s := S1024x1024) (k0_off1 k) S128x128.size (k0_off1_inb k)).toLoadRect X_arg4) (arg5.view.readAt (Elt F) (Rect.unit (s := S1024x1024) (k0_off1 k) S128x128.size (k0_off1_inb k)).toLoadRect X_arg5) (arg10.view.readAt (Elt F) (Rect.unit (s := S8x128x128) ![0, 0, 0] S1x128x128.size inb_S8x128x128_S1x128x128_0_0_0).toLoadRect X_arg10) (arg9.view.readAt (Elt F) (Rect.unit (s := S8x128x128) ![0, 0, 0] S1x128x128.size inb_S8x128x128_S1x128x128_0_0_0).toLoadRect X_arg9) (arg14.view.readAt (Elt F) (Rect.unit (s := S8x128x128) ![0, 0, 0] S1x128x128.size inb_S8x128x128_S1x128x128_0_0_0).toLoadRect X_arg14)⟩]

/-- The output pieces one trip writes, newest first: each head's rows over its own columns. -/
abbrev outPieces (k : Fin k0_t1_loop.trips) : List (View.Piece (Elt F) S1024x1024 .bf16) :=
  [⟨(Rect.unit (s := S1024x1024) (k0_off8 k) S128x128.size (k0_off8_inb k)), headOut (arg3.view.readAt (Elt F) (Rect.unit (s := S1024x1024) (k0_off8 k) S128x128.size (k0_off8_inb k)).toLoadRect X_arg3) (arg4.view.readAt (Elt F) (Rect.unit (s := S1024x1024) (k0_off8 k) S128x128.size (k0_off8_inb k)).toLoadRect X_arg4) (arg5.view.readAt (Elt F) (Rect.unit (s := S1024x1024) (k0_off8 k) S128x128.size (k0_off8_inb k)).toLoadRect X_arg5) (arg6.view.readAt (Elt F) (Rect.unit (s := S1024x1024) (k0_off8 k) S128x128.size (k0_off8_inb k)).toLoadRect X_arg6) (arg7.view.readAt (Elt F) (Rect.unit (s := S8x128x128) ![7, 0, 0] S1x128x128.size inb_S8x128x128_S1x128x128_7_0_0).toLoadRect X_arg7) (arg8.view.readAt (Elt F) (Rect.unit (s := S8x128x128) ![7, 0, 0] S1x128x128.size inb_S8x128x128_S1x128x128_7_0_0).toLoadRect X_arg8) (arg14.view.readAt (Elt F) (Rect.unit (s := S8x128x128) ![7, 0, 0] S1x128x128.size inb_S8x128x128_S1x128x128_7_0_0).toLoadRect X_arg14) (arg11.view.readAt (Elt F) (Rect.unit (s := S1x1024) ![0, 896] S1x128.size inb_S1x1024_S1x128_0_896).toLoadRect X_arg11)⟩,
   ⟨(Rect.unit (s := S1024x1024) (k0_off7 k) S128x128.size (k0_off7_inb k)), headOut (arg3.view.readAt (Elt F) (Rect.unit (s := S1024x1024) (k0_off7 k) S128x128.size (k0_off7_inb k)).toLoadRect X_arg3) (arg4.view.readAt (Elt F) (Rect.unit (s := S1024x1024) (k0_off7 k) S128x128.size (k0_off7_inb k)).toLoadRect X_arg4) (arg5.view.readAt (Elt F) (Rect.unit (s := S1024x1024) (k0_off7 k) S128x128.size (k0_off7_inb k)).toLoadRect X_arg5) (arg6.view.readAt (Elt F) (Rect.unit (s := S1024x1024) (k0_off7 k) S128x128.size (k0_off7_inb k)).toLoadRect X_arg6) (arg7.view.readAt (Elt F) (Rect.unit (s := S8x128x128) ![6, 0, 0] S1x128x128.size inb_S8x128x128_S1x128x128_6_0_0).toLoadRect X_arg7) (arg8.view.readAt (Elt F) (Rect.unit (s := S8x128x128) ![6, 0, 0] S1x128x128.size inb_S8x128x128_S1x128x128_6_0_0).toLoadRect X_arg8) (arg14.view.readAt (Elt F) (Rect.unit (s := S8x128x128) ![6, 0, 0] S1x128x128.size inb_S8x128x128_S1x128x128_6_0_0).toLoadRect X_arg14) (arg11.view.readAt (Elt F) (Rect.unit (s := S1x1024) ![0, 768] S1x128.size inb_S1x1024_S1x128_0_768).toLoadRect X_arg11)⟩,
   ⟨(Rect.unit (s := S1024x1024) (k0_off6 k) S128x128.size (k0_off6_inb k)), headOut (arg3.view.readAt (Elt F) (Rect.unit (s := S1024x1024) (k0_off6 k) S128x128.size (k0_off6_inb k)).toLoadRect X_arg3) (arg4.view.readAt (Elt F) (Rect.unit (s := S1024x1024) (k0_off6 k) S128x128.size (k0_off6_inb k)).toLoadRect X_arg4) (arg5.view.readAt (Elt F) (Rect.unit (s := S1024x1024) (k0_off6 k) S128x128.size (k0_off6_inb k)).toLoadRect X_arg5) (arg6.view.readAt (Elt F) (Rect.unit (s := S1024x1024) (k0_off6 k) S128x128.size (k0_off6_inb k)).toLoadRect X_arg6) (arg7.view.readAt (Elt F) (Rect.unit (s := S8x128x128) ![5, 0, 0] S1x128x128.size inb_S8x128x128_S1x128x128_5_0_0).toLoadRect X_arg7) (arg8.view.readAt (Elt F) (Rect.unit (s := S8x128x128) ![5, 0, 0] S1x128x128.size inb_S8x128x128_S1x128x128_5_0_0).toLoadRect X_arg8) (arg14.view.readAt (Elt F) (Rect.unit (s := S8x128x128) ![5, 0, 0] S1x128x128.size inb_S8x128x128_S1x128x128_5_0_0).toLoadRect X_arg14) (arg11.view.readAt (Elt F) (Rect.unit (s := S1x1024) ![0, 640] S1x128.size inb_S1x1024_S1x128_0_640).toLoadRect X_arg11)⟩,
   ⟨(Rect.unit (s := S1024x1024) (k0_off5 k) S128x128.size (k0_off5_inb k)), headOut (arg3.view.readAt (Elt F) (Rect.unit (s := S1024x1024) (k0_off5 k) S128x128.size (k0_off5_inb k)).toLoadRect X_arg3) (arg4.view.readAt (Elt F) (Rect.unit (s := S1024x1024) (k0_off5 k) S128x128.size (k0_off5_inb k)).toLoadRect X_arg4) (arg5.view.readAt (Elt F) (Rect.unit (s := S1024x1024) (k0_off5 k) S128x128.size (k0_off5_inb k)).toLoadRect X_arg5) (arg6.view.readAt (Elt F) (Rect.unit (s := S1024x1024) (k0_off5 k) S128x128.size (k0_off5_inb k)).toLoadRect X_arg6) (arg7.view.readAt (Elt F) (Rect.unit (s := S8x128x128) ![4, 0, 0] S1x128x128.size inb_S8x128x128_S1x128x128_4_0_0).toLoadRect X_arg7) (arg8.view.readAt (Elt F) (Rect.unit (s := S8x128x128) ![4, 0, 0] S1x128x128.size inb_S8x128x128_S1x128x128_4_0_0).toLoadRect X_arg8) (arg14.view.readAt (Elt F) (Rect.unit (s := S8x128x128) ![4, 0, 0] S1x128x128.size inb_S8x128x128_S1x128x128_4_0_0).toLoadRect X_arg14) (arg11.view.readAt (Elt F) (Rect.unit (s := S1x1024) ![0, 512] S1x128.size inb_S1x1024_S1x128_0_512).toLoadRect X_arg11)⟩,
   ⟨(Rect.unit (s := S1024x1024) (k0_off4 k) S128x128.size (k0_off4_inb k)), headOut (arg3.view.readAt (Elt F) (Rect.unit (s := S1024x1024) (k0_off4 k) S128x128.size (k0_off4_inb k)).toLoadRect X_arg3) (arg4.view.readAt (Elt F) (Rect.unit (s := S1024x1024) (k0_off4 k) S128x128.size (k0_off4_inb k)).toLoadRect X_arg4) (arg5.view.readAt (Elt F) (Rect.unit (s := S1024x1024) (k0_off4 k) S128x128.size (k0_off4_inb k)).toLoadRect X_arg5) (arg6.view.readAt (Elt F) (Rect.unit (s := S1024x1024) (k0_off4 k) S128x128.size (k0_off4_inb k)).toLoadRect X_arg6) (arg7.view.readAt (Elt F) (Rect.unit (s := S8x128x128) ![3, 0, 0] S1x128x128.size inb_S8x128x128_S1x128x128_3_0_0).toLoadRect X_arg7) (arg8.view.readAt (Elt F) (Rect.unit (s := S8x128x128) ![3, 0, 0] S1x128x128.size inb_S8x128x128_S1x128x128_3_0_0).toLoadRect X_arg8) (arg14.view.readAt (Elt F) (Rect.unit (s := S8x128x128) ![3, 0, 0] S1x128x128.size inb_S8x128x128_S1x128x128_3_0_0).toLoadRect X_arg14) (arg11.view.readAt (Elt F) (Rect.unit (s := S1x1024) ![0, 384] S1x128.size inb_S1x1024_S1x128_0_384).toLoadRect X_arg11)⟩,
   ⟨(Rect.unit (s := S1024x1024) (k0_off3 k) S128x128.size (k0_off3_inb k)), headOut (arg3.view.readAt (Elt F) (Rect.unit (s := S1024x1024) (k0_off3 k) S128x128.size (k0_off3_inb k)).toLoadRect X_arg3) (arg4.view.readAt (Elt F) (Rect.unit (s := S1024x1024) (k0_off3 k) S128x128.size (k0_off3_inb k)).toLoadRect X_arg4) (arg5.view.readAt (Elt F) (Rect.unit (s := S1024x1024) (k0_off3 k) S128x128.size (k0_off3_inb k)).toLoadRect X_arg5) (arg6.view.readAt (Elt F) (Rect.unit (s := S1024x1024) (k0_off3 k) S128x128.size (k0_off3_inb k)).toLoadRect X_arg6) (arg7.view.readAt (Elt F) (Rect.unit (s := S8x128x128) ![2, 0, 0] S1x128x128.size inb_S8x128x128_S1x128x128_2_0_0).toLoadRect X_arg7) (arg8.view.readAt (Elt F) (Rect.unit (s := S8x128x128) ![2, 0, 0] S1x128x128.size inb_S8x128x128_S1x128x128_2_0_0).toLoadRect X_arg8) (arg14.view.readAt (Elt F) (Rect.unit (s := S8x128x128) ![2, 0, 0] S1x128x128.size inb_S8x128x128_S1x128x128_2_0_0).toLoadRect X_arg14) (arg11.view.readAt (Elt F) (Rect.unit (s := S1x1024) ![0, 256] S1x128.size inb_S1x1024_S1x128_0_256).toLoadRect X_arg11)⟩,
   ⟨(Rect.unit (s := S1024x1024) (k0_off2 k) S128x128.size (k0_off2_inb k)), headOut (arg3.view.readAt (Elt F) (Rect.unit (s := S1024x1024) (k0_off2 k) S128x128.size (k0_off2_inb k)).toLoadRect X_arg3) (arg4.view.readAt (Elt F) (Rect.unit (s := S1024x1024) (k0_off2 k) S128x128.size (k0_off2_inb k)).toLoadRect X_arg4) (arg5.view.readAt (Elt F) (Rect.unit (s := S1024x1024) (k0_off2 k) S128x128.size (k0_off2_inb k)).toLoadRect X_arg5) (arg6.view.readAt (Elt F) (Rect.unit (s := S1024x1024) (k0_off2 k) S128x128.size (k0_off2_inb k)).toLoadRect X_arg6) (arg7.view.readAt (Elt F) (Rect.unit (s := S8x128x128) ![1, 0, 0] S1x128x128.size inb_S8x128x128_S1x128x128_1_0_0).toLoadRect X_arg7) (arg8.view.readAt (Elt F) (Rect.unit (s := S8x128x128) ![1, 0, 0] S1x128x128.size inb_S8x128x128_S1x128x128_1_0_0).toLoadRect X_arg8) (arg14.view.readAt (Elt F) (Rect.unit (s := S8x128x128) ![1, 0, 0] S1x128x128.size inb_S8x128x128_S1x128x128_1_0_0).toLoadRect X_arg14) (arg11.view.readAt (Elt F) (Rect.unit (s := S1x1024) ![0, 128] S1x128.size inb_S1x1024_S1x128_0_128).toLoadRect X_arg11)⟩,
   ⟨(Rect.unit (s := S1024x1024) (k0_off1 k) S128x128.size (k0_off1_inb k)), headOut (arg3.view.readAt (Elt F) (Rect.unit (s := S1024x1024) (k0_off1 k) S128x128.size (k0_off1_inb k)).toLoadRect X_arg3) (arg4.view.readAt (Elt F) (Rect.unit (s := S1024x1024) (k0_off1 k) S128x128.size (k0_off1_inb k)).toLoadRect X_arg4) (arg5.view.readAt (Elt F) (Rect.unit (s := S1024x1024) (k0_off1 k) S128x128.size (k0_off1_inb k)).toLoadRect X_arg5) (arg6.view.readAt (Elt F) (Rect.unit (s := S1024x1024) (k0_off1 k) S128x128.size (k0_off1_inb k)).toLoadRect X_arg6) (arg7.view.readAt (Elt F) (Rect.unit (s := S8x128x128) ![0, 0, 0] S1x128x128.size inb_S8x128x128_S1x128x128_0_0_0).toLoadRect X_arg7) (arg8.view.readAt (Elt F) (Rect.unit (s := S8x128x128) ![0, 0, 0] S1x128x128.size inb_S8x128x128_S1x128x128_0_0_0).toLoadRect X_arg8) (arg14.view.readAt (Elt F) (Rect.unit (s := S8x128x128) ![0, 0, 0] S1x128x128.size inb_S8x128x128_S1x128x128_0_0_0).toLoadRect X_arg14) (arg11.view.readAt (Elt F) (Rect.unit (s := S1x1024) ![0, 0] S1x128.size inb_S1x1024_S1x128_0_0).toLoadRect X_arg11)⟩]

set_option maxHeartbeats 4000000 in
/-- One trip of the chunk loop, from any contents of the buffers it reads and writes. -/
theorem trip (𝒱 : Variants) (c : Dev nD) (bd : Option 𝒱.V) (E : Set ℕ) (i : grid0.Coords) (k : Fin k0_t1_loop.trips) :
    (iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg14.view.loc (c : Thread nD τ) ↦[arg14.view.set]{fullShare} X_arg14)) : sProp 𝕄G)
    ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 k PUnit.unit)
        (fun _ => iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} arg12.view.writes (Elt F) X_arg12 (outPieces arg3 arg4 arg5 arg6 arg7 arg8 arg11 arg14 X_arg3 X_arg4 X_arg5 X_arg6 X_arg7 X_arg8 X_arg11 X_arg14 k)) ∗ (arg14.view.loc (c : Thread nD τ) ↦[arg14.view.set]{fullShare} arg14.view.writes (Elt F) X_arg14 (stPieces arg4 arg5 arg9 arg10 arg14 X_arg4 X_arg5 X_arg9 X_arg10 X_arg14 k)))) := by
  have hk : k.val < 8 := Nat.lt_of_lt_of_le k.isLt k0_t1_abs.2.1
  unfold k0_t1_body
  iintro ⟨Harg3, Harg4, Harg5, Harg6, Harg7, Harg8, Harg9, Harg10, Harg11, Harg12, Harg14⟩
  sl_exec
  sl_step
  isplitl [Harg3]; · iexact Harg3
  isplitl [Harg4]; · iexact Harg4
  isplitl [Harg5]; · iexact Harg5
  isplitl [Harg6]; · iexact Harg6
  isplitl [Harg7]; · iexact Harg7
  isplitl [Harg8]; · iexact Harg8
  isplitl [Harg9]; · iexact Harg9
  isplitl [Harg10]; · iexact Harg10
  isplitl [Harg11]; · iexact Harg11
  isplitl [Harg12]; · iexact Harg12
  iexact Harg14

end Cert.Ret

end
-- ==== Proof.Ret.Loop.lean ====
/-
  The retention kernel's chunk loop as one function of the arrays it reads: the state before each chunk, the block of
  outputs, and what one run of the kernel's body leaves behind in each of its three cases.
-/
module

public import proofs.«01_k».proof.Proof.Ret.Trip
public import Idealize.ShloMosaic.Lib.ValueIdx
public import Idealize.ShloMosaic.Lib.Pointwise.Index

@[expose] public section

set_option maxRecDepth 8192

noncomputable section

namespace Cert.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The 128-by-128 tile of a block at chunk `k` and head `h`. -/
def tile (x : Vec F S1024x1024 .f32) (k h : ℕ) : Vec F S128x128 .f32 := fun z =>
  x (ix2 ⟨(128 * k + (z 0).val) % 1024, Nat.mod_lt _ (by decide)⟩ ⟨(128 * h + (z 1).val) % 1024, Nat.mod_lt _ (by decide)⟩)

/-- One head's slab of a table or of the state. -/
def hd (x : Vec F S8x128x128 .f32) (h : ℕ) : Vec F S1x128x128 .f32 := fun z =>
  x (ix3 ⟨h % 8, Nat.mod_lt _ (by decide)⟩ (z 1) (z 2))

/-- One head's part of the normalisation gain. -/
def gnOf (x : Vec F S1x1024 .f32) (h : ℕ) : Vec F S1x128 .f32 := fun z =>
  x (ix2 0 ⟨(128 * h + (z 1).val) % 1024, Nat.mod_lt _ (by decide)⟩)

/-- The state of all eight heads after chunk `n`, from the state before it. -/
def stNext (k v : Vec F S1024x1024 .f32) (kd cd : Vec F S8x128x128 .f32) (n : ℕ) (st : Vec F S8x128x128 .f32) :
    Vec F S8x128x128 .f32 := fun y =>
  headSt (tile k n (y 0).val) (tile v n (y 0).val) (hd cd (y 0).val) (hd kd (y 0).val) (hd st (y 0).val) (ix3 0 (y 1) (y 2))

/-- The state before chunk `n`. -/
def stAt (k v : Vec F S1024x1024 .f32) (kd cd : Vec F S8x128x128 .f32) (st : Vec F S8x128x128 .f32) : ℕ → Vec F S8x128x128 .f32
  | 0 => st
  | n + 1 => stNext k v kd cd n (stAt k v kd cd st n)

/-- The outputs of chunk `n` and head `h`. -/
def outTile (q k v rg : Vec F S1024x1024 .f32) (intra qd kd cd : Vec F S8x128x128 .f32) (gn : Vec F S1x1024 .f32)
    (st : Vec F S8x128x128 .f32) (n h : ℕ) : Vec F S128x128 .bf16 :=
  headOut (tile q n h) (tile k n h) (tile v n h) (tile rg n h) (hd intra h) (hd qd h) (hd (stAt k v kd cd st n) h) (gnOf gn h)

/-- The block of outputs. -/
def outBlk (q k v rg : Vec F S1024x1024 .f32) (intra qd kd cd : Vec F S8x128x128 .f32) (gn : Vec F S1x1024 .f32)
    (st : Vec F S8x128x128 .f32) : Vec F S1024x1024 .bf16 := fun y =>
  outTile q k v rg intra qd kd cd gn st ((y 0).val / 128) ((y 1).val / 128)
    (ix2 ⟨(y 0).val % 128, Nat.mod_lt _ (by decide)⟩ ⟨(y 1).val % 128, Nat.mod_lt _ (by decide)⟩)

/-- A load of a tile reads that tile. -/
theorem readAt_tile {m : Memref sig .tc .vmem S1024x1024 .f32} (X : BufTy.Contents (Elt F) m.view.ty) {off : Fin 2 → ℕ}
    (inb : ∀ a, off a + S128x128.size a ≤ S1024x1024.size a) (k h : ℕ) (hk : k < 8) (hh : h < 8) (ho : off = ![128 * k, 128 * h]) :
    m.view.readAt (Elt F) (Rect.unit (s := S1024x1024) off S128x128.size inb).toLoadRect X = tile (m.view.read (Elt F) X) k h := by
  subst ho
  funext z
  have h0 : (z 0).val < 128 := (z 0).isLt
  have h1 : (z 1).val < 128 := (z 1).isLt
  refine congrArg (m.view.read (Elt F) X) (funext fun a => Fin.ext ?_)
  match a with
  | ⟨0, _⟩ => show 128 * k + 1 * (z 0).val = (128 * k + (z 0).val) % 1024; omega
  | ⟨1, _⟩ => show 128 * h + 1 * (z 1).val = (128 * h + (z 1).val) % 1024; omega

/-- A load of a head's slab reads that slab. -/
theorem readAt_hd {m : Memref sig .tc .vmem S8x128x128 .f32} (X : BufTy.Contents (Elt F) m.view.ty) (h : ℕ) (hh : h < 8)
    (inb : ∀ a, (![h, 0, 0] : Fin 3 → ℕ) a + S1x128x128.size a ≤ S8x128x128.size a) :
    m.view.readAt (Elt F) (Rect.unit (s := S8x128x128) ![h, 0, 0] S1x128x128.size inb).toLoadRect X = hd (m.view.read (Elt F) X) h := by
  funext z
  have h0 : (z 0).val < 1 := (z 0).isLt
  refine congrArg (m.view.read (Elt F) X) (funext fun a => Fin.ext ?_)
  match a with
  | ⟨0, _⟩ => show h + 1 * (z 0).val = h % 8; omega
  | ⟨1, _⟩ => show 0 + 1 * (z 1).val = (z 1).val; omega
  | ⟨2, _⟩ => show 0 + 1 * (z 2).val = (z 2).val; omega

/-- A load of a head's gain reads that gain. -/
theorem readAt_gn {m : Memref sig .tc .vmem S1x1024 .f32} (X : BufTy.Contents (Elt F) m.view.ty) (h o : ℕ) (hh : h < 8)
    (ho : o = 128 * h) (inb : ∀ a, (![0, o] : Fin 2 → ℕ) a + S1x128.size a ≤ S1x1024.size a) :
    m.view.readAt (Elt F) (Rect.unit (s := S1x1024) ![0, o] S1x128.size inb).toLoadRect X = gnOf (m.view.read (Elt F) X) h := by
  subst ho
  funext z
  have h0 : (z 0).val < 1 := (z 0).isLt
  have h1 : (z 1).val < 128 := (z 1).isLt
  refine congrArg (m.view.read (Elt F) X) (funext fun a => Fin.ext ?_)
  match a with
  | ⟨0, _⟩ => show 0 + 1 * (z 0).val = 0; omega
  | ⟨1, _⟩ => show 128 * h + 1 * (z 1).val = (128 * h + (z 1).val) % 1024; omega

variable (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x8x128x128 .f32) (harg13 : arg13.IsWhole) (arg14 : Memref sig .tc .vmem S8x128x128 .f32) (harg14 : arg14.IsWhole)
variable (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty)
variable (X_arg12 : BufTy.Contents (Elt F) arg12.view.ty) (X_arg14 : BufTy.Contents (Elt F) arg14.view.ty)

/-- An element of a head's slab is at its last two coordinates in the slab. -/
theorem stMem (y : S8x128x128.Idx) (h : ℕ) (hy : (y 0).val = h) :
    ∀ a : Fin 3, (y a).val = (![h, 0, 0] : Fin 3 → ℕ) a + ((ix3 0 (y 1) (y 2) : S1x128x128.Idx) a).val := fun a => by
  match a with
  | ⟨0, _⟩ => show (y 0).val = h + 0; omega
  | ⟨1, _⟩ => show (y 1).val = 0 + (y 1).val; omega
  | ⟨2, _⟩ => show (y 2).val = 0 + (y 2).val; omega

/-- After one trip the state buffer reads as the next state. -/
theorem read_stPieces (k : Fin k0_t1_loop.trips) :
    arg14.view.read (Elt F) (arg14.view.writes (Elt F) X_arg14 (stPieces arg4 arg5 arg9 arg10 arg14 X_arg4 X_arg5 X_arg9 X_arg10 X_arg14 k)) = stNext (arg4.view.read (Elt F) X_arg4) (arg5.view.read (Elt F) X_arg5) (arg9.view.read (Elt F) X_arg9) (arg10.view.read (Elt F) X_arg10) k.val (arg14.view.read (Elt F) X_arg14) := by
  have hk : k.val < 8 := lt_of_lt_of_le k.isLt k0_t1_abs.2.1
  funext y
  have h8 : (y 0).val < 8 := (y 0).isLt
  rcases (by omega : (y 0).val = 0 ∨ (y 0).val = 1 ∨ (y 0).val = 2 ∨ (y 0).val = 3 ∨ (y 0).val = 4 ∨ (y 0).val = 5 ∨ (y 0).val = 6 ∨ (y 0).val = 7) with hy | hy | hy | hy | hy | hy | hy | hy
  · refine (View.read_writes_cons_unit_of_not_mem (s := S8x128x128) (v := arg14.view) (f := X_arg14) (off' := ![7, 0, 0]) _ _ _ y rfl (0 : Fin 3) (Or.inl (by show (y 0).val < 7; omega))).trans ?_
    refine (View.read_writes_cons_unit_of_not_mem (s := S8x128x128) (v := arg14.view) (f := X_arg14) (off' := ![6, 0, 0]) _ _ _ y rfl (0 : Fin 3) (Or.inl (by show (y 0).val < 6; omega))).trans ?_
    refine (View.read_writes_cons_unit_of_not_mem (s := S8x128x128) (v := arg14.view) (f := X_arg14) (off' := ![5, 0, 0]) _ _ _ y rfl (0 : Fin 3) (Or.inl (by show (y 0).val < 5; omega))).trans ?_
    refine (View.read_writes_cons_unit_of_not_mem (s := S8x128x128) (v := arg14.view) (f := X_arg14) (off' := ![4, 0, 0]) _ _ _ y rfl (0 : Fin 3) (Or.inl (by show (y 0).val < 4; omega))).trans ?_
    refine (View.read_writes_cons_unit_of_not_mem (s := S8x128x128) (v := arg14.view) (f := X_arg14) (off' := ![3, 0, 0]) _ _ _ y rfl (0 : Fin 3) (Or.inl (by show (y 0).val < 3; omega))).trans ?_
    refine (View.read_writes_cons_unit_of_not_mem (s := S8x128x128) (v := arg14.view) (f := X_arg14) (off' := ![2, 0, 0]) _ _ _ y rfl (0 : Fin 3) (Or.inl (by show (y 0).val < 2; omega))).trans ?_
    refine (View.read_writes_cons_unit_of_not_mem (s := S8x128x128) (v := arg14.view) (f := X_arg14) (off' := ![1, 0, 0]) _ _ _ y rfl (0 : Fin 3) (Or.inl (by show (y 0).val < 1; omega))).trans ?_
    refine (View.read_writes_cons_unit_of_mem (s := S8x128x128) (v := arg14.view) (f := X_arg14) (off' := ![0, 0, 0]) _ _ _ y (ix3 0 (y 1) (y 2)) rfl (stMem y 0 hy)).trans ?_
    rw [readAt_tile _ _ k.val 0 hk (by decide) (k0_off1_eq k), readAt_tile _ _ k.val 0 hk (by decide) (k0_off1_eq k), readAt_hd _ 0 (by decide), readAt_hd _ 0 (by decide), readAt_hd _ 0 (by decide)]
    unfold stNext; rw [hy]; rfl
  · refine (View.read_writes_cons_unit_of_not_mem (s := S8x128x128) (v := arg14.view) (f := X_arg14) (off' := ![7, 0, 0]) _ _ _ y rfl (0 : Fin 3) (Or.inl (by show (y 0).val < 7; omega))).trans ?_
    refine (View.read_writes_cons_unit_of_not_mem (s := S8x128x128) (v := arg14.view) (f := X_arg14) (off' := ![6, 0, 0]) _ _ _ y rfl (0 : Fin 3) (Or.inl (by show (y 0).val < 6; omega))).trans ?_
    refine (View.read_writes_cons_unit_of_not_mem (s := S8x128x128) (v := arg14.view) (f := X_arg14) (off' := ![5, 0, 0]) _ _ _ y rfl (0 : Fin 3) (Or.inl (by show (y 0).val < 5; omega))).trans ?_
    refine (View.read_writes_cons_unit_of_not_mem (s := S8x128x128) (v := arg14.view) (f := X_arg14) (off' := ![4, 0, 0]) _ _ _ y rfl (0 : Fin 3) (Or.inl (by show (y 0).val < 4; omega))).trans ?_
    refine (View.read_writes_cons_unit_of_not_mem (s := S8x128x128) (v := arg14.view) (f := X_arg14) (off' := ![3, 0, 0]) _ _ _ y rfl (0 : Fin 3) (Or.inl (by show (y 0).val < 3; omega))).trans ?_
    refine (View.read_writes_cons_unit_of_not_mem (s := S8x128x128) (v := arg14.view) (f := X_arg14) (off' := ![2, 0, 0]) _ _ _ y rfl (0 : Fin 3) (Or.inl (by show (y 0).val < 2; omega))).trans ?_
    refine (View.read_writes_cons_unit_of_mem (s := S8x128x128) (v := arg14.view) (f := X_arg14) (off' := ![1, 0, 0]) _ _ _ y (ix3 0 (y 1) (y 2)) rfl (stMem y 1 hy)).trans ?_
    rw [readAt_tile _ _ k.val 1 hk (by decide) (k0_off2_eq k), readAt_tile _ _ k.val 1 hk (by decide) (k0_off2_eq k), readAt_hd _ 1 (by decide), readAt_hd _ 1 (by decide), readAt_hd _ 1 (by decide)]
    unfold stNext; rw [hy]; rfl
  · refine (View.read_writes_cons_unit_of_not_mem (s := S8x128x128) (v := arg14.view) (f := X_arg14) (off' := ![7, 0, 0]) _ _ _ y rfl (0 : Fin 3) (Or.inl (by show (y 0).val < 7; omega))).trans ?_
    refine (View.read_writes_cons_unit_of_not_mem (s := S8x128x128) (v := arg14.view) (f := X_arg14) (off' := ![6, 0, 0]) _ _ _ y rfl (0 : Fin 3) (Or.inl (by show (y 0).val < 6; omega))).trans ?_
    refine (View.read_writes_cons_unit_of_not_mem (s := S8x128x128) (v := arg14.view) (f := X_arg14) (off' := ![5, 0, 0]) _ _ _ y rfl (0 : Fin 3) (Or.inl (by show (y 0).val < 5; omega))).trans ?_
    refine (View.read_writes_cons_unit_of_not_mem (s := S8x128x128) (v := arg14.view) (f := X_arg14) (off' := ![4, 0, 0]) _ _ _ y rfl (0 : Fin 3) (Or.inl (by show (y 0).val < 4; omega))).trans ?_
    refine (View.read_writes_cons_unit_of_not_mem (s := S8x128x128) (v := arg14.view) (f := X_arg14) (off' := ![3, 0, 0]) _ _ _ y rfl (0 : Fin 3) (Or.inl (by show (y 0).val < 3; omega))).trans ?_
    refine (View.read_writes_cons_unit_of_mem (s := S8x128x128) (v := arg14.view) (f := X_arg14) (off' := ![2, 0, 0]) _ _ _ y (ix3 0 (y 1) (y 2)) rfl (stMem y 2 hy)).trans ?_
    rw [readAt_tile _ _ k.val 2 hk (by decide) (k0_off3_eq k), readAt_tile _ _ k.val 2 hk (by decide) (k0_off3_eq k), readAt_hd _ 2 (by decide), readAt_hd _ 2 (by decide), readAt_hd _ 2 (by decide)]
    unfold stNext; rw [hy]; rfl
  · refine (View.read_writes_cons_unit_of_not_mem (s := S8x128x128) (v := arg14.view) (f := X_arg14) (off' := ![7, 0, 0]) _ _ _ y rfl (0 : Fin 3) (Or.inl (by show (y 0).val < 7; omega))).trans ?_
    refine (View.read_writes_cons_unit_of_not_mem (s := S8x128x128) (v := arg14.view) (f := X_arg14) (off' := ![6, 0, 0]) _ _ _ y rfl (0 : Fin 3) (Or.inl (by show (y 0).val < 6; omega))).trans ?_
    refine (View.read_writes_cons_unit_of_not_mem (s := S8x128x128) (v := arg14.view) (f := X_arg14) (off' := ![5, 0, 0]) _ _ _ y rfl (0 : Fin 3) (Or.inl (by show (y 0).val < 5; omega))).trans ?_
    refine (View.read_writes_cons_unit_of_not_mem (s := S8x128x128) (v := arg14.view) (f := X_arg14) (off' := ![4, 0, 0]) _ _ _ y rfl (0 : Fin 3) (Or.inl (by show (y 0).val < 4; omega))).trans ?_
    refine (View.read_writes_cons_unit_of_mem (s := S8x128x128) (v := arg14.view) (f := X_arg14) (off' := ![3, 0, 0]) _ _ _ y (ix3 0 (y 1) (y 2)) rfl (stMem y 3 hy)).trans ?_
    rw [readAt_tile _ _ k.val 3 hk (by decide) (k0_off4_eq k), readAt_tile _ _ k.val 3 hk (by decide) (k0_off4_eq k), readAt_hd _ 3 (by decide), readAt_hd _ 3 (by decide), readAt_hd _ 3 (by decide)]
    unfold stNext; rw [hy]; rfl
  · refine (View.read_writes_cons_unit_of_not_mem (s := S8x128x128) (v := arg14.view) (f := X_arg14) (off' := ![7, 0, 0]) _ _ _ y rfl (0 : Fin 3) (Or.inl (by show (y 0).val < 7; omega))).trans ?_
    refine (View.read_writes_cons_unit_of_not_mem (s := S8x128x128) (v := arg14.view) (f := X_arg14) (off' := ![6, 0, 0]) _ _ _ y rfl (0 : Fin 3) (Or.inl (by show (y 0).val < 6; omega))).trans ?_
    refine (View.read_writes_cons_unit_of_not_mem (s := S8x128x128) (v := arg14.view) (f := X_arg14) (off' := ![5, 0, 0]) _ _ _ y rfl (0 : Fin 3) (Or.inl (by show (y 0).val < 5; omega))).trans ?_
    refine (View.read_writes_cons_unit_of_mem (s := S8x128x128) (v := arg14.view) (f := X_arg14) (off' := ![4, 0, 0]) _ _ _ y (ix3 0 (y 1) (y 2)) rfl (stMem y 4 hy)).trans ?_
    rw [readAt_tile _ _ k.val 4 hk (by decide) (k0_off5_eq k), readAt_tile _ _ k.val 4 hk (by decide) (k0_off5_eq k), readAt_hd _ 4 (by decide), readAt_hd _ 4 (by decide), readAt_hd _ 4 (by decide)]
    unfold stNext; rw [hy]; rfl
  · refine (View.read_writes_cons_unit_of_not_mem (s := S8x128x128) (v := arg14.view) (f := X_arg14) (off' := ![7, 0, 0]) _ _ _ y rfl (0 : Fin 3) (Or.inl (by show (y 0).val < 7; omega))).trans ?_
    refine (View.read_writes_cons_unit_of_not_mem (s := S8x128x128) (v := arg14.view) (f := X_arg14) (off' := ![6, 0, 0]) _ _ _ y rfl (0 : Fin 3) (Or.inl (by show (y 0).val < 6; omega))).trans ?_
    refine (View.read_writes_cons_unit_of_mem (s := S8x128x128) (v := arg14.view) (f := X_arg14) (off' := ![5, 0, 0]) _ _ _ y (ix3 0 (y 1) (y 2)) rfl (stMem y 5 hy)).trans ?_
    rw [readAt_tile _ _ k.val 5 hk (by decide) (k0_off6_eq k), readAt_tile _ _ k.val 5 hk (by decide) (k0_off6_eq k), readAt_hd _ 5 (by decide), readAt_hd _ 5 (by decide), readAt_hd _ 5 (by decide)]
    unfold stNext; rw [hy]; rfl
  · refine (View.read_writes_cons_unit_of_not_mem (s := S8x128x128) (v := arg14.view) (f := X_arg14) (off' := ![7, 0, 0]) _ _ _ y rfl (0 : Fin 3) (Or.inl (by show (y 0).val < 7; omega))).trans ?_
    refine (View.read_writes_cons_unit_of_mem (s := S8x128x128) (v := arg14.view) (f := X_arg14) (off' := ![6, 0, 0]) _ _ _ y (ix3 0 (y 1) (y 2)) rfl (stMem y 6 hy)).trans ?_
    rw [readAt_tile _ _ k.val 6 hk (by decide) (k0_off7_eq k), readAt_tile _ _ k.val 6 hk (by decide) (k0_off7_eq k), readAt_hd _ 6 (by decide), readAt_hd _ 6 (by decide), readAt_hd _ 6 (by decide)]
    unfold stNext; rw [hy]; rfl
  · refine (View.read_writes_cons_unit_of_mem (s := S8x128x128) (v := arg14.view) (f := X_arg14) (off' := ![7, 0, 0]) _ _ _ y (ix3 0 (y 1) (y 2)) rfl (stMem y 7 hy)).trans ?_
    rw [readAt_tile _ _ k.val 7 hk (by decide) (k0_off8_eq k), readAt_tile _ _ k.val 7 hk (by decide) (k0_off8_eq k), readAt_hd _ 7 (by decide), readAt_hd _ 7 (by decide), readAt_hd _ 7 (by decide)]
    unfold stNext; rw [hy]; rfl

/-- An element of a tile of the block is at its remainders in the tile. -/
theorem outMem (y : S1024x1024.Idx) (k h : ℕ) (hr : (y 0).val / 128 = k) (hy : (y 1).val / 128 = h) :
    ∀ a : Fin 2, (y a).val = (![128 * k, 128 * h] : Fin 2 → ℕ) a + ((ix2 ⟨(y 0).val % 128, Nat.mod_lt _ (by decide)⟩ ⟨(y 1).val % 128, Nat.mod_lt _ (by decide)⟩ : S128x128.Idx) a).val := fun a => by
  match a with
  | ⟨0, _⟩ => show (y 0).val = 128 * k + (y 0).val % 128; omega
  | ⟨1, _⟩ => show (y 1).val = 128 * h + (y 1).val % 128; omega

/-- After trip `k` the output buffer reads as the block on the trip's rows. -/
theorem read_outPieces (k : Fin k0_t1_loop.trips) (st : Vec F S8x128x128 .f32)
    (hst : arg14.view.read (Elt F) X_arg14 = stAt (arg4.view.read (Elt F) X_arg4) (arg5.view.read (Elt F) X_arg5) (arg9.view.read (Elt F) X_arg9) (arg10.view.read (Elt F) X_arg10) st k.val) (y : S1024x1024.Idx) (hr : (y 0).val / 128 = k.val) :
    arg12.view.read (Elt F) (arg12.view.writes (Elt F) X_arg12 (outPieces arg3 arg4 arg5 arg6 arg7 arg8 arg11 arg14 X_arg3 X_arg4 X_arg5 X_arg6 X_arg7 X_arg8 X_arg11 X_arg14 k)) y = outBlk (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) st y := by
  have hk : k.val < 8 := lt_of_lt_of_le k.isLt k0_t1_abs.2.1
  have h8 : (y 1).val < 1024 := (y 1).isLt
  rcases (by omega : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7) with hy | hy | hy | hy | hy | hy | hy | hy
  · refine (View.read_writes_cons_unit_of_not_mem (s := S1024x1024) (v := arg12.view) (f := X_arg12) (off' := ![128 * k.val, 128 * 7]) _ _ _ y (k0_off8_eq k) (1 : Fin 2) (Or.inl (by show (y 1).val < 128 * 7; omega))).trans ?_
    refine (View.read_writes_cons_unit_of_not_mem (s := S1024x1024) (v := arg12.view) (f := X_arg12) (off' := ![128 * k.val, 128 * 6]) _ _ _ y (k0_off7_eq k) (1 : Fin 2) (Or.inl (by show (y 1).val < 128 * 6; omega))).trans ?_
    refine (View.read_writes_cons_unit_of_not_mem (s := S1024x1024) (v := arg12.view) (f := X_arg12) (off' := ![128 * k.val, 128 * 5]) _ _ _ y (k0_off6_eq k) (1 : Fin 2) (Or.inl (by show (y 1).val < 128 * 5; omega))).trans ?_
    refine (View.read_writes_cons_unit_of_not_mem (s := S1024x1024) (v := arg12.view) (f := X_arg12) (off' := ![128 * k.val, 128 * 4]) _ _ _ y (k0_off5_eq k) (1 : Fin 2) (Or.inl (by show (y 1).val < 128 * 4; omega))).trans ?_
    refine (View.read_writes_cons_unit_of_not_mem (s := S1024x1024) (v := arg12.view) (f := X_arg12) (off' := ![128 * k.val, 128 * 3]) _ _ _ y (k0_off4_eq k) (1 : Fin 2) (Or.inl (by show (y 1).val < 128 * 3; omega))).trans ?_
    refine (View.read_writes_cons_unit_of_not_mem (s := S1024x1024) (v := arg12.view) (f := X_arg12) (off' := ![128 * k.val, 128 * 2]) _ _ _ y (k0_off3_eq k) (1 : Fin 2) (Or.inl (by show (y 1).val < 128 * 2; omega))).trans ?_
    refine (View.read_writes_cons_unit_of_not_mem (s := S1024x1024) (v := arg12.view) (f := X_arg12) (off' := ![128 * k.val, 128 * 1]) _ _ _ y (k0_off2_eq k) (1 : Fin 2) (Or.inl (by show (y 1).val < 128 * 1; omega))).trans ?_
    refine (View.read_writes_cons_unit_of_mem (s := S1024x1024) (v := arg12.view) (f := X_arg12) (off' := ![128 * k.val, 128 * 0]) _ _ _ y (ix2 ⟨(y 0).val % 128, Nat.mod_lt _ (by decide)⟩ ⟨(y 1).val % 128, Nat.mod_lt _ (by decide)⟩) (k0_off1_eq k) (outMem y k.val 0 hr hy)).trans ?_
    rw [readAt_tile _ _ k.val 0 hk (by decide) (k0_off1_eq k), readAt_tile _ _ k.val 0 hk (by decide) (k0_off1_eq k), readAt_tile _ _ k.val 0 hk (by decide) (k0_off1_eq k), readAt_tile _ _ k.val 0 hk (by decide) (k0_off1_eq k), readAt_hd _ 0 (by decide), readAt_hd _ 0 (by decide), readAt_hd _ 0 (by decide), readAt_gn _ 0 0 (by decide) (by decide), hst]
    unfold outBlk outTile; rw [hr, hy]
  · refine (View.read_writes_cons_unit_of_not_mem (s := S1024x1024) (v := arg12.view) (f := X_arg12) (off' := ![128 * k.val, 128 * 7]) _ _ _ y (k0_off8_eq k) (1 : Fin 2) (Or.inl (by show (y 1).val < 128 * 7; omega))).trans ?_
    refine (View.read_writes_cons_unit_of_not_mem (s := S1024x1024) (v := arg12.view) (f := X_arg12) (off' := ![128 * k.val, 128 * 6]) _ _ _ y (k0_off7_eq k) (1 : Fin 2) (Or.inl (by show (y 1).val < 128 * 6; omega))).trans ?_
    refine (View.read_writes_cons_unit_of_not_mem (s := S1024x1024) (v := arg12.view) (f := X_arg12) (off' := ![128 * k.val, 128 * 5]) _ _ _ y (k0_off6_eq k) (1 : Fin 2) (Or.inl (by show (y 1).val < 128 * 5; omega))).trans ?_
    refine (View.read_writes_cons_unit_of_not_mem (s := S1024x1024) (v := arg12.view) (f := X_arg12) (off' := ![128 * k.val, 128 * 4]) _ _ _ y (k0_off5_eq k) (1 : Fin 2) (Or.inl (by show (y 1).val < 128 * 4; omega))).trans ?_
    refine (View.read_writes_cons_unit_of_not_mem (s := S1024x1024) (v := arg12.view) (f := X_arg12) (off' := ![128 * k.val, 128 * 3]) _ _ _ y (k0_off4_eq k) (1 : Fin 2) (Or.inl (by show (y 1).val < 128 * 3; omega))).trans ?_
    refine (View.read_writes_cons_unit_of_not_mem (s := S1024x1024) (v := arg12.view) (f := X_arg12) (off' := ![128 * k.val, 128 * 2]) _ _ _ y (k0_off3_eq k) (1 : Fin 2) (Or.inl (by show (y 1).val < 128 * 2; omega))).trans ?_
    refine (View.read_writes_cons_unit_of_mem (s := S1024x1024) (v := arg12.view) (f := X_arg12) (off' := ![128 * k.val, 128 * 1]) _ _ _ y (ix2 ⟨(y 0).val % 128, Nat.mod_lt _ (by decide)⟩ ⟨(y 1).val % 128, Nat.mod_lt _ (by decide)⟩) (k0_off2_eq k) (outMem y k.val 1 hr hy)).trans ?_
    rw [readAt_tile _ _ k.val 1 hk (by decide) (k0_off2_eq k), readAt_tile _ _ k.val 1 hk (by decide) (k0_off2_eq k), readAt_tile _ _ k.val 1 hk (by decide) (k0_off2_eq k), readAt_tile _ _ k.val 1 hk (by decide) (k0_off2_eq k), readAt_hd _ 1 (by decide), readAt_hd _ 1 (by decide), readAt_hd _ 1 (by decide), readAt_gn _ 1 128 (by decide) (by decide), hst]
    unfold outBlk outTile; rw [hr, hy]
  · refine (View.read_writes_cons_unit_of_not_mem (s := S1024x1024) (v := arg12.view) (f := X_arg12) (off' := ![128 * k.val, 128 * 7]) _ _ _ y (k0_off8_eq k) (1 : Fin 2) (Or.inl (by show (y 1).val < 128 * 7; omega))).trans ?_
    refine (View.read_writes_cons_unit_of_not_mem (s := S1024x1024) (v := arg12.view) (f := X_arg12) (off' := ![128 * k.val, 128 * 6]) _ _ _ y (k0_off7_eq k) (1 : Fin 2) (Or.inl (by show (y 1).val < 128 * 6; omega))).trans ?_
    refine (View.read_writes_cons_unit_of_not_mem (s := S1024x1024) (v := arg12.view) (f := X_arg12) (off' := ![128 * k.val, 128 * 5]) _ _ _ y (k0_off6_eq k) (1 : Fin 2) (Or.inl (by show (y 1).val < 128 * 5; omega))).trans ?_
    refine (View.read_writes_cons_unit_of_not_mem (s := S1024x1024) (v := arg12.view) (f := X_arg12) (off' := ![128 * k.val, 128 * 4]) _ _ _ y (k0_off5_eq k) (1 : Fin 2) (Or.inl (by show (y 1).val < 128 * 4; omega))).trans ?_
    refine (View.read_writes_cons_unit_of_not_mem (s := S1024x1024) (v := arg12.view) (f := X_arg12) (off' := ![128 * k.val, 128 * 3]) _ _ _ y (k0_off4_eq k) (1 : Fin 2) (Or.inl (by show (y 1).val < 128 * 3; omega))).trans ?_
    refine (View.read_writes_cons_unit_of_mem (s := S1024x1024) (v := arg12.view) (f := X_arg12) (off' := ![128 * k.val, 128 * 2]) _ _ _ y (ix2 ⟨(y 0).val % 128, Nat.mod_lt _ (by decide)⟩ ⟨(y 1).val % 128, Nat.mod_lt _ (by decide)⟩) (k0_off3_eq k) (outMem y k.val 2 hr hy)).trans ?_
    rw [readAt_tile _ _ k.val 2 hk (by decide) (k0_off3_eq k), readAt_tile _ _ k.val 2 hk (by decide) (k0_off3_eq k), readAt_tile _ _ k.val 2 hk (by decide) (k0_off3_eq k), readAt_tile _ _ k.val 2 hk (by decide) (k0_off3_eq k), readAt_hd _ 2 (by decide), readAt_hd _ 2 (by decide), readAt_hd _ 2 (by decide), readAt_gn _ 2 256 (by decide) (by decide), hst]
    unfold outBlk outTile; rw [hr, hy]
  · refine (View.read_writes_cons_unit_of_not_mem (s := S1024x1024) (v := arg12.view) (f := X_arg12) (off' := ![128 * k.val, 128 * 7]) _ _ _ y (k0_off8_eq k) (1 : Fin 2) (Or.inl (by show (y 1).val < 128 * 7; omega))).trans ?_
    refine (View.read_writes_cons_unit_of_not_mem (s := S1024x1024) (v := arg12.view) (f := X_arg12) (off' := ![128 * k.val, 128 * 6]) _ _ _ y (k0_off7_eq k) (1 : Fin 2) (Or.inl (by show (y 1).val < 128 * 6; omega))).trans ?_
    refine (View.read_writes_cons_unit_of_not_mem (s := S1024x1024) (v := arg12.view) (f := X_arg12) (off' := ![128 * k.val, 128 * 5]) _ _ _ y (k0_off6_eq k) (1 : Fin 2) (Or.inl (by show (y 1).val < 128 * 5; omega))).trans ?_
    refine (View.read_writes_cons_unit_of_not_mem (s := S1024x1024) (v := arg12.view) (f := X_arg12) (off' := ![128 * k.val, 128 * 4]) _ _ _ y (k0_off5_eq k) (1 : Fin 2) (Or.inl (by show (y 1).val < 128 * 4; omega))).trans ?_
    refine (View.read_writes_cons_unit_of_mem (s := S1024x1024) (v := arg12.view) (f := X_arg12) (off' := ![128 * k.val, 128 * 3]) _ _ _ y (ix2 ⟨(y 0).val % 128, Nat.mod_lt _ (by decide)⟩ ⟨(y 1).val % 128, Nat.mod_lt _ (by decide)⟩) (k0_off4_eq k) (outMem y k.val 3 hr hy)).trans ?_
    rw [readAt_tile _ _ k.val 3 hk (by decide) (k0_off4_eq k), readAt_tile _ _ k.val 3 hk (by decide) (k0_off4_eq k), readAt_tile _ _ k.val 3 hk (by decide) (k0_off4_eq k), readAt_tile _ _ k.val 3 hk (by decide) (k0_off4_eq k), readAt_hd _ 3 (by decide), readAt_hd _ 3 (by decide), readAt_hd _ 3 (by decide), readAt_gn _ 3 384 (by decide) (by decide), hst]
    unfold outBlk outTile; rw [hr, hy]
  · refine (View.read_writes_cons_unit_of_not_mem (s := S1024x1024) (v := arg12.view) (f := X_arg12) (off' := ![128 * k.val, 128 * 7]) _ _ _ y (k0_off8_eq k) (1 : Fin 2) (Or.inl (by show (y 1).val < 128 * 7; omega))).trans ?_
    refine (View.read_writes_cons_unit_of_not_mem (s := S1024x1024) (v := arg12.view) (f := X_arg12) (off' := ![128 * k.val, 128 * 6]) _ _ _ y (k0_off7_eq k) (1 : Fin 2) (Or.inl (by show (y 1).val < 128 * 6; omega))).trans ?_
    refine (View.read_writes_cons_unit_of_not_mem (s := S1024x1024) (v := arg12.view) (f := X_arg12) (off' := ![128 * k.val, 128 * 5]) _ _ _ y (k0_off6_eq k) (1 : Fin 2) (Or.inl (by show (y 1).val < 128 * 5; omega))).trans ?_
    refine (View.read_writes_cons_unit_of_mem (s := S1024x1024) (v := arg12.view) (f := X_arg12) (off' := ![128 * k.val, 128 * 4]) _ _ _ y (ix2 ⟨(y 0).val % 128, Nat.mod_lt _ (by decide)⟩ ⟨(y 1).val % 128, Nat.mod_lt _ (by decide)⟩) (k0_off5_eq k) (outMem y k.val 4 hr hy)).trans ?_
    rw [readAt_tile _ _ k.val 4 hk (by decide) (k0_off5_eq k), readAt_tile _ _ k.val 4 hk (by decide) (k0_off5_eq k), readAt_tile _ _ k.val 4 hk (by decide) (k0_off5_eq k), readAt_tile _ _ k.val 4 hk (by decide) (k0_off5_eq k), readAt_hd _ 4 (by decide), readAt_hd _ 4 (by decide), readAt_hd _ 4 (by decide), readAt_gn _ 4 512 (by decide) (by decide), hst]
    unfold outBlk outTile; rw [hr, hy]
  · refine (View.read_writes_cons_unit_of_not_mem (s := S1024x1024) (v := arg12.view) (f := X_arg12) (off' := ![128 * k.val, 128 * 7]) _ _ _ y (k0_off8_eq k) (1 : Fin 2) (Or.inl (by show (y 1).val < 128 * 7; omega))).trans ?_
    refine (View.read_writes_cons_unit_of_not_mem (s := S1024x1024) (v := arg12.view) (f := X_arg12) (off' := ![128 * k.val, 128 * 6]) _ _ _ y (k0_off7_eq k) (1 : Fin 2) (Or.inl (by show (y 1).val < 128 * 6; omega))).trans ?_
    refine (View.read_writes_cons_unit_of_mem (s := S1024x1024) (v := arg12.view) (f := X_arg12) (off' := ![128 * k.val, 128 * 5]) _ _ _ y (ix2 ⟨(y 0).val % 128, Nat.mod_lt _ (by decide)⟩ ⟨(y 1).val % 128, Nat.mod_lt _ (by decide)⟩) (k0_off6_eq k) (outMem y k.val 5 hr hy)).trans ?_
    rw [readAt_tile _ _ k.val 5 hk (by decide) (k0_off6_eq k), readAt_tile _ _ k.val 5 hk (by decide) (k0_off6_eq k), readAt_tile _ _ k.val 5 hk (by decide) (k0_off6_eq k), readAt_tile _ _ k.val 5 hk (by decide) (k0_off6_eq k), readAt_hd _ 5 (by decide), readAt_hd _ 5 (by decide), readAt_hd _ 5 (by decide), readAt_gn _ 5 640 (by decide) (by decide), hst]
    unfold outBlk outTile; rw [hr, hy]
  · refine (View.read_writes_cons_unit_of_not_mem (s := S1024x1024) (v := arg12.view) (f := X_arg12) (off' := ![128 * k.val, 128 * 7]) _ _ _ y (k0_off8_eq k) (1 : Fin 2) (Or.inl (by show (y 1).val < 128 * 7; omega))).trans ?_
    refine (View.read_writes_cons_unit_of_mem (s := S1024x1024) (v := arg12.view) (f := X_arg12) (off' := ![128 * k.val, 128 * 6]) _ _ _ y (ix2 ⟨(y 0).val % 128, Nat.mod_lt _ (by decide)⟩ ⟨(y 1).val % 128, Nat.mod_lt _ (by decide)⟩) (k0_off7_eq k) (outMem y k.val 6 hr hy)).trans ?_
    rw [readAt_tile _ _ k.val 6 hk (by decide) (k0_off7_eq k), readAt_tile _ _ k.val 6 hk (by decide) (k0_off7_eq k), readAt_tile _ _ k.val 6 hk (by decide) (k0_off7_eq k), readAt_tile _ _ k.val 6 hk (by decide) (k0_off7_eq k), readAt_hd _ 6 (by decide), readAt_hd _ 6 (by decide), readAt_hd _ 6 (by decide), readAt_gn _ 6 768 (by decide) (by decide), hst]
    unfold outBlk outTile; rw [hr, hy]
  · refine (View.read_writes_cons_unit_of_mem (s := S1024x1024) (v := arg12.view) (f := X_arg12) (off' := ![128 * k.val, 128 * 7]) _ _ _ y (ix2 ⟨(y 0).val % 128, Nat.mod_lt _ (by decide)⟩ ⟨(y 1).val % 128, Nat.mod_lt _ (by decide)⟩) (k0_off8_eq k) (outMem y k.val 7 hr hy)).trans ?_
    rw [readAt_tile _ _ k.val 7 hk (by decide) (k0_off8_eq k), readAt_tile _ _ k.val 7 hk (by decide) (k0_off8_eq k), readAt_tile _ _ k.val 7 hk (by decide) (k0_off8_eq k), readAt_tile _ _ k.val 7 hk (by decide) (k0_off8_eq k), readAt_hd _ 7 (by decide), readAt_hd _ 7 (by decide), readAt_hd _ 7 (by decide), readAt_gn _ 7 896 (by decide) (by decide), hst]
    unfold outBlk outTile; rw [hr, hy]

/-- Trip `k` leaves the other rows of the output buffer. -/
theorem read_outPieces_miss (k : Fin k0_t1_loop.trips) (y : S1024x1024.Idx) (hr : (y 0).val / 128 ≠ k.val) :
    arg12.view.read (Elt F) (arg12.view.writes (Elt F) X_arg12 (outPieces arg3 arg4 arg5 arg6 arg7 arg8 arg11 arg14 X_arg3 X_arg4 X_arg5 X_arg6 X_arg7 X_arg8 X_arg11 X_arg14 k)) y = arg12.view.read (Elt F) X_arg12 y := by
  refine (View.read_writes_cons_unit_of_not_mem (s := S1024x1024) (v := arg12.view) (f := X_arg12) (off' := ![128 * k.val, 128 * 7]) _ _ _ y (k0_off8_eq k) (0 : Fin 2) (by show (y 0).val < 128 * k.val ∨ 128 * k.val + 128 ≤ (y 0).val; omega)).trans ?_
  refine (View.read_writes_cons_unit_of_not_mem (s := S1024x1024) (v := arg12.view) (f := X_arg12) (off' := ![128 * k.val, 128 * 6]) _ _ _ y (k0_off7_eq k) (0 : Fin 2) (by show (y 0).val < 128 * k.val ∨ 128 * k.val + 128 ≤ (y 0).val; omega)).trans ?_
  refine (View.read_writes_cons_unit_of_not_mem (s := S1024x1024) (v := arg12.view) (f := X_arg12) (off' := ![128 * k.val, 128 * 5]) _ _ _ y (k0_off6_eq k) (0 : Fin 2) (by show (y 0).val < 128 * k.val ∨ 128 * k.val + 128 ≤ (y 0).val; omega)).trans ?_
  refine (View.read_writes_cons_unit_of_not_mem (s := S1024x1024) (v := arg12.view) (f := X_arg12) (off' := ![128 * k.val, 128 * 4]) _ _ _ y (k0_off5_eq k) (0 : Fin 2) (by show (y 0).val < 128 * k.val ∨ 128 * k.val + 128 ≤ (y 0).val; omega)).trans ?_
  refine (View.read_writes_cons_unit_of_not_mem (s := S1024x1024) (v := arg12.view) (f := X_arg12) (off' := ![128 * k.val, 128 * 3]) _ _ _ y (k0_off4_eq k) (0 : Fin 2) (by show (y 0).val < 128 * k.val ∨ 128 * k.val + 128 ≤ (y 0).val; omega)).trans ?_
  refine (View.read_writes_cons_unit_of_not_mem (s := S1024x1024) (v := arg12.view) (f := X_arg12) (off' := ![128 * k.val, 128 * 2]) _ _ _ y (k0_off3_eq k) (0 : Fin 2) (by show (y 0).val < 128 * k.val ∨ 128 * k.val + 128 ≤ (y 0).val; omega)).trans ?_
  refine (View.read_writes_cons_unit_of_not_mem (s := S1024x1024) (v := arg12.view) (f := X_arg12) (off' := ![128 * k.val, 128 * 1]) _ _ _ y (k0_off2_eq k) (0 : Fin 2) (by show (y 0).val < 128 * k.val ∨ 128 * k.val + 128 ≤ (y 0).val; omega)).trans ?_
  refine (View.read_writes_cons_unit_of_not_mem (s := S1024x1024) (v := arg12.view) (f := X_arg12) (off' := ![128 * k.val, 128 * 0]) _ _ _ y (k0_off1_eq k) (0 : Fin 2) (by show (y 0).val < 128 * k.val ∨ 128 * k.val + 128 ≤ (y 0).val; omega)).trans ?_
  rfl

/-- What the chunk loop keeps before trip `n`: its inputs as they were, the output buffer reading as the block on the
    rows of the trips done, the state buffer reading as the state before chunk `n`. -/
def inv (c : Dev nD) (st : Vec F S8x128x128 .f32) (n : ℕ) (_ : Unit) : sProp 𝕄G :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11)
    ∗ (∃ f : BufTy.Contents (Elt F) arg12.view.ty, ⌜∀ y : S1024x1024.Idx, (y 0).val / 128 < n → arg12.view.read (Elt F) f y = outBlk (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) st y⌝ ∗ (arg12.view.loc (c : Thread nD τ) ↦[arg12.view.set]{fullShare} f))
    ∗ (∃ f : BufTy.Contents (Elt F) arg14.view.ty, ⌜arg14.view.read (Elt F) f = stAt (arg4.view.read (Elt F) X_arg4) (arg5.view.read (Elt F) X_arg5) (arg9.view.read (Elt F) X_arg9) (arg10.view.read (Elt F) X_arg10) st n⌝ ∗ (arg14.view.loc (c : Thread nD τ) ↦[arg14.view.set]{fullShare} f)))

/-- One trip keeps it. -/
theorem inv_step (𝒱 : Variants) (c : Dev nD) (bd : Option 𝒱.V) (E : Set ℕ) (i : grid0.Coords) (st : Vec F S8x128x128 .f32)
    (k : Fin k0_t1_loop.trips) (acc : Unit) :
    inv arg3 arg4 arg5 arg6 arg7 arg8 arg9 arg10 arg11 arg12 arg14 X_arg3 X_arg4 X_arg5 X_arg6 X_arg7 X_arg8 X_arg9 X_arg10 X_arg11 c st k.val acc
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 k acc)
          (inv arg3 arg4 arg5 arg6 arg7 arg8 arg9 arg10 arg11 arg12 arg14 X_arg3 X_arg4 X_arg5 X_arg6 X_arg7 X_arg8 X_arg9 X_arg10 X_arg11 c st (k.val + 1)) := by
  unfold inv
  iintro ⟨H3, H4, H5, H6, H7, H8, H9, H10, H11, ⟨%f12, %h12, H12⟩, ⟨%f14, %h14, H14⟩⟩
  iapply (wp_wand frame (wpE (defs₀ (F := F)) 𝒱 (c : Thread nD τ) bd) E) $$ [H3 H4 H5 H6 H7 H8 H9 H10 H11 H12 H14]
  · iapply (trip arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 f12 f14 𝒱 c bd E i k)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H14
  iintro %_ ⟨H3, H4, H5, H6, H7, H8, H9, H10, H11, H12, H14⟩
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists _
    isplitr
    rotate_left
    · iexact H12
    ipureintro
    intro y hy
    by_cases hr : (y 0).val / 128 = k.val
    · exact read_outPieces arg3 arg4 arg5 arg6 arg7 arg8 arg9 arg10 arg11 arg12 arg14 X_arg3 X_arg4 X_arg5 X_arg6 X_arg7 X_arg8 X_arg9 X_arg10 X_arg11 f12 f14 k st h14 y hr
    · rw [read_outPieces_miss arg3 arg4 arg5 arg6 arg7 arg8 arg11 arg12 arg14 X_arg3 X_arg4 X_arg5 X_arg6 X_arg7 X_arg8 X_arg11 f12 f14 k y hr]
      exact h12 y (by omega)
  · iexists _
    isplitr
    rotate_left
    · iexact H14
    ipureintro
    rw [read_stPieces arg4 arg5 arg9 arg10 arg14 X_arg4 X_arg5 X_arg9 X_arg10 f14 k, h14]
    rfl

end Cert.Ret

end
-- ==== Proof.Ret.Body.lean ====
/-
  One run of the retention kernel's body, in its three cases: the first block of a row of blocks (the state starts at
  zero), a middle block (the state is the one left before), and the last block (the state is also handed out).
-/
module

public import proofs.«01_k».proof.Proof.Ret.Loop

@[expose] public section

set_option maxRecDepth 8192

noncomputable section

namespace Cert.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x8x128x128 .f32) (harg13 : arg13.IsWhole) (arg14 : Memref sig .tc .vmem S8x128x128 .f32) (harg14 : arg14.IsWhole)
variable (q k v rg : Vec F S1024x1024 .f32) (intra qd kd cd : Vec F S8x128x128 .f32) (gn : Vec F S1x1024 .f32)

/-- The first block of a row: the state starts at zero. -/
theorem runA (c : Dev nD) (i : grid0.Coords) (hc0 : (Scalar.cmpi .ne (Scalar.extui (Scalar.cmpi .eq (BitVec.ofNat 32 (i 2).val) 0#32)) 0#32) = 1#1)
    (hc1 : ¬ (k0_cond2 i = 1#1)) (E : Set ℕ) (K : PUnit → sProp 𝕄G) :
    iprop(owns (c : Thread nD τ) arg3 fullShare q ∗ owns (c : Thread nD τ) arg4 fullShare k ∗ owns (c : Thread nD τ) arg5 fullShare v ∗ owns (c : Thread nD τ) arg6 fullShare rg ∗ owns (c : Thread nD τ) arg7 fullShare intra ∗ owns (c : Thread nD τ) arg8 fullShare qd ∗ owns (c : Thread nD τ) arg9 fullShare kd ∗ owns (c : Thread nD τ) arg10 fullShare cd ∗ owns (c : Thread nD τ) arg11 fullShare gn ∗ (∃ d, owns (c : Thread nD τ) arg12 fullShare d) ∗ (∃ d, owns (c : Thread nD τ) arg14 fullShare d)
        ∗ (iprop(owns (c : Thread nD τ) arg3 fullShare q ∗ owns (c : Thread nD τ) arg4 fullShare k ∗ owns (c : Thread nD τ) arg5 fullShare v ∗ owns (c : Thread nD τ) arg6 fullShare rg ∗ owns (c : Thread nD τ) arg7 fullShare intra ∗ owns (c : Thread nD τ) arg8 fullShare qd ∗ owns (c : Thread nD τ) arg9 fullShare kd ∗ owns (c : Thread nD τ) arg10 fullShare cd ∗ owns (c : Thread nD τ) arg11 fullShare gn ∗ owns (c : Thread nD τ) arg12 fullShare (outBlk q k v rg intra qd kd cd gn k0_pay1) ∗ owns (c : Thread nD τ) arg14 fullShare (stAt k v kd cd k0_pay1 8)) -∗ K ⟨⟩))
      ⊢ wp frame (wpE (defs₀ (F := F)) Variants.none (c : Thread nD τ) none) E (cc0_retention_prompt (F := F) i arg3 harg3 arg4 harg4 arg5 harg5 arg6 harg6 arg7 harg7 arg8 harg8 arg9 harg9 arg10 harg10 arg11 harg11 arg12 harg12 arg13 harg13 arg14 harg14) K := by
  simp only [cc0_retention_prompt_eq_skeleton]; unfold cc0_retention_prompt_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d14, %f14, -, H14⟩, Hk⟩

  sl_exec (disch := first | sl_exact hc0 | sl_exact hc1)
  sl_for (inv arg3 arg4 arg5 arg6 arg7 arg8 arg9 arg10 arg11 arg12 arg14 f3 f4 f5 f6 f7 f8 f9 f10 f11 c k0_pay1) $$ [H3 H4 H5 H6 H7 H8 H9 H10 H11 H12 H14]
  · intro k acc
    exact inv_step arg3 harg3 arg4 harg4 arg5 harg5 arg6 harg6 arg7 harg7 arg8 harg8 arg9 harg9 arg10 harg10 arg11 harg11 arg12 harg12 arg13 harg13 arg14 harg14 f3 f4 f5 f6 f7 f8 f9 f10 f11 Variants.none c none E i k0_pay1 k acc
  · unfold inv
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists f12
      isplitr
      · ipureintro; intro y hy; exact absurd hy (Nat.not_lt_zero _)
      iexact H12
    · iexists _
      isplitr
      rotate_left
      · iexact H14
      ipureintro
      exact View.read_writes_full _ _ _ _ _
  iintro %acc HI
  unfold inv
  icases HI with ⟨H3, H4, H5, H6, H7, H8, H9, H10, H11, ⟨%g12, %h12, H12⟩, ⟨%g14, %h14, H14⟩⟩
  have ht : (k0_t1_loop.trips : ℕ) = 8 := by decide +kernel
  sl_exec (disch := first | sl_exact hc0 | sl_exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr
    rotate_left
    · iexact H12
    ipureintro
    funext y
    rw [h12 y (by have : (y 0).val < 1024 := (y 0).isLt; show (y 0).val / 128 < k0_t1_loop.trips; rw [ht]; omega)]
    rw [hf3, hf4, hf5, hf6, hf7, hf8, hf9, hf10, hf11]
  iexists _; isplitr
  rotate_left
  · iexact H14
  ipureintro
  rw [h14, hf4, hf5, hf9, hf10]
  rfl

/-- A middle block: the state is the one left before. -/
theorem runB (c : Dev nD) (i : grid0.Coords) (hc0 : ¬ ((Scalar.cmpi .ne (Scalar.extui (Scalar.cmpi .eq (BitVec.ofNat 32 (i 2).val) 0#32)) 0#32) = 1#1))
    (hc1 : ¬ (k0_cond2 i = 1#1)) (st : Vec F S8x128x128 .f32) (E : Set ℕ) (K : PUnit → sProp 𝕄G) :
    iprop(owns (c : Thread nD τ) arg3 fullShare q ∗ owns (c : Thread nD τ) arg4 fullShare k ∗ owns (c : Thread nD τ) arg5 fullShare v ∗ owns (c : Thread nD τ) arg6 fullShare rg ∗ owns (c : Thread nD τ) arg7 fullShare intra ∗ owns (c : Thread nD τ) arg8 fullShare qd ∗ owns (c : Thread nD τ) arg9 fullShare kd ∗ owns (c : Thread nD τ) arg10 fullShare cd ∗ owns (c : Thread nD τ) arg11 fullShare gn ∗ (∃ d, owns (c : Thread nD τ) arg12 fullShare d) ∗ owns (c : Thread nD τ) arg14 fullShare st
        ∗ (iprop(owns (c : Thread nD τ) arg3 fullShare q ∗ owns (c : Thread nD τ) arg4 fullShare k ∗ owns (c : Thread nD τ) arg5 fullShare v ∗ owns (c : Thread nD τ) arg6 fullShare rg ∗ owns (c : Thread nD τ) arg7 fullShare intra ∗ owns (c : Thread nD τ) arg8 fullShare qd ∗ owns (c : Thread nD τ) arg9 fullShare kd ∗ owns (c : Thread nD τ) arg10 fullShare cd ∗ owns (c : Thread nD τ) arg11 fullShare gn ∗ owns (c : Thread nD τ) arg12 fullShare (outBlk q k v rg intra qd kd cd gn st) ∗ owns (c : Thread nD τ) arg14 fullShare (stAt k v kd cd st 8)) -∗ K ⟨⟩))
      ⊢ wp frame (wpE (defs₀ (F := F)) Variants.none (c : Thread nD τ) none) E (cc0_retention_prompt (F := F) i arg3 harg3 arg4 harg4 arg5 harg5 arg6 harg6 arg7 harg7 arg8 harg8 arg9 harg9 arg10 harg10 arg11 harg11 arg12 harg12 arg13 harg13 arg14 harg14) K := by
  simp only [cc0_retention_prompt_eq_skeleton]; unfold cc0_retention_prompt_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f14, %hf14, H14⟩, Hk⟩
  have hst := hf14
  sl_exec (disch := first | sl_exact hc0 | sl_exact hc1)
  sl_for (inv arg3 arg4 arg5 arg6 arg7 arg8 arg9 arg10 arg11 arg12 arg14 f3 f4 f5 f6 f7 f8 f9 f10 f11 c st) $$ [H3 H4 H5 H6 H7 H8 H9 H10 H11 H12 H14]
  · intro k acc
    exact inv_step arg3 harg3 arg4 harg4 arg5 harg5 arg6 harg6 arg7 harg7 arg8 harg8 arg9 harg9 arg10 harg10 arg11 harg11 arg12 harg12 arg13 harg13 arg14 harg14 f3 f4 f5 f6 f7 f8 f9 f10 f11 Variants.none c none E i st k acc
  · unfold inv
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists f12
      isplitr
      · ipureintro; intro y hy; exact absurd hy (Nat.not_lt_zero _)
      iexact H12
    · iexists _
      isplitr
      rotate_left
      · iexact H14
      ipureintro
      exact hst
  iintro %acc HI
  unfold inv
  icases HI with ⟨H3, H4, H5, H6, H7, H8, H9, H10, H11, ⟨%g12, %h12, H12⟩, ⟨%g14, %h14, H14⟩⟩
  have ht : (k0_t1_loop.trips : ℕ) = 8 := by decide +kernel
  sl_exec (disch := first | sl_exact hc0 | sl_exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr
    rotate_left
    · iexact H12
    ipureintro
    funext y
    rw [h12 y (by have : (y 0).val < 1024 := (y 0).isLt; show (y 0).val / 128 < k0_t1_loop.trips; rw [ht]; omega)]
    rw [hf3, hf4, hf5, hf6, hf7, hf8, hf9, hf10, hf11]
  iexists _; isplitr
  rotate_left
  · iexact H14
  ipureintro
  rw [h14, hf4, hf5, hf9, hf10]
  rfl

/-- The last block of a row: the state left is also handed out. -/
theorem runC (c : Dev nD) (i : grid0.Coords) (hc0 : ¬ ((Scalar.cmpi .ne (Scalar.extui (Scalar.cmpi .eq (BitVec.ofNat 32 (i 2).val) 0#32)) 0#32) = 1#1))
    (hc1 : (k0_cond2 i = 1#1)) (st : Vec F S8x128x128 .f32) (E : Set ℕ) (K : PUnit → sProp 𝕄G) :
    iprop(owns (c : Thread nD τ) arg3 fullShare q ∗ owns (c : Thread nD τ) arg4 fullShare k ∗ owns (c : Thread nD τ) arg5 fullShare v ∗ owns (c : Thread nD τ) arg6 fullShare rg ∗ owns (c : Thread nD τ) arg7 fullShare intra ∗ owns (c : Thread nD τ) arg8 fullShare qd ∗ owns (c : Thread nD τ) arg9 fullShare kd ∗ owns (c : Thread nD τ) arg10 fullShare cd ∗ owns (c : Thread nD τ) arg11 fullShare gn ∗ (∃ d, owns (c : Thread nD τ) arg12 fullShare d) ∗ (∃ d, owns (c : Thread nD τ) arg13 fullShare d) ∗ owns (c : Thread nD τ) arg14 fullShare st
        ∗ (iprop(owns (c : Thread nD τ) arg3 fullShare q ∗ owns (c : Thread nD τ) arg4 fullShare k ∗ owns (c : Thread nD τ) arg5 fullShare v ∗ owns (c : Thread nD τ) arg6 fullShare rg ∗ owns (c : Thread nD τ) arg7 fullShare intra ∗ owns (c : Thread nD τ) arg8 fullShare qd ∗ owns (c : Thread nD τ) arg9 fullShare kd ∗ owns (c : Thread nD τ) arg10 fullShare cd ∗ owns (c : Thread nD τ) arg11 fullShare gn ∗ owns (c : Thread nD τ) arg12 fullShare (outBlk q k v rg intra qd kd cd gn st) ∗ owns (c : Thread nD τ) arg13 fullShare (k0_pay3 (stAt k v kd cd st 8)) ∗ owns (c : Thread nD τ) arg14 fullShare (stAt k v kd cd st 8)) -∗ K ⟨⟩))
      ⊢ wp frame (wpE (defs₀ (F := F)) Variants.none (c : Thread nD τ) none) E (cc0_retention_prompt (F := F) i arg3 harg3 arg4 harg4 arg5 harg5 arg6 harg6 arg7 harg7 arg8 harg8 arg9 harg9 arg10 harg10 arg11 harg11 arg12 harg12 arg13 harg13 arg14 harg14) K := by
  simp only [cc0_retention_prompt_eq_skeleton]; unfold cc0_retention_prompt_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, Hk⟩
  have hst := hf14
  sl_exec (disch := first | sl_exact hc0 | sl_exact hc1)
  sl_for (inv arg3 arg4 arg5 arg6 arg7 arg8 arg9 arg10 arg11 arg12 arg14 f3 f4 f5 f6 f7 f8 f9 f10 f11 c st) $$ [H3 H4 H5 H6 H7 H8 H9 H10 H11 H12 H14]
  · intro k acc
    exact inv_step arg3 harg3 arg4 harg4 arg5 harg5 arg6 harg6 arg7 harg7 arg8 harg8 arg9 harg9 arg10 harg10 arg11 harg11 arg12 harg12 arg13 harg13 arg14 harg14 f3 f4 f5 f6 f7 f8 f9 f10 f11 Variants.none c none E i st k acc
  · unfold inv
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists f12
      isplitr
      · ipureintro; intro y hy; exact absurd hy (Nat.not_lt_zero _)
      iexact H12
    · iexists _
      isplitr
      rotate_left
      · iexact H14
      ipureintro
      exact hst
  iintro %acc HI
  unfold inv
  icases HI with ⟨H3, H4, H5, H6, H7, H8, H9, H10, H11, ⟨%g12, %h12, H12⟩, ⟨%g14, %h14, H14⟩⟩
  have ht : (k0_t1_loop.trips : ℕ) = 8 := by decide +kernel
  sl_exec (disch := first | sl_exact hc0 | sl_exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr
    rotate_left
    · iexact H12
    ipureintro
    funext y
    rw [h12 y (by have : (y 0).val < 1024 := (y 0).isLt; show (y 0).val / 128 < k0_t1_loop.trips; rw [ht]; omega)]
    rw [hf3, hf4, hf5, hf6, hf7, hf8, hf9, hf10, hf11]
  isplitl [H13]
  · iexists _; isplitr
    rotate_left
    · iexact H13
    ipureintro
    rw [View.read_writes_full, View.readAt_full, h14, hf4, hf5, hf9, hf10]
    rfl
  iexists _; isplitr
  rotate_left
  · iexact H14
  ipureintro
  rw [h14, hf4, hf5, hf9, hf10]
  rfl

end Cert.Ret

end
-- ==== Proof.Ret.Run.lean ====
/-
  The retention kernel's launch: what each grid point leaves in the output blocks and in the carried state, the body's
  triple at every point, the run of the whole program, and the frame.
-/
module

public import proofs.«01_k».proof.Proof.Gen.KernelIdeal.Frame.Runs
public import proofs.«01_k».proof.Proof.Ret.Body
public import Idealize.ShloMosaic.Lib.Claim

@[expose] public section

set_option maxRecDepth 16384

noncomputable section

namespace Cert.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state the chunk loop of point `n` starts from: zero at the first block of a row, else what the point before left. -/
def st0 (c : Dev nD) : (n : ℕ) → n < cfg0.N → Vec F S8x128x128 .f32
  | 0, _ => k0_pay1
  | n + 1, h => if (n + 1) % 4 = 0 then k0_pay1 else
      stAt (iblk m c 1 ⟨n, Nat.lt_of_succ_lt h⟩) (iblk m c 2 ⟨n, Nat.lt_of_succ_lt h⟩) (iblk m c 6 ⟨n, Nat.lt_of_succ_lt h⟩)
        (iblk m c 7 ⟨n, Nat.lt_of_succ_lt h⟩) (st0 c n (Nat.lt_of_succ_lt h)) 8

/-- The state point `n` leaves. -/
def stOut (c : Dev nD) (n : ℕ) (h : n < cfg0.N) : Vec F S8x128x128 .f32 :=
  stAt (iblk m c 1 ⟨n, h⟩) (iblk m c 2 ⟨n, h⟩) (iblk m c 6 ⟨n, h⟩) (iblk m c 7 ⟨n, h⟩) (st0 m c n h) 8

/-- The first point of a row of blocks starts from zero. -/
theorem st0_first (c : Dev nD) (n : ℕ) (h : n < cfg0.N) (h0 : n % 4 = 0) : st0 m c n h = k0_pay1 := by
  cases n with
  | zero => rfl
  | succ n => exact if_pos h0

/-- Every other point starts from what the point before left. -/
theorem st0_next (c : Dev nD) (n : ℕ) (h : n < cfg0.N) (h0 : ¬ n % 4 = 0) : st0 m c n h = stOut m c (n - 1) (by omega) := by
  cases n with
  | zero => exact absurd rfl h0
  | succ n => exact if_neg h0

/-- The block of outputs point `t` leaves. -/
def oOut (c : Dev nD) (t : Fin cfg0.N) : Vec F S1024x1024 .bf16 :=
  outBlk (iblk m c 0 t) (iblk m c 1 t) (iblk m c 2 t) (iblk m c 3 t) (iblk m c 4 t) (iblk m c 5 t) (iblk m c 6 t) (iblk m c 7 t)
    (iblk m c 8 t) (st0 m c t.val t.isLt)

/-- The region invariant before position `n`: before the first point every scratch is at anything; afterwards the state
    buffer is at what the point before left. -/
def PhiS (c : Dev nD) : (n : ℕ) → n ≤ cfg0.N → sProp 𝕄
  | 0, _ => Pipeline.ΦA spec0 c
  | n + 1, hn => iprop(owns (c : Thread nD τ) scM0_0 fullShare (stOut m c n hn) ∗ (∃ r, prngReg c r))

/-- Before the first point. -/
theorem PhiS_zero (c : Dev nD) (n : ℕ) (h : n ≤ cfg0.N) (hz : n = 0) : PhiS m c n h = Pipeline.ΦA spec0 c := by
  subst hz; rfl

/-- Before any other point. -/
theorem PhiS_pos (c : Dev nD) (n : ℕ) (h : n ≤ cfg0.N) (hz : n ≠ 0) :
    PhiS m c n h = iprop(owns (c : Thread nD τ) scM0_0 fullShare (stOut m c (n - 1) (by omega)) ∗ (∃ r, prngReg c r)) := by
  cases n with
  | zero => exact absurd rfl hz
  | succ n => rfl

/-- Before any point the state buffer is at something. -/
theorem PhiS_any (c : Dev nD) (n : ℕ) (h : n ≤ cfg0.N) :
    PhiS m c n h ⊢ iprop((∃ d, owns (c : Thread nD τ) scM0_0 fullShare d) ∗ (∃ r, prngReg c r)) := by
  cases n with
  | zero => rw [PhiS_zero m c 0 h rfl, PhiA0_eq]
            try exact Idealize.SL.BI.Entails.refl _
  | succ n =>
    rw [PhiS_pos m c _ h (Nat.succ_ne_zero n)]
    iintro ⟨HS0, Hg⟩
    isplitl [HS0]
    · iexists _; iexact HS0
    iexact Hg

/-- The pipeline's proof data: the arrays as the region finds them, each input's buffer at its block after every point,
    the two outputs' at the block of outputs and the state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => oOut m c t
    | ⟨10, _⟩ => k0_pay3 (stOut m c t.val t.isLt)
  Φ t := PhiS m c t.val (Nat.le_of_lt_succ t.isLt)
  q w := Pipeline.shareOf spec0 w
  owed _ := 0

/-- The arrays are the contents the region finds. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The body leaves input 0's block. -/
theorem after_0 (c : Dev nD) (t : Fin cfg0.N) : (dats m 0 c).after 0 t = iblk m c 0 t := by dsimp only [dats]
/-- Input 0's buffer holds its block at every point. -/
theorem before_0 (c : Dev nD) (t : Fin cfg0.N) (d) : (dats m 0 c).before 0 t d = iblk m c 0 t :=
  before0_0_of m (dats m 0 c) (A_eq m c 0) (after_0 m c) t d
/-- What input 0's buffer is handed back as. -/
theorem leaves_0 (c : Dev nD) (t : Fin cfg0.N) : (dats m 0 c).leavesExact 0 t = owns (c : Thread nD τ) (ms0_0 t) fullShare (iblk m c 0 t) := by
  unfold Dat.leavesExact; rw [liveAt0_0 t, after_0]

/-- The body leaves input 1's block. -/
theorem after_1 (c : Dev nD) (t : Fin cfg0.N) : (dats m 0 c).after 1 t = iblk m c 1 t := by dsimp only [dats]
/-- Input 1's buffer holds its block at every point. -/
theorem before_1 (c : Dev nD) (t : Fin cfg0.N) (d) : (dats m 0 c).before 1 t d = iblk m c 1 t :=
  before0_1_of m (dats m 0 c) (A_eq m c 1) (after_1 m c) t d
/-- What input 1's buffer is handed back as. -/
theorem leaves_1 (c : Dev nD) (t : Fin cfg0.N) : (dats m 0 c).leavesExact 1 t = owns (c : Thread nD τ) (ms0_1 t) fullShare (iblk m c 1 t) := by
  unfold Dat.leavesExact; rw [liveAt0_1 t, after_1]

/-- The body leaves input 2's block. -/
theorem after_2 (c : Dev nD) (t : Fin cfg0.N) : (dats m 0 c).after 2 t = iblk m c 2 t := by dsimp only [dats]
/-- Input 2's buffer holds its block at every point. -/
theorem before_2 (c : Dev nD) (t : Fin cfg0.N) (d) : (dats m 0 c).before 2 t d = iblk m c 2 t :=
  before0_2_of m (dats m 0 c) (A_eq m c 2) (after_2 m c) t d
/-- What input 2's buffer is handed back as. -/
theorem leaves_2 (c : Dev nD) (t : Fin cfg0.N) : (dats m 0 c).leavesExact 2 t = owns (c : Thread nD τ) (ms0_2 t) fullShare (iblk m c 2 t) := by
  unfold Dat.leavesExact; rw [liveAt0_2 t, after_2]

/-- The body leaves input 3's block. -/
theorem after_3 (c : Dev nD) (t : Fin cfg0.N) : (dats m 0 c).after 3 t = iblk m c 3 t := by dsimp only [dats]
/-- Input 3's buffer holds its block at every point. -/
theorem before_3 (c : Dev nD) (t : Fin cfg0.N) (d) : (dats m 0 c).before 3 t d = iblk m c 3 t :=
  before0_3_of m (dats m 0 c) (A_eq m c 3) (after_3 m c) t d
/-- What input 3's buffer is handed back as. -/
theorem leaves_3 (c : Dev nD) (t : Fin cfg0.N) : (dats m 0 c).leavesExact 3 t = owns (c : Thread nD τ) (ms0_3 t) fullShare (iblk m c 3 t) := by
  unfold Dat.leavesExact; rw [liveAt0_3 t, after_3]

/-- The body leaves input 4's block. -/
theorem after_4 (c : Dev nD) (t : Fin cfg0.N) : (dats m 0 c).after 4 t = iblk m c 4 t := by dsimp only [dats]
/-- Input 4's buffer holds its block at every point. -/
theorem before_4 (c : Dev nD) (t : Fin cfg0.N) (d) : (dats m 0 c).before 4 t d = iblk m c 4 t :=
  before0_4_of m (dats m 0 c) (A_eq m c 4) (after_4 m c) t d
/-- What input 4's buffer is handed back as. -/
theorem leaves_4 (c : Dev nD) (t : Fin cfg0.N) : (dats m 0 c).leavesExact 4 t = owns (c : Thread nD τ) (ms0_4 t) fullShare (iblk m c 4 t) := by
  unfold Dat.leavesExact; rw [liveAt0_4 t, after_4]

/-- The body leaves input 5's block. -/
theorem after_5 (c : Dev nD) (t : Fin cfg0.N) : (dats m 0 c).after 5 t = iblk m c 5 t := by dsimp only [dats]
/-- Input 5's buffer holds its block at every point. -/
theorem before_5 (c : Dev nD) (t : Fin cfg0.N) (d) : (dats m 0 c).before 5 t d = iblk m c 5 t :=
  before0_5_of m (dats m 0 c) (A_eq m c 5) (after_5 m c) t d
/-- What input 5's buffer is handed back as. -/
theorem leaves_5 (c : Dev nD) (t : Fin cfg0.N) : (dats m 0 c).leavesExact 5 t = owns (c : Thread nD τ) (ms0_5 t) fullShare (iblk m c 5 t) := by
  unfold Dat.leavesExact; rw [liveAt0_5 t, after_5]

/-- The body leaves input 6's block. -/
theorem after_6 (c : Dev nD) (t : Fin cfg0.N) : (dats m 0 c).after 6 t = iblk m c 6 t := by dsimp only [dats]
/-- Input 6's buffer holds its block at every point. -/
theorem before_6 (c : Dev nD) (t : Fin cfg0.N) (d) : (dats m 0 c).before 6 t d = iblk m c 6 t :=
  before0_6_of m (dats m 0 c) (A_eq m c 6) (after_6 m c) t d
/-- What input 6's buffer is handed back as. -/
theorem leaves_6 (c : Dev nD) (t : Fin cfg0.N) : (dats m 0 c).leavesExact 6 t = owns (c : Thread nD τ) (ms0_6 t) fullShare (iblk m c 6 t) := by
  unfold Dat.leavesExact; rw [liveAt0_6 t, after_6]

/-- The body leaves input 7's block. -/
theorem after_7 (c : Dev nD) (t : Fin cfg0.N) : (dats m 0 c).after 7 t = iblk m c 7 t := by dsimp only [dats]
/-- Input 7's buffer holds its block at every point. -/
theorem before_7 (c : Dev nD) (t : Fin cfg0.N) (d) : (dats m 0 c).before 7 t d = iblk m c 7 t :=
  before0_7_of m (dats m 0 c) (A_eq m c 7) (after_7 m c) t d
/-- What input 7's buffer is handed back as. -/
theorem leaves_7 (c : Dev nD) (t : Fin cfg0.N) : (dats m 0 c).leavesExact 7 t = owns (c : Thread nD τ) (ms0_7 t) fullShare (iblk m c 7 t) := by
  unfold Dat.leavesExact; rw [liveAt0_7 t, after_7]

/-- The body leaves input 8's block. -/
theorem after_8 (c : Dev nD) (t : Fin cfg0.N) : (dats m 0 c).after 8 t = iblk m c 8 t := by dsimp only [dats]
/-- Input 8's buffer holds its block at every point. -/
theorem before_8 (c : Dev nD) (t : Fin cfg0.N) (d) : (dats m 0 c).before 8 t d = iblk m c 8 t :=
  before0_8_of m (dats m 0 c) (A_eq m c 8) (after_8 m c) t d
/-- What input 8's buffer is handed back as. -/
theorem leaves_8 (c : Dev nD) (t : Fin cfg0.N) : (dats m 0 c).leavesExact 8 t = owns (c : Thread nD τ) (ms0_8 t) fullShare (iblk m c 8 t) := by
  unfold Dat.leavesExact; rw [liveAt0_8 t, after_8]

/-- The body leaves the block of outputs. -/
theorem after_9 (c : Dev nD) (t : Fin cfg0.N) : (dats m 0 c).after 9 t = oOut m c t := by dsimp only [dats]
/-- The body leaves the state. -/
theorem after_10 (c : Dev nD) (t : Fin cfg0.N) : (dats m 0 c).after 10 t = k0_pay3 (stOut m c t.val t.isLt) := by dsimp only [dats]
/-- What the block of outputs is handed back as. -/
theorem leaves_9 (c : Dev nD) (t : Fin cfg0.N) : (dats m 0 c).leavesExact 9 t = owns (c : Thread nD τ) (ms0_9 t) fullShare (oOut m c t) := by
  unfold Dat.leavesExact; rw [liveAt0_9 t, after_9]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point, by its case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = iprop(owns (c : Thread nD τ) scM0_0 fullShare (stOut m c t.val t.isLt) ∗ (∃ r, prngReg c r)) from rfl]
  have hN : t.val < 16 := lt_of_lt_of_eq t.isLt (show cfg0.N = 16 from N_0)
  rw [leaves_0, leaves_1, leaves_2, leaves_3, leaves_4, leaves_5, leaves_6, leaves_7, leaves_8, leaves_9]
  rw [PhiS_castSucc m c t]
  by_cases h0 : t.val % 4 = 0
  · have h1 : ¬ t.val % 4 = 3 := by omega
    rw [Dat.leavesExact_idle (dats m 0 c) 10 t (idleAt0_10_A t ((hcond0_0 t).mpr h0) (fun h => h1 ((hcond0_1 t).mp h))) (noFlush0_10_A t ((hcond0_0 t).mpr h0) (fun h => h1 ((hcond0_1 t).mp h)))]
    unfold oOut stOut
    rw [st0_first m c t.val t.isLt h0]
    refine (sep_mono_left (PhiS_any m c _ _)).trans ?_
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA _ (hs0_0 t) _ (hs0_1 t) _ (hs0_2 t) _ (hs0_3 t) _ (hs0_4 t) _ (hs0_5 t) _ (hs0_6 t) _ (hs0_7 t) _ (hs0_8 t) _ (hs0_9 t) _ (hs0_10 t) _ (Memref.isWhole_whole _) (iblk m c 0 t) (iblk m c 1 t) (iblk m c 2 t) (iblk m c 3 t) (iblk m c 4 t) (iblk m c 5 t) (iblk m c 6 t) (iblk m c 7 t) (iblk m c 8 t) c (grid0.coords t) ((hcond0_0 t).mpr h0) (fun h => h1 ((hcond0_1 t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    iintro ⟨H0, H1, H2, H3, H4, H5, H6, H7, H8, H9, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h1 : t.val % 4 = 3
    · rw [show (dats m 0 c).leavesExact 10 t = owns (c : Thread nD τ) (ms0_10 t) fullShare (k0_pay3 (stOut m c t.val t.isLt)) from by
          unfold Dat.leavesExact; rw [liveAt0_10_C t (fun h => h0 ((hcond0_0 t).mp h)) ((hcond0_1 t).mpr h1), after_10]]
      rw [PhiS_pos m c _ _ (by intro hz; rw [hz] at h0; exact h0 rfl)]
      have hst := st0_next m c t.val t.isLt h0
      rw [← hst]
      unfold oOut stOut
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runC _ (hs0_0 t) _ (hs0_1 t) _ (hs0_2 t) _ (hs0_3 t) _ (hs0_4 t) _ (hs0_5 t) _ (hs0_6 t) _ (hs0_7 t) _ (hs0_8 t) _ (hs0_9 t) _ (hs0_10 t) _ (Memref.isWhole_whole _) (iblk m c 0 t) (iblk m c 1 t) (iblk m c 2 t) (iblk m c 3 t) (iblk m c 4 t) (iblk m c 5 t) (iblk m c 6 t) (iblk m c 7 t) (iblk m c 8 t) c (grid0.coords t) (fun h => h0 ((hcond0_0 t).mp h)) ((hcond0_1 t).mpr h1) (st0 m c t.val t.isLt) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      iintro ⟨H0, H1, H2, H3, H4, H5, H6, H7, H8, H9, H10, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [PhiS_pos m c _ _ (by intro hz; rw [hz] at h0; exact h0 rfl)]
      have hst := st0_next m c t.val t.isLt h0
      rw [← hst]
      unfold oOut stOut
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runB _ (hs0_0 t) _ (hs0_1 t) _ (hs0_2 t) _ (hs0_3 t) _ (hs0_4 t) _ (hs0_5 t) _ (hs0_6 t) _ (hs0_7 t) _ (hs0_8 t) _ (hs0_9 t) _ (hs0_10 t) _ (Memref.isWhole_whole _) (iblk m c 0 t) (iblk m c 1 t) (iblk m c 2 t) (iblk m c 3 t) (iblk m c 4 t) (iblk m c 5 t) (iblk m c 6 t) (iblk m c 7 t) (iblk m c 8 t) c (grid0.coords t) (fun h => h0 ((hcond0_0 t).mp h)) (fun h => h1 ((hcond0_1 t).mp h)) (st0 m c t.val t.isLt) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iintro ⟨H0, H1, H2, H3, H4, H5, H6, H7, H8, H9, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_any m c _ _

set_option backward.isDefEq.respectTransparency.types false in
/-- Every run of the program ends with each array at what the proof data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: every run ends with the arguments unchanged and every counter at zero. -/
theorem frame_ret : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.Ret

end
-- ==== Proof.Ret.Spec.lean ====
/-
  Retention over the extended reals, element by element: the decay tables, the state before chunk `n`, a chunk's outputs,
  and the group-normalised, gated result. Both programs are shown to compute these.
-/
module

public import Idealize.ShloMosaic.PureOps.Ideal
public import Idealize.ShloMosaic.Lib.Pointwise
public import Idealize.ShloMosaic.Lib.Pointwise.Index

@[expose] public section

noncomputable section

namespace Cert.Ret

open Idealize Idealize.ShloMosaic
open scoped BigOperators

/-- The number a small natural stands for in the tables. -/
def natE (n : ℕ) : EReal := FloatOps.sitofp (F := Ideal) FTy.f32 (BitVec.ofNat 32 n)

/-- The logarithm of head `h`'s decay. -/
def lgT (h : ℕ) : EReal :=
  Ideal.log1p (-Ideal.exp (Ideal.ofBits FTy.f32 1060205080#32 * (Ideal.ofBits FTy.f32 3231711232#32 - natE h)))

/-- The decay from key `j` to query `i` of one chunk, zero when the key comes later. -/
def intraT (h i j : ℕ) : EReal :=
  if 0 ≤ natE i - natE j then Ideal.exp (max (natE i - natE j) 0 * lgT h) else 0

/-- The decay of the incoming state at query `i`. -/
def qdT (h i : ℕ) : EReal := Ideal.exp ((natE i + 1) * lgT h)

/-- The decay of key `i` to the end of the chunk. -/
def kdT (h i : ℕ) : EReal := Ideal.exp ((Ideal.ofBits FTy.f32 1123942400#32 - natE i) * lgT h)

/-- The decay of the state over one whole chunk. -/
def cdT (h : ℕ) : EReal := Ideal.exp (Ideal.ofBits FTy.f32 1124073472#32 * lgT h)

/-- The scale of the keys. -/
def dkS : EReal := Ideal.ofBits FTy.f32 1035273459#32

/-- An 8192 by 8192 array read by natural-number coordinates. -/
def rowsOf (x : (⟨2, ![8192, 8192]⟩ : Shape).Idx → EReal) (i j : ℕ) : EReal :=
  x (ix2 ⟨i % 8192, Nat.mod_lt _ (by decide)⟩ ⟨j % 8192, Nat.mod_lt _ (by decide)⟩)

/-- At coordinates in range it is the array's element. -/
theorem rowsOf_eq (x : (⟨2, ![8192, 8192]⟩ : Shape).Idx → EReal) (i j : ℕ) (hi : i < 8192) (hj : j < 8192) :
    x (ix2 ⟨i, hi⟩ ⟨j, hj⟩) = rowsOf x i j := by
  unfold rowsOf
  congr 2 <;> exact Fin.ext (Nat.mod_eq_of_lt ‹_›).symm

/-- A vector of 2048 read by a natural-number coordinate. -/
def vecOf (x : (⟨1, ![2048]⟩ : Shape).Idx → EReal) (i : ℕ) : EReal := x (ix1 ⟨i % 2048, Nat.mod_lt _ (by decide)⟩)

/-- At a coordinate in range it is the vector's element. -/
theorem vecOf_eq (x : (⟨1, ![2048]⟩ : Shape).Idx → EReal) (i : ℕ) (hi : i < 2048) : x (ix1 ⟨i, hi⟩) = vecOf x i := by
  unfold vecOf
  congr 1
  exact congrArg ix1 (Fin.ext (Nat.mod_eq_of_lt hi).symm)

/-- The state of batch `b`, head `h` before chunk `n`. -/
def stS (R : ℕ → ℕ → EReal) (b h : ℕ) : ℕ → ℕ → ℕ → EReal
  | 0, _, _ => 0
  | n + 1, d, e => stS R b h n d e * cdT h +
      ∑ i : Fin 128, R (4096 * b + 128 * n + i) (2048 + 128 * h + d) * dkS * kdT h i * R (4096 * b + 128 * n + i) (4096 + 128 * h + e)

/-- The output of chunk `n` at row `i`, before the normalisation. -/
def oS (R : ℕ → ℕ → EReal) (b h n i e : ℕ) : EReal :=
  (∑ j : Fin 128, (∑ d : Fin 128, R (4096 * b + 128 * n + i) (128 * h + d) * (R (4096 * b + 128 * n + j) (2048 + 128 * h + d) * dkS))
      * intraT h i j * R (4096 * b + 128 * n + j) (4096 + 128 * h + e))
    + ∑ d : Fin 128, R (4096 * b + 128 * n + i) (128 * h + d) * qdT h i * stS R b h n d e

/-- A row's group normalisation, scaled and gated. -/
def gateS (o : Fin 128 → EReal) (rg gn : EReal) (e : Fin 128) : EReal :=
  rg * Ideal.div 1 (1 + Ideal.exp (0 - rg)) *
    ((o e - Ideal.div (∑ x, o x) (Ideal.ofBits FTy.f32 1124073472#32)) *
        Ideal.rsqrt (Ideal.div (∑ x, (o x - Ideal.div (∑ x, o x) (Ideal.ofBits FTy.f32 1124073472#32)) *
                  (o x - Ideal.div (∑ x, o x) (Ideal.ofBits FTy.f32 1124073472#32))) (Ideal.ofBits FTy.f32 1124073472#32)
            + Ideal.ofBits FTy.f32 897988541#32) * gn)

/-- The result at a row and a column of the whole array. -/
def outS (R : ℕ → ℕ → EReal) (gn : ℕ → EReal) (row col : ℕ) : EReal :=
  gateS (fun e => oS R (row / 4096) (col / 128) (row % 4096 / 128) (row % 128) e) (R row (6144 + col)) (gn col)
    ⟨col % 128, Nat.mod_lt _ (by decide)⟩

end Cert.Ret
-- ==== Proof.Ret.Blocks.lean ====
/-
  The retention kernel's input blocks and tables at an index: which element of the arrays each block element is.
-/
module

public import proofs.«01_k».proof.Proof.Ret.Run
public import proofs.«01_k».proof.Proof.Ret.Spec
public import Idealize.ShloMosaic.Lib.StableHlo.RunClose
public import Idealize.ShloMosaic.Lib.Pipeline.ValueKit

@[expose] public section

set_option maxRecDepth 65536

noncomputable section

namespace Cert.Ret

open Idealize Idealize.ShloMosaic Idealize.ShloMosaic.TcCoe Idealize.ShloMosaic.StableHlo Idealize.ShloMosaic.Tactic
open Cert.KernelIdeal Cert.KernelIdeal.Gen

variable (m : (ℓ : Loc nD τ sig) → Buf (Elt Ideal) ℓ) (c : Dev nD)

/-- The projected array of the launch memory. -/
def RK : ℕ → ℕ → EReal := rowsOf (m ((c : Thread nD τ).loc main_arg0))

/-- The scale vector of the launch memory. -/
def GK : ℕ → EReal := vecOf (m ((c : Thread nD τ).loc main_arg1))

/-- The table of decays inside a chunk. -/
theorem V_intra (h : Fin 16) (i j : Fin 128) : V m c main_v24 (ix3 h i j) = intraT h i j := by
  unfold V
  simp only [hostOps0, hostOps0_1, hostOps0_2, List.flatten_cons, List.flatten_nil, List.append_nil, List.cons_append, List.nil_append]
  after_results_simp
  dsimp only [TRef.toBuf, TRef.ofBuf, cast_eq, id_eq]
  pointwise
  rfl

/-- The table of decays of the incoming state. -/
theorem V_qd (h : Fin 16) (i j : Fin 128) : V m c main_v45 (ix3 h i j) = qdT h i := by
  unfold V
  simp only [hostOps0, hostOps0_1, hostOps0_2, List.flatten_cons, List.flatten_nil, List.append_nil, List.cons_append, List.nil_append]
  after_results_simp
  pointwise
  rfl

/-- The table of decays of the keys. -/
theorem V_kd (h : Fin 16) (i j : Fin 128) : V m c main_v47 (ix3 h i j) = kdT h i := by
  unfold V
  simp only [hostOps0, hostOps0_1, hostOps0_2, List.flatten_cons, List.flatten_nil, List.append_nil, List.cons_append, List.nil_append]
  after_results_simp
  pointwise
  rfl

/-- The table of decays of the state. -/
theorem V_cd (h : Fin 16) (i j : Fin 128) : V m c main_v49 (ix3 h i j) = cdT h := by
  unfold V
  simp only [hostOps0, hostOps0_1, hostOps0_2, List.flatten_cons, List.flatten_nil, List.append_nil, List.cons_append, List.nil_append]
  after_results_simp
  pointwise
  rfl

/-- The scale vector as the kernel's one-row array. -/
theorem V_gn (j : Fin 2048) : V m c main_v50 (ix2 0 j) = GK m c j := by
  unfold V
  simp only [hostOps0, hostOps0_1, hostOps0_2, List.flatten_cons, List.flatten_nil, List.append_nil, List.cons_append, List.nil_append]
  after_results_simp
  pointwise
  exact vecOf_eq _ _ _

/-- The block window 0 stages at each point. -/
theorem e0 : ∀ t : Fin cfg0.N, win0_0.index t = ![4 * (t.val / 8) + t.val % 4, t.val / 4 % 2] := by decide +kernel
/-- The block window 1 stages at each point. -/
theorem e1 : ∀ t : Fin cfg0.N, win0_1.index t = ![4 * (t.val / 8) + t.val % 4, 2 + t.val / 4 % 2] := by decide +kernel
/-- The block window 2 stages at each point. -/
theorem e2 : ∀ t : Fin cfg0.N, win0_2.index t = ![4 * (t.val / 8) + t.val % 4, 4 + t.val / 4 % 2] := by decide +kernel
/-- The block window 3 stages at each point. -/
theorem e3 : ∀ t : Fin cfg0.N, win0_3.index t = ![4 * (t.val / 8) + t.val % 4, 6 + t.val / 4 % 2] := by decide +kernel
/-- The block window 9 stages at each point. -/
theorem e9 : ∀ t : Fin cfg0.N, win0_9.index t = ![4 * (t.val / 8) + t.val % 4, t.val / 4 % 2] := by decide +kernel
/-- The block window 4 stages at each point. -/
theorem e4 : ∀ t : Fin cfg0.N, win0_4.index t = ![t.val / 4 % 2, 0, 0] := by decide +kernel
/-- The block window 5 stages at each point. -/
theorem e5 : ∀ t : Fin cfg0.N, win0_5.index t = ![t.val / 4 % 2, 0, 0] := by decide +kernel
/-- The block window 6 stages at each point. -/
theorem e6 : ∀ t : Fin cfg0.N, win0_6.index t = ![t.val / 4 % 2, 0, 0] := by decide +kernel
/-- The block window 7 stages at each point. -/
theorem e7 : ∀ t : Fin cfg0.N, win0_7.index t = ![t.val / 4 % 2, 0, 0] := by decide +kernel
/-- The block window 8 stages at each point. -/
theorem e8 : ∀ t : Fin cfg0.N, win0_8.index t = ![0, t.val / 4 % 2] := by decide +kernel
/-- The block window 10 stages at each point. -/
theorem e10 : ∀ t : Fin cfg0.N, win0_10.index t = ![t.val / 8, t.val / 4 % 2, 0, 0] := by decide +kernel

/-- The block of queries at a point. -/
theorem iblk_0 (t : Fin cfg0.N) (i j : Fin 1024) :
    iblk m c 0 t (ix2 i j) = RK m c (1024 * (4 * (t.val / 8) + t.val % 4) + i) (1024 * (t.val / 4 % 2) + j) := by
  have ht : t.val < 16 := t.isLt
  have hi := i.isLt
  have hj := j.isLt
  blk_simp [iblk]
  rw [V_main_arg0]
  refine Eq.trans (congrArg _ ?_) (rowsOf_eq _ _ _ (by omega) (by omega))
  blk_ext [e0]
/-- The block of keys at a point. -/
theorem iblk_1 (t : Fin cfg0.N) (i j : Fin 1024) :
    iblk m c 1 t (ix2 i j) = RK m c (1024 * (4 * (t.val / 8) + t.val % 4) + i) (2048 + 1024 * (t.val / 4 % 2) + j) := by
  have ht : t.val < 16 := t.isLt
  have hi := i.isLt
  have hj := j.isLt
  blk_simp [iblk]
  rw [V_main_arg0]
  refine Eq.trans (congrArg _ ?_) (rowsOf_eq _ _ _ (by omega) (by omega))
  blk_ext [e1]
/-- The block of values at a point. -/
theorem iblk_2 (t : Fin cfg0.N) (i j : Fin 1024) :
    iblk m c 2 t (ix2 i j) = RK m c (1024 * (4 * (t.val / 8) + t.val % 4) + i) (4096 + 1024 * (t.val / 4 % 2) + j) := by
  have ht : t.val < 16 := t.isLt
  have hi := i.isLt
  have hj := j.isLt
  blk_simp [iblk]
  rw [V_main_arg0]
  refine Eq.trans (congrArg _ ?_) (rowsOf_eq _ _ _ (by omega) (by omega))
  blk_ext [e2]
/-- The block of gates at a point. -/
theorem iblk_3 (t : Fin cfg0.N) (i j : Fin 1024) :
    iblk m c 3 t (ix2 i j) = RK m c (1024 * (4 * (t.val / 8) + t.val % 4) + i) (6144 + 1024 * (t.val / 4 % 2) + j) := by
  have ht : t.val < 16 := t.isLt
  have hi := i.isLt
  have hj := j.isLt
  blk_simp [iblk]
  rw [V_main_arg0]
  refine Eq.trans (congrArg _ ?_) (rowsOf_eq _ _ _ (by omega) (by omega))
  blk_ext [e3]
/-- The block of a decay table at a point. -/
theorem iblk_4 (t : Fin cfg0.N) (h : Fin 8) (i j : Fin 128) : iblk m c 4 t (ix3 h i j) = intraT (8 * (t.val / 4 % 2) + h) i j := by
  have ht : t.val < 16 := t.isLt
  have hh := h.isLt
  blk_simp [iblk]
  refine Eq.trans (congrArg _ ?_) (V_intra m c ⟨8 * (t.val / 4 % 2) + h, by omega⟩ i j)
  blk_ext [e4]
/-- The block of a decay table at a point. -/
theorem iblk_5 (t : Fin cfg0.N) (h : Fin 8) (i j : Fin 128) : iblk m c 5 t (ix3 h i j) = qdT (8 * (t.val / 4 % 2) + h) i := by
  have ht : t.val < 16 := t.isLt
  have hh := h.isLt
  blk_simp [iblk]
  refine Eq.trans (congrArg _ ?_) (V_qd m c ⟨8 * (t.val / 4 % 2) + h, by omega⟩ i j)
  blk_ext [e5]
/-- The block of a decay table at a point. -/
theorem iblk_6 (t : Fin cfg0.N) (h : Fin 8) (i j : Fin 128) : iblk m c 6 t (ix3 h i j) = kdT (8 * (t.val / 4 % 2) + h) i := by
  have ht : t.val < 16 := t.isLt
  have hh := h.isLt
  blk_simp [iblk]
  refine Eq.trans (congrArg _ ?_) (V_kd m c ⟨8 * (t.val / 4 % 2) + h, by omega⟩ i j)
  blk_ext [e6]
/-- The block of a decay table at a point. -/
theorem iblk_7 (t : Fin cfg0.N) (h : Fin 8) (i j : Fin 128) : iblk m c 7 t (ix3 h i j) = cdT (8 * (t.val / 4 % 2) + h) := by
  have ht : t.val < 16 := t.isLt
  have hh := h.isLt
  blk_simp [iblk]
  refine Eq.trans (congrArg _ ?_) (V_cd m c ⟨8 * (t.val / 4 % 2) + h, by omega⟩ i j)
  blk_ext [e7]
/-- The block of the scale vector at a point. -/
theorem iblk_8 (t : Fin cfg0.N) (j : Fin 1024) : iblk m c 8 t (ix2 0 j) = GK m c (1024 * (t.val / 4 % 2) + j) := by
  have ht : t.val < 16 := t.isLt
  have hj := j.isLt
  blk_simp [iblk]
  refine Eq.trans (congrArg _ ?_) (V_gn m c ⟨1024 * (t.val / 4 % 2) + j, by omega⟩)
  blk_ext [e8]

end Cert.Ret
-- ==== Proof.Ret.KernelValue.lean ====
/-
  What the retention kernel leaves in its two result arrays, element by element: the gated outputs and the last state.
-/
module

public import proofs.«01_k».proof.Proof.Ret.Blocks

@[expose] public section

set_option maxRecDepth 65536

noncomputable section

namespace Cert.Ret

open Idealize Idealize.ShloMosaic Idealize.ShloMosaic.TcCoe Idealize.ShloMosaic.StableHlo Idealize.ShloMosaic.Tactic
open Cert.KernelIdeal Cert.KernelIdeal.Gen
open scoped BigOperators

/-- One head's next state at an element. -/
theorem headSt_apply (k v : FVec Ideal S128x128 .f32) (cd kd st : FVec Ideal S1x128x128 .f32) (d e : Fin 128) :
    headSt (F := Ideal) k v cd kd st (ix3 0 d e)
      = st (ix3 0 d e) * cd (ix3 0 d e) + ∑ i : Fin 128, k (ix2 i d) * dkS * kd (ix3 0 i d) * v (ix2 i e) := by
  unfold headSt k0_pay10 k0_pay5 k0_pay8 k0_pay9 k0_pay6 k0_pay4
  pointwise
  rfl

/-- One head's output before the normalisation, at an element. -/
theorem pay7_apply (q k v : FVec Ideal S128x128 .f32) (intra qd st : FVec Ideal S1x128x128 .f32) (i e : Fin 128) :
    k0_pay7 (F := Ideal) q k v st intra qd (ix2 i e)
      = (∑ j : Fin 128, (∑ d : Fin 128, q (ix2 i d) * (k (ix2 j d) * dkS)) * intra (ix3 0 i j) * v (ix2 j e))
        + ∑ d : Fin 128, q (ix2 i d) * qd (ix3 0 i d) * st (ix3 0 d e) := by
  unfold k0_pay7 k0_pay5 k0_pay6 k0_pay4
  pointwise
  rfl

/-- One head's normalised and gated output at an element. -/
theorem pay11_apply (o rg : FVec Ideal S128x128 .f32) (gn : FVec Ideal S1x128 .f32) (i e : Fin 128) :
    k0_pay11 (F := Ideal) o rg gn (ix2 i e) = gateS (fun x => o (ix2 i x)) (rg (ix2 i e)) (gn (ix2 0 e)) e := by
  unfold k0_pay11
  pointwise
  rfl

/-- A tile at an element. -/
theorem tile_apply (x : Vec Ideal S1024x1024 .f32) (n h : ℕ) (hn : n < 8) (hh : h < 8) (i j : Fin 128) :
    tile x n h (ix2 i j) = x (ix2 ⟨128 * n + i, by omega⟩ ⟨128 * h + j, by omega⟩) := by
  have e1 : (⟨(128 * n + i.val) % 1024, Nat.mod_lt _ (by decide)⟩ : Fin 1024) = ⟨128 * n + i, by omega⟩ :=
    Fin.ext (Nat.mod_eq_of_lt (by omega))
  have e2 : (⟨(128 * h + j.val) % 1024, Nat.mod_lt _ (by decide)⟩ : Fin 1024) = ⟨128 * h + j, by omega⟩ :=
    Fin.ext (Nat.mod_eq_of_lt (by omega))
  rw [← e1, ← e2]
  rfl

/-- A head's slab at an element. -/
theorem hd_apply (x : Vec Ideal S8x128x128 .f32) (h : Fin 8) (i j : Fin 128) : hd x h.val (ix3 0 i j) = x (ix3 h i j) := by
  have e : (⟨h.val % 8, Nat.mod_lt _ (by decide)⟩ : Fin 8) = h := Fin.ext (Nat.mod_eq_of_lt h.isLt)
  conv_rhs => rw [← e]
  rfl

/-- A head's part of the scale vector at an element. -/
theorem gnOf_apply (x : Vec Ideal S1x1024 .f32) (h : ℕ) (hh : h < 8) (j : Fin 128) :
    gnOf x h (ix2 0 j) = x (ix2 0 ⟨128 * h + j, by omega⟩) := by
  have e : (⟨(128 * h + j.val) % 1024, Nat.mod_lt _ (by decide)⟩ : Fin 1024) = ⟨128 * h + j, by omega⟩ :=
    Fin.ext (Nat.mod_eq_of_lt (by omega))
  rw [← e]
  rfl

variable (m : (ℓ : Loc nD τ sig) → Buf (Elt Ideal) ℓ) (c : Dev nD)

/-- The queries of one chunk and head at a point. -/
theorem tile_0 (t : Fin cfg0.N) (n : ℕ) (hn : n < 8) (h : Fin 8) (i d : Fin 128) :
    tile (iblk m c 0 t) n h.val (ix2 i d)
      = RK m c (4096 * (t.val / 8) + 128 * (8 * (t.val % 4) + n) + i) (128 * (8 * (t.val / 4 % 2) + h) + d) := by
  rw [tile_apply _ _ _ hn h.isLt]
  refine (iblk_0 m c t _ _).trans ?_
  exact congrArg₂ (RK m c) (by dsimp only; omega) (by dsimp only; omega)

/-- The keys of one chunk and head at a point. -/
theorem tile_1 (t : Fin cfg0.N) (n : ℕ) (hn : n < 8) (h : Fin 8) (i d : Fin 128) :
    tile (iblk m c 1 t) n h.val (ix2 i d)
      = RK m c (4096 * (t.val / 8) + 128 * (8 * (t.val % 4) + n) + i) (2048 + 128 * (8 * (t.val / 4 % 2) + h) + d) := by
  rw [tile_apply _ _ _ hn h.isLt]
  refine (iblk_1 m c t _ _).trans ?_
  exact congrArg₂ (RK m c) (by dsimp only; omega) (by dsimp only; omega)

/-- The values of one chunk and head at a point. -/
theorem tile_2 (t : Fin cfg0.N) (n : ℕ) (hn : n < 8) (h : Fin 8) (i d : Fin 128) :
    tile (iblk m c 2 t) n h.val (ix2 i d)
      = RK m c (4096 * (t.val / 8) + 128 * (8 * (t.val % 4) + n) + i) (4096 + 128 * (8 * (t.val / 4 % 2) + h) + d) := by
  rw [tile_apply _ _ _ hn h.isLt]
  refine (iblk_2 m c t _ _).trans ?_
  exact congrArg₂ (RK m c) (by dsimp only; omega) (by dsimp only; omega)

/-- The gates of one chunk and head at a point. -/
theorem tile_3 (t : Fin cfg0.N) (n : ℕ) (hn : n < 8) (h : Fin 8) (i d : Fin 128) :
    tile (iblk m c 3 t) n h.val (ix2 i d)
      = RK m c (4096 * (t.val / 8) + 128 * (8 * (t.val % 4) + n) + i) (6144 + 128 * (8 * (t.val / 4 % 2) + h) + d) := by
  rw [tile_apply _ _ _ hn h.isLt]
  refine (iblk_3 m c t _ _).trans ?_
  exact congrArg₂ (RK m c) (by dsimp only; omega) (by dsimp only; omega)

/-- One trip takes the state before chunk `8 p + n` to the state before the next. -/
theorem stNext_spec (t : Fin cfg0.N) (n : ℕ) (hn : n < 8) (st : Vec Ideal S8x128x128 .f32)
    (hst : ∀ (h : Fin 8) (d e : Fin 128), st (ix3 h d e) = stS (RK m c) (t.val / 8) (8 * (t.val / 4 % 2) + h) (8 * (t.val % 4) + n) d e)
    (h : Fin 8) (d e : Fin 128) :
    stNext (iblk m c 1 t) (iblk m c 2 t) (iblk m c 6 t) (iblk m c 7 t) n st (ix3 h d e)
      = stS (RK m c) (t.val / 8) (8 * (t.val / 4 % 2) + h) (8 * (t.val % 4) + n + 1) d e := by
  refine (headSt_apply (tile (iblk m c 1 t) n h.val) (tile (iblk m c 2 t) n h.val) (hd (iblk m c 7 t) h.val)
    (hd (iblk m c 6 t) h.val) (hd st h.val) d e).trans ?_
  rw [stS, hd_apply, hst, hd_apply, iblk_7]
  refine congrArg₂ (· + ·) rfl (Finset.sum_congr rfl fun i _ => ?_)
  rw [tile_1 m c t n hn, tile_2 m c t n hn, hd_apply, iblk_6]

/-- The state before each of a block's chunks. -/
theorem stAt_spec (t : Fin cfg0.N) (st : Vec Ideal S8x128x128 .f32)
    (hst : ∀ (h : Fin 8) (d e : Fin 128), st (ix3 h d e) = stS (RK m c) (t.val / 8) (8 * (t.val / 4 % 2) + h) (8 * (t.val % 4)) d e) :
    ∀ (n : ℕ) (_ : n ≤ 8) (h : Fin 8) (d e : Fin 128),
      stAt (iblk m c 1 t) (iblk m c 2 t) (iblk m c 6 t) (iblk m c 7 t) st n (ix3 h d e)
        = stS (RK m c) (t.val / 8) (8 * (t.val / 4 % 2) + h) (8 * (t.val % 4) + n) d e
  | 0, _, h, d, e => hst h d e
  | n + 1, hn, h, d, e => stNext_spec m c t n hn _ (stAt_spec t st hst n (Nat.le_of_succ_le hn)) h d e

/-- The kernel's zero. -/
theorem pay1_apply (h : Fin 8) (d e : Fin 128) : k0_pay1 (F := Ideal) (ix3 h d e) = 0 := by
  unfold k0_pay1
  pointwise

/-- The state a point starts from. -/
theorem st0_spec : ∀ (n : ℕ) (hn : n < cfg0.N) (h : Fin 8) (d e : Fin 128),
    st0 m c n hn (ix3 h d e) = stS (RK m c) (n / 8) (8 * (n / 4 % 2) + h) (8 * (n % 4)) d e := by
  intro n
  induction n with
  | zero => intro hn h d e; rw [st0_first m c 0 hn rfl]; exact pay1_apply h d e
  | succ n ih =>
    intro hn h d e
    by_cases h0 : (n + 1) % 4 = 0
    · rw [st0_first m c _ hn h0, pay1_apply, h0]; rfl
    · rw [st0_next m c _ hn h0]
      refine (stAt_spec m c ⟨n, Nat.lt_of_succ_lt hn⟩ _ (ih (Nat.lt_of_succ_lt hn)) 8 le_rfl h d e).trans ?_
      dsimp only
      rw [show n / 8 = (n + 1) / 8 by omega, show n / 4 % 2 = (n + 1) / 4 % 2 by omega,
        show 8 * (n % 4) + 8 = 8 * ((n + 1) % 4) by omega]

/-- The outputs of a point, at a chunk's row and a head's column. -/
theorem outTile_spec (t : Fin cfg0.N) (n : ℕ) (hn : n < 8) (h : Fin 8) (i e : Fin 128) :
    outTile (iblk m c 0 t) (iblk m c 1 t) (iblk m c 2 t) (iblk m c 3 t) (iblk m c 4 t) (iblk m c 5 t) (iblk m c 6 t)
        (iblk m c 7 t) (iblk m c 8 t) (st0 m c t.val t.isLt) n h.val (ix2 i e)
      = gateS (fun x => oS (RK m c) (t.val / 8) (8 * (t.val / 4 % 2) + h) (8 * (t.val % 4) + n) i x)
          (RK m c (4096 * (t.val / 8) + 128 * (8 * (t.val % 4) + n) + i) (6144 + 128 * (8 * (t.val / 4 % 2) + h) + e))
          (GK m c (128 * (8 * (t.val / 4 % 2) + h) + e)) e := by
  refine (pay11_apply (k0_pay7 (tile (iblk m c 0 t) n h.val) (tile (iblk m c 1 t) n h.val) (tile (iblk m c 2 t) n h.val)
    (hd (stAt (iblk m c 1 t) (iblk m c 2 t) (iblk m c 6 t) (iblk m c 7 t) (st0 m c t.val t.isLt) n) h.val)
    (hd (iblk m c 4 t) h.val) (hd (iblk m c 5 t) h.val)) (tile (iblk m c 3 t) n h.val) (gnOf (iblk m c 8 t) h.val) i e).trans ?_
  rw [tile_3 m c t n hn, gnOf_apply _ _ h.isLt, iblk_8]
  refine congrFun (congr (congr (congrArg gateS (funext fun x => ?_)) rfl) (congrArg _ (by dsimp only; omega))) e
  refine (pay7_apply (tile (iblk m c 0 t) n h.val) (tile (iblk m c 1 t) n h.val) (tile (iblk m c 2 t) n h.val)
    (hd (iblk m c 4 t) h.val) (hd (iblk m c 5 t) h.val)
    (hd (stAt (iblk m c 1 t) (iblk m c 2 t) (iblk m c 6 t) (iblk m c 7 t) (st0 m c t.val t.isLt) n) h.val) i x).trans ?_
  rw [oS]
  refine congrArg₂ (· + ·) (Finset.sum_congr rfl fun j _ => ?_) (Finset.sum_congr rfl fun d _ => ?_)
  · rw [hd_apply, iblk_4, tile_2 m c t n hn]
    refine congrArg₂ (· * ·) (congrArg₂ (· * ·) (Finset.sum_congr rfl fun d _ => ?_) rfl) rfl
    rw [tile_0 m c t n hn, tile_1 m c t n hn]
  · rw [tile_0 m c t n hn, hd_apply (iblk m c 5 t), iblk_5]
    exact congrArg _ ((hd_apply _ h d x).trans (stAt_spec m c t _ (st0_spec m c t.val t.isLt) n hn.le h d x))

/-- The array of outputs. -/
theorem final_o : (dats m 0 c).arrAt 9 cfg0.N
    = fun j : S8192x2048.Idx => (outS (RK m c) (GK m c) (j 0).val (j 1).val : EReal) := by
  refine (dats m 0 c).arrAt_eq_of_covers 9 _ (by decide +kernel) fun t hf y => ?_
  blk_simp
  rw [after_9]
  have ht : t.val < 16 := t.isLt
  have h0 : (y 0).val < 1024 := (y 0).isLt
  have h1 : (y 1).val < 1024 := (y 1).isLt
  blk_simp [e9]
  refine (outTile_spec m c t ((y 0).val / 128) (by omega) ⟨(y 1).val / 128, by omega⟩ _ _).trans ?_
  rw [outS]
  dsimp only
  have hb : ((4 * (t.val / 8) + t.val % 4) * 1024 + (y 0).val) / 4096 = t.val / 8 := by omega
  have hn : ((4 * (t.val / 8) + t.val % 4) * 1024 + (y 0).val) % 4096 / 128 = 8 * (t.val % 4) + (y 0).val / 128 := by omega
  have hi : ((4 * (t.val / 8) + t.val % 4) * 1024 + (y 0).val) % 128 = (y 0).val % 128 := by omega
  have hh : (t.val / 4 % 2 * 1024 + (y 1).val) / 128 = 8 * (t.val / 4 % 2) + (y 1).val / 128 := by omega
  have he : (t.val / 4 % 2 * 1024 + (y 1).val) % 128 = (y 1).val % 128 := by omega
  have hr : 4096 * (t.val / 8) + 128 * (8 * (t.val % 4) + (y 0).val / 128) + (y 0).val % 128
      = (4 * (t.val / 8) + t.val % 4) * 1024 + (y 0).val := by omega
  have hc : 128 * (8 * (t.val / 4 % 2) + (y 1).val / 128) + (y 1).val % 128 = t.val / 4 % 2 * 1024 + (y 1).val := by omega
  simp only [hb, hn, hi, hh, he, hr, hc, Nat.add_assoc]

/-- The state's block is written back at the last block of each row. -/
theorem flush_10 : ∀ t : Fin cfg0.N, (cfg0.win 10).flush t = true ↔ t.val % 4 = 3 := by decide +kernel

/-- The state as the block that is written back. -/
theorem pay3_apply (x : Vec Ideal S8x128x128 .f32) (y : S1x8x128x128.Idx) : k0_pay3 x y = x (ix3 (y 1) (y 2) (y 3)) := by
  rw [eq_ix4 y]
  unfold k0_pay3
  pointwise

/-- The array of last states. -/
theorem final_s : (dats m 0 c).arrAt 10 cfg0.N
    = fun j : S2x16x128x128.Idx => (stS (RK m c) (j 0).val (j 1).val 32 (j 2).val (j 3).val : EReal) := by
  refine (dats m 0 c).arrAt_eq_of_covers 10 _ (by decide +kernel) fun t hf y => ?_
  blk_simp
  rw [after_10]
  have ht : t.val < 16 := t.isLt
  have h3 : t.val % 4 = 3 := (flush_10 t).mp hf
  blk_simp [e10]
  have h1 : (y 1).val < 8 := (y 1).isLt
  have h2 : (y 2).val < 128 := (y 2).isLt
  have h4 : (y 3).val < 128 := (y 3).isLt
  refine (pay3_apply _ y).trans ?_
  refine (stAt_spec m c t _ (st0_spec m c t.val t.isLt) 8 le_rfl _ _ _).trans ?_
  dsimp only
  rw [show 8 * (t.val % 4) + 8 = 32 by omega, Nat.mul_comm 8]

end Cert.Ret
-- ==== Proof.Ret.RefStep.lean ====
/-
  One trip of the retention reference's loop at an element, and what the loop starts from.
-/
module

public import proofs.«01_k».proof.Proof.Gen.ReferenceIdeal.Run
public import proofs.«01_k».proof.Proof.Ret.Spec
public import Idealize.ShloMosaic.Lib.StableHlo.RunClose

@[expose] public section

set_option maxRecDepth 65536

noncomputable section

namespace Cert.Ret

open Idealize Idealize.ShloMosaic Idealize.ShloMosaic.TcCoe Idealize.ShloMosaic.StableHlo
open Cert.ReferenceIdeal Cert.ReferenceIdeal.Gen Cert.ReferenceIdeal.Value
open scoped BigOperators

section Step

variable (V0 : Valuation τ sig (Elt Ideal)) (n : Fin 32)
  (hn : V0 (Proc.devRef .tc main_v62_7) = fun _ => BitVec.ofNat 32 n.val)

/-- The carried buffers, element by element. -/
abbrev cQ (V0 : Valuation τ sig (Elt Ideal)) (n : Fin 32) (b : Fin 2) (i : Fin 128) (h : Fin 16) (d : Fin 128) : EReal := V0 (Proc.devRef .tc main_v62_0) (ix5 n b i h d)
abbrev cK (V0 : Valuation τ sig (Elt Ideal)) (n : Fin 32) (b : Fin 2) (i : Fin 128) (h : Fin 16) (d : Fin 128) : EReal := V0 (Proc.devRef .tc main_v62_1) (ix5 n b i h d)
abbrev cV (V0 : Valuation τ sig (Elt Ideal)) (n : Fin 32) (b : Fin 2) (i : Fin 128) (h : Fin 16) (d : Fin 128) : EReal := V0 (Proc.devRef .tc main_v62_2) (ix5 n b i h d)
abbrev cI (V0 : Valuation τ sig (Elt Ideal)) (h : Fin 16) (i j : Fin 128) : EReal := V0 (Proc.devRef .tc main_v62_3) (ix3 h i j)
abbrev cQd (V0 : Valuation τ sig (Elt Ideal)) (h : Fin 16) (i : Fin 128) : EReal := V0 (Proc.devRef .tc main_v62_4) (ix2 i h)
abbrev cCd (V0 : Valuation τ sig (Elt Ideal)) (h : Fin 16) : EReal := V0 (Proc.devRef .tc main_v62_5) (ix1 h)
abbrev cKd (V0 : Valuation τ sig (Elt Ideal)) (h : Fin 16) (i : Fin 128) : EReal := V0 (Proc.devRef .tc main_v62_6) (ix2 i h)
abbrev cS (V0 : Valuation τ sig (Elt Ideal)) (b : Fin 2) (h : Fin 16) (d e : Fin 128) : EReal := V0 (Proc.devRef .tc main_v62_8) (ix4 b h d e)
abbrev cO (V0 : Valuation τ sig (Elt Ideal)) (n : Fin 32) (b : Fin 2) (i : Fin 128) (h : Fin 16) (e : Fin 128) : EReal := V0 (Proc.devRef .tc main_v62_9) (ix5 n b i h e)

/-- The starts of the loop's slices. -/
abbrev starts (V0 : Valuation τ sig (Elt Ideal)) : Fin 5 → ℤ := fun k => (((![V0 (Proc.devRef .tc main_v62_7), constantI S_ 32 0#32, constantI S_ 32 0#32, constantI S_ 32 0#32, constantI S_ 32 0#32] : Fin 5 → (⟨S_, .i32⟩ : BufTy).Contents (Elt Ideal))) k (Shape.Idx.first h_S_)).toInt

include hn in
/-- The slice starts at the trip's number along the first axis. -/
theorem starts_0 : starts V0 0 = n.val := by
  have h : starts V0 0 = (BitVec.ofNat 32 n.val).toInt := by
    show (V0 (Proc.devRef .tc main_v62_7) _).toInt = _
    rw [hn]
  rw [h]
  clear h hn
  revert n
  decide +kernel

/-- And at zero along the others. -/
theorem starts_s (k : Fin 5) (hk : k ≠ 0) : starts V0 k = 0 := by
  have : k = 1 ∨ k = 2 ∨ k = 3 ∨ k = 4 := by revert k; decide
  rcases this with rfl | rfl | rfl | rfl <;> rfl

include hn in
/-- The clamped start along the first axis. -/
theorem clamp_0 (h) : Host.clampedStart (⟨5, ![32, 2, 128, 16, 128]⟩ : Shape) (⟨5, ![1, 2, 128, 16, 128]⟩ : Shape) h (starts V0) 0 = n.val :=
  Host.clampedStart_of_le _ _ _ _ (starts_0 V0 n hn) (by have := n.isLt; show n.val + 1 ≤ 32; omega)

/-- The clamped starts along the others. -/
theorem clamp_s (h) (k : Fin 5) (hk : k ≠ 0) :
    Host.clampedStart (⟨5, ![32, 2, 128, 16, 128]⟩ : Shape) (⟨5, ![1, 2, 128, 16, 128]⟩ : Shape) h (starts V0) k = 0 := by
  refine Host.clampedStart_of_le _ _ _ _ (starts_s V0 k hk) ?_
  have : k = 1 ∨ k = 2 ∨ k = 3 ∨ k = 4 := by revert k; decide
  rcases this with rfl | rfl | rfl | rfl <;> exact (Nat.le_refl _)

include hn in
/-- A slice of a stack at an element. -/
theorem slice_apply (x : S32x2x128x16x128.Idx → EReal) (b : Fin 2) (i : Fin 128) (h : Fin 16) (d : Fin 128) :
    Host.dynamicSlice S1x2x128x16x128 x (starts V0) sliceFits_S32x2x128x16x128_S1x2x128x16x128 (ix5 0 b i h d) = x (ix5 n b i h d) := by
  rw [Host.dynamicSlice_apply]
  refine congrArg x (funext fun a => Fin.ext ?_)
  have c0 := clamp_0 V0 n hn sliceFits_S32x2x128x16x128_S1x2x128x16x128.1
  have cs := clamp_s V0 sliceFits_S32x2x128x16x128_S1x2x128x16x128.1
  have : a = 0 ∨ a = 1 ∨ a = 2 ∨ a = 3 ∨ a = 4 := by revert a; decide
  rcases this with rfl | rfl | rfl | rfl | rfl
  · exact (congrArg (· + 0) c0)
  · exact (congrArg (· + b.val) (cs 1 (by decide))).trans (Nat.zero_add _)
  · exact (congrArg (· + i.val) (cs 2 (by decide))).trans (Nat.zero_add _)
  · exact (congrArg (· + h.val) (cs 3 (by decide))).trans (Nat.zero_add _)
  · exact (congrArg (· + d.val) (cs 4 (by decide))).trans (Nat.zero_add _)

include hn in
/-- A stack with one slice replaced, at an element. -/
theorem update_apply (x : S32x2x128x16x128.Idx → EReal) (u : S1x2x128x16x128.Idx → EReal) (n' : Fin 32) (b : Fin 2) (i : Fin 128)
    (h : Fin 16) (d : Fin 128) :
    Host.dynamicUpdateSlice x u (starts V0) sliceFits_S32x2x128x16x128_S1x2x128x16x128 (ix5 n' b i h d)
      = if n' = n then u (ix5 0 b i h d) else x (ix5 n' b i h d) := by
  have c0 := clamp_0 V0 n hn sliceFits_S32x2x128x16x128_S1x2x128x16x128.1
  have cs := clamp_s V0 sliceFits_S32x2x128x16x128_S1x2x128x16x128.1
  rw [Host.dynamicUpdateSlice_apply]
  by_cases e : n' = n
  · rw [if_pos e, dif_pos ?_]
    · refine congrArg u (funext fun a => Fin.ext ?_)
      have : a = 0 ∨ a = 1 ∨ a = 2 ∨ a = 3 ∨ a = 4 := by revert a; decide
      rcases this with rfl | rfl | rfl | rfl | rfl
      · refine (congrArg (n'.val - ·) c0).trans ?_
        rw [e]; exact Nat.sub_self _
      · exact (congrArg (b.val - ·) (cs 1 (by decide)))
      · exact (congrArg (i.val - ·) (cs 2 (by decide)))
      · exact (congrArg (h.val - ·) (cs 3 (by decide)))
      · exact (congrArg (d.val - ·) (cs 4 (by decide)))
    · intro a
      have : a = 0 ∨ a = 1 ∨ a = 2 ∨ a = 3 ∨ a = 4 := by revert a; decide
      rcases this with rfl | rfl | rfl | rfl | rfl
      · rw [c0, e]; exact ⟨le_refl n.val, Nat.lt_succ_self n.val⟩
      · rw [cs 1 (by decide)]; exact ⟨Nat.zero_le _, (Nat.zero_add 2).symm ▸ b.isLt⟩
      · rw [cs 2 (by decide)]; exact ⟨Nat.zero_le _, (Nat.zero_add 128).symm ▸ i.isLt⟩
      · rw [cs 3 (by decide)]; exact ⟨Nat.zero_le _, (Nat.zero_add 16).symm ▸ h.isLt⟩
      · rw [cs 4 (by decide)]; exact ⟨Nat.zero_le _, (Nat.zero_add 128).symm ▸ d.isLt⟩
  · rw [if_neg e, dif_neg ?_]
    intro hall
    have h0 := hall 0
    rw [c0] at h0
    have h1 : n.val ≤ n'.val := h0.1
    have h2 : n'.val < n.val + 1 := h0.2
    exact e (Fin.ext (by omega))

include hn in
/-- The trip's queries. -/
theorem v91_apply (b : Fin 2) (i : Fin 128) (h : Fin 16) (d : Fin 128) :
    res_main_while0b_v91 (F := Ideal) V0 (ix4 b i h d) = V0 (Proc.devRef .tc main_v62_0) (ix5 n b i h d) := by
  refine Eq.trans ?_ (slice_apply V0 n hn (V0 (Proc.devRef .tc main_v62_0)) b i h d)
  unfold res_main_while0b_v91
  pointwise
  rfl

include hn in
/-- The trip's keys. -/
theorem v92_apply (b : Fin 2) (i : Fin 128) (h : Fin 16) (d : Fin 128) :
    res_main_while0b_v92 (F := Ideal) V0 (ix4 b i h d) = V0 (Proc.devRef .tc main_v62_1) (ix5 n b i h d) := by
  refine Eq.trans ?_ (slice_apply V0 n hn (V0 (Proc.devRef .tc main_v62_1)) b i h d)
  unfold res_main_while0b_v92
  pointwise
  rfl

include hn in
/-- The trip's values. -/
theorem v93_apply (b : Fin 2) (i : Fin 128) (h : Fin 16) (d : Fin 128) :
    res_main_while0b_v93 (F := Ideal) V0 (ix4 b i h d) = V0 (Proc.devRef .tc main_v62_2) (ix5 n b i h d) := by
  refine Eq.trans ?_ (slice_apply V0 n hn (V0 (Proc.devRef .tc main_v62_2)) b i h d)
  unfold res_main_while0b_v93
  pointwise
  rfl

include hn in
/-- The trip's next state. -/
theorem step8_apply (b : Fin 2) (h : Fin 16) (d e : Fin 128) :
    step_main_v62_8 (F := Ideal) V0 (ix4 b h d e)
      = cS V0 b h d e * cCd V0 h + ∑ i : Fin 128, cK V0 n b i h d * cKd V0 h i * cV V0 n b i h e := by
  simp only [cK, cV, ← v92_apply V0 n hn, ← v93_apply V0 n hn]
  unfold step_main_v62_8
  simp only [id_eq]
  pointwise

include hn in
/-- The trip's stacked outputs. -/
theorem step9_apply (n' : Fin 32) (b : Fin 2) (h : Fin 16) (i e : Fin 128) :
    step_main_v62_9 (F := Ideal) V0 (ix5 n' b i h e)
      = if n' = n then
          (∑ j : Fin 128, (∑ d : Fin 128, cQ V0 n b i h d * cK V0 n b j h d) * cI V0 h i j * cV V0 n b j h e)
          + ∑ d : Fin 128, cQ V0 n b i h d * cQd V0 h i * cS V0 b h d e
        else cO V0 n' b i h e := by
  simp only [cQ, cK, cV, ← v91_apply V0 n hn, ← v92_apply V0 n hn, ← v93_apply V0 n hn]
  unfold step_main_v62_9
  simp only [id_eq]
  refine (update_apply V0 n hn _ _ n' b i h e).trans ?_
  congr 1
  pointwise
  exact congrArg₂ (· + ·) (Finset.sum_congr rfl fun j _ => mul_comm _ _) (Finset.sum_congr rfl fun j _ => mul_comm _ _)

end Step

end Cert.Ret
-- ==== Proof.Ret.RefEntry.lean ====
/-
  What the retention reference's loop starts from: the stacks of queries, keys and values, the decay tables, the zero state.
-/
module

public import proofs.«01_k».proof.Proof.Ret.RefStep

@[expose] public section

set_option maxRecDepth 65536
set_option maxHeartbeats 4000000

noncomputable section

namespace Cert.Ret

open Idealize Idealize.ShloMosaic Idealize.ShloMosaic.TcCoe Idealize.ShloMosaic.StableHlo
open Cert.ReferenceIdeal Cert.ReferenceIdeal.Gen Cert.ReferenceIdeal.Value
open scoped BigOperators

variable (m : (ℓ : Loc nD τ sig) → Buf (Elt Ideal) ℓ) (c : Dev nD)

/-- The projected array of the launch memory. -/
def RR : ℕ → ℕ → EReal := rowsOf (m ((c : Thread nD τ).loc main_arg0))

/-- The scale vector of the launch memory. -/
def GR : ℕ → EReal := vecOf (m ((c : Thread nD τ).loc main_arg1))

/-- The stack of queries at entry. -/
theorem entry_0 (n : Fin 32) (b : Fin 2) (i : Fin 128) (h : Fin 16) (d : Fin 128) :
    cQ (entryContents preI m c) n b i h d = RR m c (4096 * b + 128 * n + i) (128 * h + d) := by
  have hn := n.isLt; have hb := b.isLt; have hi := i.isLt; have hh := h.isLt; have hd := d.isLt
  show entryContents preI m c (Proc.devRef .tc main_v62_0) (ix5 n b i h d) = _
  simp only [entryContents, preI, afterL_cons, afterL_nil, hostOps0, hostOps0_1, hostOps0_2]
  after_results_simp
  simp only [id_eq]
  pointwise
  exact (rowsOf_eq _ _ _ (by omega) (by omega)).trans (congrArg₂ (RR m c) (by omega) (by omega))

/-- The stack of keys at entry. -/
theorem entry_1 (n : Fin 32) (b : Fin 2) (i : Fin 128) (h : Fin 16) (d : Fin 128) :
    cK (entryContents preI m c) n b i h d = RR m c (4096 * b + 128 * n + i) (2048 + 128 * h + d) * dkS := by
  have hn := n.isLt; have hb := b.isLt; have hi := i.isLt; have hh := h.isLt; have hd := d.isLt
  show entryContents preI m c (Proc.devRef .tc main_v62_1) (ix5 n b i h d) = _
  simp only [entryContents, preI, afterL_cons, afterL_nil, hostOps0, hostOps0_1, hostOps0_2]
  after_results_simp
  simp only [id_eq]
  pointwise
  exact congrArg (· * dkS) ((rowsOf_eq _ _ _ (by omega) (by omega)).trans (congrArg₂ (RR m c) (by omega) (by omega)))

/-- The stack of values at entry. -/
theorem entry_2 (n : Fin 32) (b : Fin 2) (i : Fin 128) (h : Fin 16) (d : Fin 128) :
    cV (entryContents preI m c) n b i h d = RR m c (4096 * b + 128 * n + i) (4096 + 128 * h + d) := by
  have hn := n.isLt; have hb := b.isLt; have hi := i.isLt; have hh := h.isLt; have hd := d.isLt
  show entryContents preI m c (Proc.devRef .tc main_v62_2) (ix5 n b i h d) = _
  simp only [entryContents, preI, afterL_cons, afterL_nil, hostOps0, hostOps0_1, hostOps0_2]
  after_results_simp
  simp only [id_eq]
  pointwise
  exact (rowsOf_eq _ _ _ (by omega) (by omega)).trans (congrArg₂ (RR m c) (by omega) (by omega))

/-- The table of decays inside a chunk at entry. -/
theorem entry_3 (h : Fin 16) (i j : Fin 128) : cI (entryContents preI m c) h i j = intraT h i j := by
  show entryContents preI m c (Proc.devRef .tc main_v62_3) (ix3 h i j) = _
  simp only [entryContents, preI, afterL_cons, afterL_nil, hostOps0, hostOps0_1, hostOps0_2]
  after_results_simp
  dsimp only [TRef.toBuf, TRef.ofBuf, cast_eq, id_eq]
  pointwise
  rfl

/-- The table of decays of the incoming state at entry. -/
theorem entry_4 (h : Fin 16) (i : Fin 128) : cQd (entryContents preI m c) h i = qdT h i := by
  show entryContents preI m c (Proc.devRef .tc main_v62_4) (ix2 i h) = _
  simp only [entryContents, preI, afterL_cons, afterL_nil, hostOps0, hostOps0_1, hostOps0_2]
  after_results_simp
  simp only [id_eq]
  pointwise
  rfl

/-- The table of decays of the state at entry. -/
theorem entry_5 (h : Fin 16) : cCd (entryContents preI m c) h = cdT h := by
  show entryContents preI m c (Proc.devRef .tc main_v62_5) (ix1 h) = _
  simp only [entryContents, preI, afterL_cons, afterL_nil, hostOps0, hostOps0_1, hostOps0_2]
  after_results_simp
  simp only [id_eq]
  pointwise
  rfl

/-- The table of decays of the keys at entry. -/
theorem entry_6 (h : Fin 16) (i : Fin 128) : cKd (entryContents preI m c) h i = kdT h i := by
  show entryContents preI m c (Proc.devRef .tc main_v62_6) (ix2 i h) = _
  simp only [entryContents, preI, afterL_cons, afterL_nil, hostOps0, hostOps0_1, hostOps0_2]
  after_results_simp
  simp only [id_eq]
  pointwise
  rfl

/-- The state at entry. -/
theorem entry_8 (b : Fin 2) (h : Fin 16) (d e : Fin 128) : cS (entryContents preI m c) b h d e = 0 := by
  show entryContents preI m c (Proc.devRef .tc main_v62_8) (ix4 b h d e) = _
  simp only [entryContents, preI, afterL_cons, afterL_nil, hostOps0, hostOps0_1, hostOps0_2]
  after_results_simp
  simp only [id_eq]
  pointwise

/-- The gates at entry. -/
theorem entry_gate (b : Fin 2) (l : Fin 4096) (j : Fin 2048) :
    (entryContents preI m c (Proc.devRef .tc main_v4) (ix3 b l j) : EReal) = RR m c (4096 * b + l) (6144 + j) := by
  have hb := b.isLt; have hi := l.isLt; have hh := j.isLt
  simp only [entryContents, preI, afterL_cons, afterL_nil, hostOps0, hostOps0_1, hostOps0_2]
  after_results_simp
  try simp only [id_eq]
  pointwise
  exact (rowsOf_eq _ _ _ (by omega) (by omega)).trans (congrArg₂ (RR m c) (by omega) (by omega))

/-- The scale vector at entry. -/
theorem entry_arg1 (j : Fin 2048) : (entryContents preI m c (Proc.devRef .tc main_arg1) (ix1 j) : EReal) = GR m c j := by
  simp only [entryContents, preI, afterL_cons, afterL_nil, hostOps0, hostOps0_1, hostOps0_2]
  after_results_simp
  exact vecOf_eq _ _ _

end Cert.Ret
-- ==== Proof.Ret.RefPost.lean ====
/-
  The retention reference's operations after its loop, at an element.
-/
module

public import proofs.«01_k».proof.Proof.Ret.RefStep

@[expose] public section

set_option maxRecDepth 65536
set_option maxHeartbeats 4000000

noncomputable section

namespace Cert.Ret

open Idealize Idealize.ShloMosaic Idealize.ShloMosaic.TcCoe Idealize.ShloMosaic.StableHlo
open Cert.ReferenceIdeal Cert.ReferenceIdeal.Gen Cert.ReferenceIdeal.Value
open scoped BigOperators

/-- The gate with its exponent's sign written as a negation. -/
theorem gateS_neg (o : Fin 128 → EReal) (rg gn : EReal) (e : Fin 128) :
    gateS o rg gn e = rg * Ideal.div 1 (1 + Ideal.exp (-rg)) *
    ((o e - Ideal.div (∑ x, o x) (Ideal.ofBits FTy.f32 1124073472#32)) *
        Ideal.rsqrt (Ideal.div (∑ x, (o x - Ideal.div (∑ x, o x) (Ideal.ofBits FTy.f32 1124073472#32)) *
                  (o x - Ideal.div (∑ x, o x) (Ideal.ofBits FTy.f32 1124073472#32))) (Ideal.ofBits FTy.f32 1124073472#32)
            + Ideal.ofBits FTy.f32 897988541#32) * gn) := by
  simp only [gateS, zero_sub]

variable (Y : Valuation τ sig (Elt Ideal))

/-- The gated outputs, from the stacked ones. -/
theorem post_v90 (row : Fin 8192) (col : Fin 2048) :
    (afterL postI Y (Proc.devRef .tc main_v90) (ix2 row col) : EReal)
      = gateS (fun e => cO Y ⟨row.val % 4096 / 128, by omega⟩ ⟨row.val / 4096, by omega⟩ ⟨row.val % 4096 % 128, by omega⟩ ⟨col.val / 128, by omega⟩ e)
          (Y (Proc.devRef .tc main_v4) (ix3 ⟨row.val / 4096, by omega⟩ ⟨row.val % 4096, by omega⟩ col))
          (Y (Proc.devRef .tc main_arg1) (ix1 col)) ⟨col.val % 128, by omega⟩ := by
  simp only [postI, afterL_cons, afterL_nil, hostOps0_3, hostOps0_4, hostOps0_5]
  after_results_simp
  dsimp only [TRef.toBuf, TRef.ofBuf, cast_eq, id_eq]
  pointwise
  exact (gateS_neg (fun e => cO Y ⟨row.val % 4096 / 128, by omega⟩ ⟨row.val / 4096, by omega⟩ ⟨row.val % 4096 % 128, by omega⟩ ⟨col.val / 128, by omega⟩ e)
          (Y (Proc.devRef .tc main_v4) (ix3 ⟨row.val / 4096, by omega⟩ ⟨row.val % 4096, by omega⟩ col))
          (Y (Proc.devRef .tc main_arg1) (ix1 col)) ⟨col.val % 128, by omega⟩).symm

/-- The operations after the loop leave the state. -/
theorem post_s : afterL postI Y (Proc.devRef .tc main_v62_8) = Y (Proc.devRef .tc main_v62_8) := by
  simp only [postI, afterL_cons, afterL_nil, hostOps0_3, hostOps0_4, hostOps0_5]
  after_results_simp

/-- The operations after the loop leave the arguments. -/
theorem post_arg {F : FTy → Type} [FloatOps F] (Z : Valuation τ sig (Elt F)) (b : Ref sig .tc) (hb : b = main_arg0 ∨ b = main_arg1) :
    afterL postI Z (Proc.devRef .tc b) = Z (Proc.devRef .tc b) := by
  rcases hb with rfl | rfl
  all_goals
    simp only [postI, afterL_cons, afterL_nil, hostOps0_3, hostOps0_4, hostOps0_5]
    after_results_simp

end Cert.Ret
-- ==== Proof.Ret.RefValue.lean ====
/-
  What the retention reference computes, element by element, and its run.
-/
module

public import proofs.«01_k».proof.Proof.Ret.RefEntry
public import proofs.«01_k».proof.Proof.Ret.RefPost

@[expose] public section

set_option maxRecDepth 65536
set_option maxHeartbeats 4000000

noncomputable section

namespace Cert.Ret

open Idealize Idealize.ShloMosaic Idealize.ShloMosaic.TcCoe Idealize.ShloMosaic.StableHlo
open Cert.ReferenceIdeal Cert.ReferenceIdeal.Gen Cert.ReferenceIdeal.Value
open scoped BigOperators

/-- A trip leaves every buffer that it and the loop's condition do not write. -/
theorem trip_keeps {F : FTy → Type} [FloatOps F] (X : Valuation τ sig (Elt F)) (b : Ref sig .tc)
    (hb : b = main_v4 ∨ b = main_arg0 ∨ b = main_arg1) :
    afterL bodyI (after condOps X) (Proc.devRef .tc b) = X (Proc.devRef .tc b) := by
  simp only [bodyI, afterL_cons, afterL_nil]
  rcases hb with rfl | rfl | rfl <;>
  rw [after_of_writes_sub while0Ops0_5 _ while0Ops0_5_writes (by decide +kernel),
    after_of_writes_sub while0Ops0_4 _ while0Ops0_4_writes (by decide +kernel),
    after_of_writes_sub while0Ops0_3 _ while0Ops0_3_writes (by decide +kernel),
    after_of_writes_sub while0Ops0_2 _ while0Ops0_2_writes (by decide +kernel),
    after_of_writes_sub while0Ops0_1 _ while0Ops0_1_writes (by decide +kernel),
    after_of_writes_sub while0Ops0 _ while0Ops0_writes (by decide +kernel),
    after_of_writes_sub condOps _ condOps_writes (by decide +kernel)]

/-- The condition leaves them too. -/
theorem cond_leaves {F : FTy → Type} [FloatOps F] (X : Valuation τ sig (Elt F)) (b : Ref sig .tc)
    (hb : b = main_v4 ∨ b = main_arg0 ∨ b = main_arg1) : after condOps X (Proc.devRef .tc b) = X (Proc.devRef .tc b) := by
  rcases hb with rfl | rfl | rfl <;> rw [after_of_writes_sub condOps _ condOps_writes (by decide +kernel)]

/-- So the loop leaves them. -/
theorem atK_keeps {F : FTy → Type} [FloatOps F] (m : (ℓ : Loc nD τ sig) → Buf (Elt F) ℓ) (c : Dev nD) (b : Ref sig .tc)
    (hb : b = main_v4 ∨ b = main_arg0 ∨ b = main_arg1) :
    ∀ k, atK m k c (Proc.devRef .tc b) = entryContents preI m c (Proc.devRef .tc b)
  | 0 => rfl
  | k + 1 => (trip_keeps _ b hb).trans (atK_keeps m c b hb k)

/-- The operations before the loop leave the arguments. -/
theorem entry_keeps {F : FTy → Type} [FloatOps F] (m : (ℓ : Loc nD τ sig) → Buf (Elt F) ℓ) (c : Dev nD) (b : Ref sig .tc)
    (hb : b = main_arg0 ∨ b = main_arg1) : entryContents preI m c (Proc.devRef .tc b) = m (c, Proc.devRef .tc b) := by
  simp only [entryContents, preI, afterL_cons, afterL_nil]
  rcases hb with rfl | rfl <;>
  rw [after_of_writes_sub hostOps0_2 _ hostOps0_2_writes (by decide +kernel),
    after_of_writes_sub hostOps0_1 _ hostOps0_1_writes (by decide +kernel),
    after_of_writes_sub hostOps0 _ hostOps0_writes (by decide +kernel)] <;> rfl

/-- The whole program leaves the arguments. -/
theorem final_arg {F : FTy → Type} [FloatOps F] (m : (ℓ : Loc nD τ sig) → Buf (Elt F) ℓ) (c : Dev nD) (b : Ref sig .tc)
    (hb : b = main_arg0 ∨ b = main_arg1) :
    finalContents condOps preI bodyI postI 32 m c (Proc.devRef .tc b) = m (c, Proc.devRef .tc b) := by
  have hb' : b = main_v4 ∨ b = main_arg0 ∨ b = main_arg1 := Or.inr hb
  exact (post_arg _ b hb).trans ((cond_leaves _ b hb').trans ((atK_keeps m c b hb' 32).trans (entry_keeps m c b hb)))

variable (m : (ℓ : Loc nD τ sig) → Buf (Elt Ideal) ℓ) (c : Dev nD)

/-- The carried buffers before trip `k`. -/
abbrev W (k : ℕ) : Valuation τ sig (Elt Ideal) := STEP^[k] (entryContents preI m c)

/-- One trip on. -/
theorem W_succ (k : ℕ) : W m c (k + 1) = STEP (W m c k) := Function.iterate_succ_apply' _ _ _

/-- The buffers the loop carries unchanged. -/
theorem W_const (k : ℕ) : W m c k (Proc.devRef .tc main_v62_0) = entryContents preI m c (Proc.devRef .tc main_v62_0)
    ∧ W m c k (Proc.devRef .tc main_v62_1) = entryContents preI m c (Proc.devRef .tc main_v62_1)
    ∧ W m c k (Proc.devRef .tc main_v62_2) = entryContents preI m c (Proc.devRef .tc main_v62_2)
    ∧ W m c k (Proc.devRef .tc main_v62_3) = entryContents preI m c (Proc.devRef .tc main_v62_3)
    ∧ W m c k (Proc.devRef .tc main_v62_4) = entryContents preI m c (Proc.devRef .tc main_v62_4)
    ∧ W m c k (Proc.devRef .tc main_v62_5) = entryContents preI m c (Proc.devRef .tc main_v62_5)
    ∧ W m c k (Proc.devRef .tc main_v62_6) = entryContents preI m c (Proc.devRef .tc main_v62_6) := by
  induction k with
  | zero => exact ⟨rfl, rfl, rfl, rfl, rfl, rfl, rfl⟩
  | succ k ih =>
    obtain ⟨h0, h1, h2, h3, h4, h5, h6⟩ := ih
    rw [W_succ]
    exact ⟨(STEP_main_v62_0 _).trans h0, (STEP_main_v62_1 _).trans h1, (STEP_main_v62_2 _).trans h2, (STEP_main_v62_3 _).trans h3,
      (STEP_main_v62_4 _).trans h4, (STEP_main_v62_5 _).trans h5, (STEP_main_v62_6 _).trans h6⟩

/-- The counter before trip `k`. -/
theorem W_ctr (k : ℕ) : W m c k (Proc.devRef .tc main_v62_7) = fun _ => BitVec.ofNat 32 k := by
  refine (atK_agree m c k main_v62_7 (by decide)).symm.trans ((atK_ctr m c k).trans ?_)
  funext x
  simp [Scf.iv]

/-- The carried stacks and tables before any trip, at an element. -/
theorem W_q (k) (n : Fin 32) (b : Fin 2) (i : Fin 128) (h : Fin 16) (d : Fin 128) :
    cQ (W m c k) n b i h d = RR m c (4096 * b + 128 * n + i) (128 * h + d) :=
  (congrFun (W_const m c k).1 _).trans (entry_0 m c n b i h d)
theorem W_k (k) (n : Fin 32) (b : Fin 2) (i : Fin 128) (h : Fin 16) (d : Fin 128) :
    cK (W m c k) n b i h d = RR m c (4096 * b + 128 * n + i) (2048 + 128 * h + d) * dkS :=
  (congrFun (W_const m c k).2.1 _).trans ((entry_1 m c n b i h d).trans (by rw [Nat.add_assoc 2048]))
theorem W_v (k) (n : Fin 32) (b : Fin 2) (i : Fin 128) (h : Fin 16) (d : Fin 128) :
    cV (W m c k) n b i h d = RR m c (4096 * b + 128 * n + i) (4096 + 128 * h + d) :=
  (congrFun (W_const m c k).2.2.1 _).trans ((entry_2 m c n b i h d).trans (by rw [Nat.add_assoc 4096 (128 * h.val)]))
theorem W_i (k) (h : Fin 16) (i j : Fin 128) : cI (W m c k) h i j = intraT h i j :=
  (congrFun (W_const m c k).2.2.2.1 _).trans (entry_3 m c h i j)
theorem W_qd (k) (h : Fin 16) (i : Fin 128) : cQd (W m c k) h i = qdT h i :=
  (congrFun (W_const m c k).2.2.2.2.1 _).trans (entry_4 m c h i)
theorem W_cd (k) (h : Fin 16) : cCd (W m c k) h = cdT h :=
  (congrFun (W_const m c k).2.2.2.2.2.1 _).trans (entry_5 m c h)
theorem W_kd (k) (h : Fin 16) (i : Fin 128) : cKd (W m c k) h i = kdT h i :=
  (congrFun (W_const m c k).2.2.2.2.2.2 _).trans (entry_6 m c h i)

/-- The state before trip `k`. -/
theorem W_s : ∀ (k : ℕ) (_ : k ≤ 32) (b : Fin 2) (h : Fin 16) (d e : Fin 128), cS (W m c k) b h d e = stS (RR m c) b h k d e
  | 0, _, b, h, d, e => entry_8 m c b h d e
  | k + 1, hk, b, h, d, e => by
    refine (congrFun ((congrFun (W_succ m c k) _).trans (STEP_main_v62_8 _)) _).trans ?_
    refine (step8_apply (W m c k) ⟨k, hk⟩ (W_ctr m c k) b h d e).trans ?_
    rw [W_s k (Nat.le_of_succ_le hk) b h d e, W_cd, stS]
    refine congrArg₂ (· + ·) rfl (Finset.sum_congr rfl fun i _ => ?_)
    rw [W_k, W_kd, W_v]

/-- The stacked outputs of the trips before trip `k`. -/
theorem W_o : ∀ (k : ℕ) (_ : k ≤ 32) (n : Fin 32) (_ : n.val < k) (b : Fin 2) (i : Fin 128) (h : Fin 16) (e : Fin 128),
    cO (W m c k) n b i h e = oS (RR m c) b h n i e
  | 0, _, n, hn, _, _, _, _ => absurd hn (Nat.not_lt_zero _)
  | k + 1, hk, n, hn, b, i, h, e => by
    refine (congrFun ((congrFun (W_succ m c k) _).trans (STEP_main_v62_9 _)) _).trans ?_
    refine (step9_apply (W m c k) ⟨k, hk⟩ (W_ctr m c k) n b h i e).trans ?_
    by_cases hnk : n = ⟨k, hk⟩
    · rw [if_pos hnk, hnk, oS]
      refine congrArg₂ (· + ·) (Finset.sum_congr rfl fun j _ => ?_) (Finset.sum_congr rfl fun d _ => ?_)
      · rw [W_i, W_v]
        refine congrArg₂ (· * ·) (congrArg₂ (· * ·) (Finset.sum_congr rfl fun d _ => ?_) rfl) rfl
        rw [W_q, W_k]
      · rw [W_q, W_qd, W_s m c k (Nat.le_of_succ_le hk)]
    · rw [if_neg hnk]
      exact W_o k (Nat.le_of_succ_le hk) n (lt_of_le_of_ne (Nat.le_of_lt_succ hn) fun h => hnk (Fin.ext h)) b i h e

/-- The gated outputs the reference ends with. -/
theorem ref_o : finalContents condOps preI bodyI postI 32 m c (Proc.devRef .tc main_v90)
    = fun j : S8192x2048.Idx => (outS (RR m c) (GR m c) (j 0).val (j 1).val : EReal) := by
  funext j
  rw [eq_ix2 j]
  generalize hr : j 0 = row
  generalize hc : j 1 = col
  change Fin 8192 at row
  change Fin 2048 at col
  have hrow := row.isLt
  have hcol := col.isLt
  refine (post_v90 (after condOps (atK m 32 c)) row col).trans ?_
  rw [outS]
  have e1 : row.val % 4096 % 128 = row.val % 128 := by omega
  have e2 : 4096 * (row.val / 4096) + row.val % 4096 = row.val := by omega
  refine congrFun (congr (congr (congrArg gateS (funext fun e => ?_)) ?_) ?_) _
  · refine (congrFun ((cond_keeps (atK m 32 c) main_v62_9 (by decide)).trans (atK_agree m c 32 main_v62_9 (by decide))) _).trans ?_
    refine (W_o m c 32 le_rfl ⟨row.val % 4096 / 128, by omega⟩ (by dsimp only; omega) ⟨row.val / 4096, by omega⟩
      ⟨row.val % 4096 % 128, by omega⟩ ⟨col.val / 128, by omega⟩ e).trans ?_
    dsimp only
    rw [e1]
    rfl
  · refine (congrFun ((cond_leaves (atK m 32 c) main_v4 (Or.inl rfl)).trans (atK_keeps m c main_v4 (Or.inl rfl) 32)) _).trans ?_
    refine (entry_gate m c ⟨row.val / 4096, by omega⟩ ⟨row.val % 4096, by omega⟩ col).trans ?_
    dsimp only
    rw [e2]
    rfl
  · refine (congrFun ((cond_leaves (atK m 32 c) main_arg1 (by simp)).trans (atK_keeps m c main_arg1 (by simp) 32)) _).trans ?_
    exact entry_arg1 m c col

/-- The state the reference ends with. -/
theorem ref_s : finalContents condOps preI bodyI postI 32 m c (Proc.devRef .tc main_v62_8)
    = fun j : S2x16x128x128.Idx => (stS (RR m c) (j 0).val (j 1).val 32 (j 2).val (j 3).val : EReal) := by
  funext j
  refine (congrFun (post_s (after condOps (atK m 32 c))) j).trans ?_
  refine (congrFun ((cond_keeps (atK m 32 c) main_v62_8 (by decide)).trans (atK_agree m c 32 main_v62_8 (by decide))) _).trans ?_
  rw [eq_ix4 j]
  exact W_s m c 32 le_rfl _ _ _ _

end Cert.Ret
-- ==== Proof.Ret.Claims.lean ====
/-
  The claims about the retention call: the frames of its three programs and the equality of the kernel's results with the
  reference's.
-/
module

public import proofs.«01_k».proof.Defs
public import proofs.«01_k».proof.Proof.Ret.Same
public import proofs.«01_k».proof.Proof.Ret.KernelValue
public import proofs.«01_k».proof.Proof.Ret.RefValue

@[expose] public section

set_option maxRecDepth 65536
set_option maxHeartbeats 10000000

noncomputable section

namespace Cert.Ret

open Idealize Idealize.ShloMosaic Idealize.ShloMosaic.TcCoe Idealize.ShloMosaic.StableHlo Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- The frame, of any table equal to the kernel's. -/
theorem frame_table (m : (ℓ : Loc Cert.KernelIdeal.nD Cert.KernelIdeal.τ Cert.KernelIdeal.sig) → Buf (Elt Bits) ℓ) (g : Dev Cert.KernelIdeal.nD → PrngReg)
    (d) (hd : d = Cert.KernelIdeal.defs (F := Bits)) :
    θ_run d (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) := by
  subst hd
  exact frame_ret (F := Bits) m g

/-- The printed kernel leaves its arguments and every counter. -/
theorem frame_P : Cert.quiescent_Kernel (hKernel := Cert.Kernel.Gen.facts) := fun m g _ =>
  frame_table m g _ defs_same

/-- So does the kernel over the extended reals. -/
theorem frame_PI : Cert.quiescent_KernelIdeal (hKernelIdeal := Cert.KernelIdeal.Gen.facts) := fun m g _ =>
  frame_ret (F := Ideal) m g

/-- The reference leaves its arguments; it has no counters. -/
theorem frame_RI : Cert.quiescent_ReferenceIdeal (hReferenceIdeal := Cert.ReferenceIdeal.Gen.facts) := fun m g _ =>
  (θ_run Cert.ReferenceIdeal.defs _ _).mono (fun r h =>
    ⟨fun c => ⟨(h c Cert.ReferenceIdeal.main_arg0 (by decide)).trans (final_arg m c _ (Or.inl rfl)),
      (h c Cert.ReferenceIdeal.main_arg1 (by decide)).trans (final_arg m c _ (Or.inr rfl))⟩,
      Idealize.ShloMosaic.sem_eq_zero_of_no_sems (by decide) _⟩) (Cert.ReferenceIdeal.Value.run_fold (F := Ideal) m g)

/-- The two results, as the reference's formulas of the kernel's arguments. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      (∀ c : Dev Cert.KernelIdeal.nD,
        r.2.mem ((c.tc : Thread Cert.KernelIdeal.nD Cert.KernelIdeal.τ).loc Cert.KernelIdeal.main_v51_0)
          = (fun j : Cert.KernelIdeal.S8192x2048.Idx => (outS (RK m c) (GK m c) (j 0).val (j 1).val : EReal))
        ∧ r.2.mem ((c.tc : Thread Cert.KernelIdeal.nD Cert.KernelIdeal.τ).loc Cert.KernelIdeal.main_v51_1)
          = (fun j : Cert.KernelIdeal.S2x16x128x128.Idx => (stS (RK m c) (j 0).val (j 1).val 32 (j 2).val (j 3).val : EReal)))) :=
  (θ_run Cert.KernelIdeal.defs _ _).mono (fun r h c =>
    ⟨(h.1.out_eq c (9 : Fin 11)).trans (final_o m c), (h.1.out_eq c (10 : Fin 11)).trans (final_s m c)⟩) (run_quiet (F := Ideal) m g)

/-- The kernel and the reference, over the extended reals, end with equal results. -/
theorem algebraic : Cert.algebraic_KernelIdeal_ReferenceIdeal (hKernelIdeal := Cert.KernelIdeal.Gen.facts) (hReferenceIdeal := Cert.ReferenceIdeal.Gen.facts) := by
  intro m g m' g' _ hag
  refine ⟨fun c => (fun j : Cert.KernelIdeal.S8192x2048.Idx => (outS (RK m c) (GK m c) (j 0).val (j 1).val : EReal)),
    fun c => (fun j : Cert.KernelIdeal.S2x16x128x128.Idx => (stS (RK m c) (j 0).val (j 1).val 32 (j 2).val (j 3).val : EReal)), ?_, ?_⟩
  · refine (θ_run Cert.KernelIdeal.defs _ _).mono (fun r h c => ?_) (θ_run_and (kernel_run m g) (frame_ret (F := Ideal) m g))
    exact ⟨(h.1 c).1, (h.1 c).2, (h.2.1 c).1, (h.2.1 c).2⟩
  · refine (θ_run Cert.ReferenceIdeal.defs _ _).mono (fun r h c => ?_) (Cert.ReferenceIdeal.Value.run_fold (F := Ideal) m' g')
    have hR : RR m' c = RK m c := congrArg rowsOf (hag c).1
    have hG : GR m' c = GK m c := congrArg vecOf (hag c).2
    refine ⟨(h c Cert.ReferenceIdeal.main_v90 (by decide)).trans ((ref_o m' c).trans ?_),
      (h c Cert.ReferenceIdeal.main_v62_8 (by decide)).trans ((ref_s m' c).trans ?_),
      (h c Cert.ReferenceIdeal.main_arg0 (by decide)).trans (final_arg m' c _ (Or.inl rfl)),
      (h c Cert.ReferenceIdeal.main_arg1 (by decide)).trans (final_arg m' c _ (Or.inr rfl))⟩
    · rw [hR, hG]
    · rw [hR]

end Cert.Ret
-- ==== Proof.Ffn.Same.lean ====
/-
  The printed feed-forward kernel and its reading over the extended reals have one text, so one run serves both.
-/
module

public import proofs.«01_k».proof.Proof.Gen.Kernel2
public import proofs.«01_k».proof.Proof.Gen.Kernel2Ideal
public import Idealize.ShloMosaic.PureOps.BitExact

@[expose] public section

set_option maxRecDepth 65536
set_option maxHeartbeats 10000000

noncomputable section

namespace Cert.Ffn

open Idealize Idealize.ShloMosaic Idealize.ShloMosaic.TcCoe Idealize.ShloMosaic.StableHlo Idealize.SL.Sem

/-- The two kernel bodies are one. -/
theorem body_same : @Cert.Kernel2.cc0_ffn Bits _ Cert.Kernel2.Gen.facts
    = @Cert.Kernel2Ideal.cc0_ffn Bits _ Cert.Kernel2Ideal.Gen.facts := by
  funext i a1 b1 a2 b2 a3 b3 a4 b4 a5 b5 a6 b6 a7 b7 a8 b8 a9 b9 a10
  unfold Cert.Kernel2.cc0_ffn Cert.Kernel2Ideal.cc0_ffn
  congr 1

/-- So are the tables of bodies. -/
theorem table_same : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc (funext fun l => funext fun a => ?_)
  match l, a with
  | 0, (t, s) =>
    dsimp only
    rw [body_same]
    rfl

/-- So are the tables of the programs. -/
theorem defs_same : @Cert.Kernel2.defs Bits _ Cert.Kernel2.Gen.facts = @Cert.Kernel2Ideal.defs Bits _ Cert.Kernel2Ideal.Gen.facts :=
  congrArg (Pipeline.defs (@Cert.Kernel2Ideal.pcfgs Bits _)) table_same

end Cert.Ffn
-- ==== Proof.Ffn.Loop.lean ====
/-
  The feed-forward kernel's normalisation loop by values: sixteen trips, each normalising 64 rows of the block that was
  just copied in and storing them in the kernel's own buffer of normalised rows.
-/
module

public import proofs.«01_k».proof.Proof.Gen.Kernel2Ideal.Skeleton
public import Idealize.ShloMosaic.Lib.Exec
public import Idealize.ShloMosaic.Lib.Tactic
public import Idealize.ShloMosaic.Lib.Pipeline.Kit
public import Idealize.ShloMosaic.Lib.VecWindow
public import Idealize.ShloMosaic.Lib.ValueIdx
public import Idealize.ShloMosaic.Lib.Pointwise.Index

@[expose] public section

set_option maxRecDepth 8192

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄D" => MT nD τ sig Unit (Elt F) ℕ (Pipeline.UD sig nD τ) ℕ

/-- Rows `64 k …` of a block of 1024 rows. -/
def chunk (x : Vec F S1024x4096 .f32) (k : ℕ) : Vec F S64x4096 .f32 := fun z =>
  x (ix2 ⟨(64 * k + (z 0).val) % 1024, Nat.mod_lt _ (by decide)⟩ ⟨(z 1).val, (z 1).isLt⟩)

/-- The normalised rows of a block, element by element: each row through the chunk of 64 it lies in. -/
def nTop (x : Vec F S1024x4096 .f32) (g : Vec F S1x4096 .f32) (y : S1056x4096.Idx) : Elt F .bf16 :=
  k0_pay1 (chunk x ((y 0).val / 64)) g (ix2 ⟨(y 0).val % 64, Nat.mod_lt _ (by decide)⟩ ⟨(y 1).val, (y 1).isLt⟩)

/-- A load of 64 rows of the block reads that chunk. -/
theorem readAt_chunk {m : Memref sig .tc .vmem S1024x4096 .f32} (X : BufTy.Contents (Elt F) m.view.ty) {off : Fin 2 → ℕ}
    (inb : ∀ a, off a + S64x4096.size a ≤ S1024x4096.size a) (k : ℕ) (hk : k < 16) (ho : off = ![64 * k, 0]) :
    m.view.readAt (Elt F) (Rect.unit (s := S1024x4096) off S64x4096.size inb).toLoadRect X = chunk (m.view.read (Elt F) X) k := by
  subst ho
  funext z
  have h0 : (z 0).val < 64 := (z 0).isLt
  refine congrArg (m.view.read (Elt F) X) (funext fun a => Fin.ext ?_)
  match a with
  | ⟨0, _⟩ => show 64 * k + 1 * (z 0).val = (64 * k + (z 0).val) % 1024; omega
  | ⟨1, _⟩ => show 0 + 1 * (z 1).val = (z 1).val; omega

variable (arg2 : Memref sig .tc .hbm S8192x4096 .f32) (harg2 : arg2.IsWhole) (arg3 : Memref sig .tc .hbm S32x4096 .f32) (harg3 : arg3.IsWhole) (arg4 : Memref sig .tc .vmem S1x4096 .f32) (harg4 : arg4.IsWhole) (arg5 : Memref sig .tc .vmem S1x1x4096x256 .f32) (harg5 : arg5.IsWhole) (arg6 : Memref sig .tc .vmem S1x1x4096x256 .f32) (harg6 : arg6.IsWhole) (arg7 : Memref sig .tc .vmem S1x1x256x4096 .f32) (harg7 : arg7.IsWhole) (arg8 : Memref sig .tc .vmem S1024x4096 .f32) (harg8 : arg8.IsWhole) (arg9 : Memref sig .tc .vmem S32x4096 .f32) (harg9 : arg9.IsWhole) (arg10 : Memref sig .tc .vmem S1056x4096 .bf16) (harg10 : arg10.IsWhole) (arg11 : DmaSems sig S2)
variable (X_arg4 : BufTy.Contents (Elt F) arg4.view.ty) (X_arg8 : BufTy.Contents (Elt F) arg8.view.ty)

/-- One trip: the 64 rows it loads, normalised, are stored at the same rows of the buffer of normalised rows. -/
theorem trip (𝒱 : Variants) (c : Dev nD) (bd : Option 𝒱.V) (E : Set ℕ) (i : grid0.Coords) (h1 : k0_cond1 i = 1#1) (X_arg10 : BufTy.Contents (Elt F) arg10.view.ty)
    (k : Fin k0_t1_loop.trips) :
    (iprop((arg4.view.loc (c : Thread nD τ) ↦[arg4.view.set]{fullShare} X_arg4) ∗ (arg8.view.loc (c : Thread nD τ) ↦[arg8.view.set]{fullShare} X_arg8) ∗ (arg10.view.loc (c : Thread nD τ) ↦[arg10.view.set]{fullShare} X_arg10)) : sProp 𝕄D)
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 h1 k PUnit.unit)
        (fun _ => iprop((arg4.view.loc (c : Thread nD τ) ↦[arg4.view.set]{fullShare} X_arg4) ∗ (arg8.view.loc (c : Thread nD τ) ↦[arg8.view.set]{fullShare} X_arg8) ∗ (arg10.view.loc (c : Thread nD τ) ↦[arg10.view.set]{fullShare} arg10.view.writes (Elt F) X_arg10 [⟨Rect.unit (s := S1056x4096) (k0_off3 k) S64x4096.size (k0_off3_inb i k h1), k0_pay1 (arg8.view.readAt (Elt F) (Rect.unit (s := S1024x4096) (k0_off2 k) S64x4096.size (k0_off2_inb i k h1)).toLoadRect X_arg8) (arg4.view.readAt (Elt F) (Rect.unit (s := S1x4096) ![0, 0] S1x4096.size inb_S1x4096_S1x4096_0_0).toLoadRect X_arg4)⟩]))) := by
  have hk : k.val < 16 := Nat.lt_of_lt_of_le k.isLt k0_t1_abs.2.1
  unfold k0_t1_body
  iintro ⟨Harg4, Harg8, Harg10⟩
  sl_exec
  sl_step
  isplitl [Harg4]; · iexact Harg4
  isplitl [Harg8]; · iexact Harg8
  iexact Harg10

/-- Before trip `n`: the first `64 n` rows of the buffer hold the normalised rows of the block; its last 32 rows hold
    what they held before the loop. -/
def inv (c : Dev nD) (f0 : BufTy.Contents (Elt F) arg10.view.ty) (n : ℕ) (_ : Unit) : sProp 𝕄D :=
  iprop((arg4.view.loc (c : Thread nD τ) ↦[arg4.view.set]{fullShare} X_arg4) ∗ (arg8.view.loc (c : Thread nD τ) ↦[arg8.view.set]{fullShare} X_arg8)
    ∗ ∃ f, ⌜(∀ y : S1056x4096.Idx, (y 0).val < 64 * n → arg10.view.read (Elt F) f y = nTop (arg8.view.read (Elt F) X_arg8) (arg4.view.read (Elt F) X_arg4) y)
        ∧ ∀ y : S1056x4096.Idx, 1024 ≤ (y 0).val → arg10.view.read (Elt F) f y = arg10.view.read (Elt F) f0 y⌝
      ∗ (arg10.view.loc (c : Thread nD τ) ↦[arg10.view.set]{fullShare} f))

/-- A trip takes the invariant one trip further. -/
theorem inv_step (𝒱 : Variants) (c : Dev nD) (bd : Option 𝒱.V) (E : Set ℕ) (i : grid0.Coords) (h1 : k0_cond1 i = 1#1) (f0 : BufTy.Contents (Elt F) arg10.view.ty)
    (k : Fin k0_t1_loop.trips) (acc : Unit) :
    inv arg4 arg8 arg10 X_arg4 X_arg8 c f0 k.val acc
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 h1 k acc)
          (inv arg4 arg8 arg10 X_arg4 X_arg8 c f0 (k.val + 1)) := by
  have hk : k.val < 16 := Nat.lt_of_lt_of_le k.isLt k0_t1_abs.2.1
  unfold inv
  iintro ⟨H4, H8, ⟨%f, %hf, H10⟩⟩
  iapply (wp_wand frame (wpE (defs₀ (F := F)) 𝒱 (c : Thread nD τ) bd) E) $$ [H4 H8 H10]
  · iapply (trip arg2 harg2 arg3 harg3 arg4 harg4 arg5 harg5 arg6 harg6 arg7 harg7 arg8 harg8 arg9 harg9 arg10 harg10 arg11 X_arg4 X_arg8 𝒱 c bd E i h1 f k)
    isplitl [H4]; · iexact H4
    isplitl [H8]; · iexact H8
    iexact H10
  iintro %_ ⟨H4, H8, H10⟩
  isplitl [H4]; · iexact H4
  isplitl [H8]; · iexact H8
  iexists _
  isplitr
  rotate_left
  · iexact H10
  ipureintro
  refine ⟨fun y hy => ?_, fun y hy => ?_⟩
  · by_cases hr : (y 0).val / 64 = k.val
    · refine (View.read_writes_cons_unit_of_mem (size := S64x4096.size) arg10.view f (k0_off3_inb i k h1) _ [] y (ix2 ⟨(y 0).val % 64, Nat.mod_lt _ (by decide)⟩ ⟨(y 1).val, (y 1).isLt⟩ : S64x4096.Idx) (k0_off3_eq k) (fun a => by
        match a with
        | ⟨0, _⟩ => show (y 0).val = 64 * k.val + (y 0).val % 64; omega
        | ⟨1, _⟩ => show (y 1).val = 0 + (y 1).val; omega)).trans ?_
      rw [readAt_chunk X_arg8 _ k.val hk (k0_off2_eq k), View.readAt_full]
      unfold nTop
      rw [hr]
    · rw [View.read_writes_cons_unit_of_not_mem (size := S64x4096.size) arg10.view f (k0_off3_inb i k h1) _ [] y (k0_off3_eq k) 0 (Or.inl (by show (y 0).val < 64 * k.val; omega))]
      exact hf.1 y (by omega)
  · rw [View.read_writes_cons_unit_of_not_mem (size := S64x4096.size) arg10.view f (k0_off3_inb i k h1) _ [] y (k0_off3_eq k) 0 (Or.inr (by show 64 * k.val + 64 ≤ (y 0).val; omega))]
    exact hf.2 y hy

end Cert.Ffn

end
-- ==== Proof.Ffn.Body.lean ====
/-
  One run of the feed-forward kernel's body, in its four cases: the first point (both blocks are copied in and
  normalised), the first tile of a later block, a later tile of the first block, and a later tile of a later block.
-/
module

public import proofs.«01_k».proof.Proof.Ffn.Loop

@[expose] public section

set_option maxRecDepth 8192

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄D" => MT nD τ sig Unit (Elt F) ℕ (Pipeline.UD sig nD τ) ℕ

/-- The two inputs left in HBM, which the body copies in itself. -/
abbrev hbM0 : Memref sig .tc .hbm S8192x4096 .f32 := Memref.whole main_arg0
abbrev hbM1 : Memref sig .tc .hbm S32x4096 .f32 := Memref.whole main_arg1
/-- The kernel's own buffer of normalised rows. -/
abbrev nM : Memref sig .tc .vmem S1056x4096 .bf16 := Memref.whole cc0_scratch0
/-- A buffer's contents on a core, and the buffer held whole at them. -/
abbrev HbBuf (c : Dev nD) {sp : Space} {s : Shape} {e : EltTy} (M : Memref sig .tc sp s e) : Type := Buf (Elt F) (M.view.loc (c : Thread nD τ))
abbrev hbPt (c : Dev nD) {sp : Space} {s : Shape} {e : EltTy} (M : Memref sig .tc sp s e) (f : HbBuf (F := F) c M) : sProp 𝕄D := M.view.loc (c : Thread nD τ) ↦{fullShare} f

/-- The normalised rows of the 32 sample rows, at the last 32 rows of the buffer. -/
def nBot (xs : Vec F S32x4096 .f32) (g : Vec F S1x4096 .f32) (y : S1056x4096.Idx) : Elt F .bf16 :=
  k0_pay2 xs g (ix2 ⟨((y 0).val - 1024) % 32, Nat.mod_lt _ (by decide)⟩ ⟨(y 1).val, (y 1).isLt⟩)

/-- The buffer of normalised rows: a block's 1024 rows above, the 32 sample rows below. -/
def nAll (x : Vec F S1024x4096 .f32) (xs : Vec F S32x4096 .f32) (g : Vec F S1x4096 .f32) : Vec F S1056x4096 .bf16 := fun y =>
  if (y 0).val < 1024 then nTop x g y else nBot xs g y

/-- The first 1024 rows of the buffer of normalised rows. -/
def topRows (n : Vec F S1056x4096 .bf16) : Vec F S1024x4096 .bf16 := fun z =>
  n (ix2 ⟨(z 0).val, by have : (z 0).val < 1024 := (z 0).isLt; omega⟩ ⟨(z 1).val, (z 1).isLt⟩)

/-- Block `i`'s 1024 rows of the long input. -/
def xblk (x : Vec F S8192x4096 .f32) (i : ℕ) : Vec F S1024x4096 .f32 := fun z =>
  x (ix2 ⟨(1024 * i + (z 0).val) % 8192, Nat.mod_lt _ (by decide)⟩ ⟨(z 1).val, (z 1).isLt⟩)

/-- The block's rows of the long input are what the body's view of it reads. -/
theorem read_xblk (f2 : BufTy.Contents (Elt F) hbM0.view.ty) (i : grid0.Coords) (h1 : k0_cond1 i = 1#1) :
    (hbM0.slice (Rect.unit (s := S8192x4096) (k0_off1 i) S1024x4096.size (k0_off1_inb i h1)) (fun _ => rfl)).view.read (Elt F) f2
      = xblk (hbM0.view.read (Elt F) f2) (i 0).val := by
  funext z
  have h0 : (z 0).val < 1024 := (z 0).isLt
  have hi : (i 0).val < 8 := (i 0).isLt
  have e := k0_off1_eq i
  refine congrArg (hbM0.view.read (Elt F) f2) (funext fun a => Fin.ext ?_)
  match a with
  | ⟨0, _⟩ => show k0_off1 i 0 + 1 * (z 0).val = (1024 * (i 0).val + (z 0).val) % 8192; have e0 : k0_off1 i 0 = 1024 * (i 0).val := congrFun e 0; omega
  | ⟨1, _⟩ => show k0_off1 i 1 + 1 * (z 1).val = (z 1).val; have e1 : k0_off1 i 1 = 0 := congrFun e 1; omega

/-- A load of the buffer's first 1024 rows. -/
theorem readAt_topRows {m : Memref sig .tc .vmem S1056x4096 .bf16} (X : BufTy.Contents (Elt F) m.view.ty)
    (inb : ∀ a, (![0, 0] : Fin 2 → ℕ) a + S1024x4096.size a ≤ S1056x4096.size a) :
    m.view.readAt (Elt F) (Rect.unit (s := S1056x4096) ![0, 0] S1024x4096.size inb).toLoadRect X = topRows (m.view.read (Elt F) X) := by
  funext z
  refine congrArg (m.view.read (Elt F) X) (funext fun a => Fin.ext ?_)
  match a with
  | ⟨0, _⟩ => show 0 + 1 * (z 0).val = (z 0).val; omega
  | ⟨1, _⟩ => show 0 + 1 * (z 1).val = (z 1).val; omega

/-- Equal arguments, equal values. -/
theorem c3 {A B C D : Type} (p : A → B → C → D) {a a' : A} {b b' : B} {c c' : C} (h1 : a = a') (h2 : b = b') (h3 : c = c') : p a b c = p a' b' c' := by
  subst h1 h2 h3; rfl
theorem c2 {A B C : Type} (p : A → B → C) {a a' : A} {b b' : B} (h1 : a = a') (h2 : b = b') : p a b = p a' b' := by
  subst h1 h2; rfl
theorem c5 {A B C D E G : Type} (p : A → B → C → D → E → G) {a a' : A} {b b' : B} {c c' : C} {d d' : D} {e e' : E} (h1 : a = a') (h2 : b = b') (h3 : c = c') (h4 : d = d') (h5 : e = e') :
    p a b c d e = p a' b' c' d' e' := by
  subst h1 h2 h3 h4 h5; rfl

/-- A covered load of a whole buffer, after a copy filled all of it, reads what the copy brought. -/
theorem readCov_whole {s : Shape} {e : EltTy} (m : Memref sig .tc .vmem s e) (w w' : Vec F s e) (e1 : w = w') {off : Fin s.rank → ℕ} (inb : ∀ a, off a + s.size a ≤ s.size a) :
    m.view.readCov (Val := Elt F) [⟨Rect.whole s, w⟩] (Rect.unit (s := s) off s.size inb).toLoadRect = w' := by
  subst e1
  exact View.readCov_full m.view inb _ w []

/-- The buffer after the sample rows' store: the block's rows where they were, the sample rows below. -/
theorem read_nAll (f : BufTy.Contents (Elt F) nM.view.ty) (x : Vec F S1024x4096 .f32) (xs v21 : Vec F S32x4096 .f32) (g v23 : Vec F S1x4096 .f32)
    (inb : ∀ a, k0_off5 a + S32x4096.size a ≤ S1056x4096.size a) (e1 : v21 = xs) (e2 : v23 = g)
    (h : ∀ y : S1056x4096.Idx, (y 0).val < 1024 → nM.view.read (Elt F) f y = nTop x g y) :
    nM.view.read (Elt F) (nM.view.writes (Elt F) f [⟨Rect.unit (s := S1056x4096) k0_off5 S32x4096.size inb, k0_pay2 v21 v23⟩]) = nAll x xs g := by
  subst e1 e2
  funext y
  have hy : (y 0).val < 1056 := (y 0).isLt
  unfold nAll
  split
  next hlt =>
    refine (View.read_writes_cons_unit_of_not_mem (size := S32x4096.size) nM.view f inb _ [] y k0_off5_eq 0 (Or.inl (by show (y 0).val < 1024; exact hlt))).trans ?_
    exact h y hlt
  next hge =>
    exact (View.read_writes_cons_unit_of_mem (size := S32x4096.size) nM.view f inb _ [] y (ix2 ⟨((y 0).val - 1024) % 32, Nat.mod_lt _ (by decide)⟩ ⟨(y 1).val, (y 1).isLt⟩ : S32x4096.Idx) k0_off5_eq (fun a => by
        match a with
        | ⟨0, _⟩ => show (y 0).val = 1024 + ((y 0).val - 1024) % 32; omega
        | ⟨1, _⟩ => show (y 1).val = 0 + (y 1).val; omega))

variable (arg4 : Memref sig .tc .vmem S1x4096 .f32) (harg4 : arg4.IsWhole) (arg5 : Memref sig .tc .vmem S1x1x4096x256 .f32) (harg5 : arg5.IsWhole) (arg6 : Memref sig .tc .vmem S1x1x4096x256 .f32) (harg6 : arg6.IsWhole) (arg7 : Memref sig .tc .vmem S1x1x256x4096 .f32) (harg7 : arg7.IsWhole) (arg8 : Memref sig .tc .vmem S1024x4096 .f32) (harg8 : arg8.IsWhole) (arg9 : Memref sig .tc .vmem S32x4096 .f32) (harg9 : arg9.IsWhole)
variable (g : Vec F S1x4096 .f32) (w1 w3 : Vec F S1x1x4096x256 .f32) (w2 : Vec F S1x1x256x4096 .f32)

/-- The first point: both the block and the sample rows are copied in and normalised, then the tile's contributions are added. -/
theorem runA (c : Dev nD) (i : grid0.Coords) (hc1 : k0_cond1 i = 1#1) (hc2 : k0_cond2 i = 1#1) (hc3 : k0_cond3 i = 1#1) (hc4 : ¬ k0_cond4 i = 1#1) (f2 : BufTy.Contents (Elt F) hbM0.view.ty) (f3 : BufTy.Contents (Elt F) hbM1.view.ty) (W : Waits sig Unit) (K : PUnit → sProp 𝕄D) :
    iprop(owns (c : Thread nD τ) arg4 fullShare (g) ∗ owns (c : Thread nD τ) arg5 fullShare (w1) ∗ owns (c : Thread nD τ) arg6 fullShare (w3) ∗ owns (c : Thread nD τ) arg7 fullShare (w2) ∗ (∃ d, owns (c : Thread nD τ) arg8 fullShare d) ∗ (∃ d, owns (c : Thread nD τ) arg9 fullShare d) ∗ (∃ d, owns (c : Thread nD τ) (nM) fullShare d) ∗ semVal ((c : Thread nD τ), SemLoc.dma 9) 0 ∗ semVal ((c : Thread nD τ), SemLoc.dma 10) 0 ∗ hbPt c hbM0 f2 ∗ hbPt c hbM1 f3 ∗ owes (c : Thread nD τ) 0 W
        ∗ (iprop(owns (c : Thread nD τ) arg4 fullShare (g) ∗ owns (c : Thread nD τ) arg5 fullShare (w1) ∗ owns (c : Thread nD τ) arg6 fullShare (w3) ∗ owns (c : Thread nD τ) arg7 fullShare (w2) ∗ owns (c : Thread nD τ) arg8 fullShare (k0_pay6 (nAll (xblk (hbM0.view.read (Elt F) f2) (i 0).val) (hbM1.view.read (Elt F) f3) g) w1 w3 (xblk (hbM0.view.read (Elt F) f2) (i 0).val) w2) ∗ owns (c : Thread nD τ) arg9 fullShare (k0_pay3 (k0_pay5 (nAll (xblk (hbM0.view.read (Elt F) f2) (i 0).val) (hbM1.view.read (Elt F) f3) g) w1 w3) (k0_pay7 (hbM1.view.read (Elt F) f3)) w2) ∗ owns (c : Thread nD τ) (nM) fullShare (nAll (xblk (hbM0.view.read (Elt F) f2) (i 0).val) (hbM1.view.read (Elt F) f3) g) ∗ semVal ((c : Thread nD τ), SemLoc.dma 9) 0 ∗ semVal ((c : Thread nD τ), SemLoc.dma 10) 0 ∗ hbPt c hbM0 f2 ∗ hbPt c hbM1 f3 ∗ (∃ W', owes (c : Thread nD τ) 0 W')) -∗ K ⟨⟩))
      ⊢ wp frame (wpE (defs₀ (F := F)) Variants.none (c : Thread nD τ) none) Set.univ (cc0_ffn (F := F) i hbM0 (Memref.isWhole_whole _) hbM1 (Memref.isWhole_whole _) arg4 harg4 arg5 harg5 arg6 harg6 arg7 harg7 arg8 harg8 arg9 harg9 nM (Memref.isWhole_whole _) cc0_scratch1) K := by
  simp only [cc0_ffn_eq_skeleton]; unfold cc0_ffn_skel
  unfold owns
  iintro ⟨⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hq, Hq', Hh, Hh', HW, Hk⟩
  sl_exec (disch := first | sl_exact hc1 | sl_exact hc2 | sl_exact hc3 | sl_exact hc4)
  sl_for (inv arg4 arg8 (nM) f4 (arg8.view.writes (Elt F) arg8.view.junk [⟨Rect.whole S1024x4096, (hbM0.slice (Rect.unit (s := S8192x4096) (k0_off1 i) S1024x4096.size (k0_off1_inb i hc1)) (fun _ => rfl)).view.read (Elt F) f2⟩]) c f10) $$ [H4 H8 H10]
  · intro k acc
    exact inv_step _ _ _ _ arg4 harg4 arg5 harg5 arg6 harg6 arg7 harg7 arg8 harg8 arg9 harg9 _ _ _ f4 _ Variants.none c none Set.univ i hc1 f10 k acc
  · unfold inv
    isplitl [H4]; · iexact H4
    isplitl [H8]; · iexact H8
    iexists f10
    isplitr
    · ipureintro
      exact ⟨fun y hy => absurd hy (Nat.not_lt_zero _), fun y _ => rfl⟩
    iexact H10
  iintro %acc HI
  unfold inv
  icases HI with ⟨H4, H8, ⟨%g10, %h10, H10⟩⟩
  have ht : (k0_t1_loop.trips : ℕ) = 16 := by decide +kernel
  have hx : arg8.view.read (Elt F) (arg8.view.writes (Elt F) arg8.view.junk [⟨Rect.whole S1024x4096, (hbM0.slice (Rect.unit (s := S8192x4096) (k0_off1 i) S1024x4096.size (k0_off1_inb i hc1)) (fun _ => rfl)).view.read (Elt F) f2⟩]) = xblk (hbM0.view.read (Elt F) f2) (i 0).val :=
    (View.read_writes_full arg8.view _ _ _ _).trans (read_xblk f2 i hc1)
  have htop : ∀ y : S1056x4096.Idx, (y 0).val < 1024 → nM.view.read (Elt F) g10 y = nTop (xblk (hbM0.view.read (Elt F) f2) (i 0).val) g y := fun y hy => by
    rw [h10.1 y (by show (y 0).val < 64 * k0_t1_loop.trips; rw [ht]; exact hy), hx, hf4]

  sl_exec (disch := first | sl_exact hc1 | sl_exact hc2 | sl_exact hc3 | sl_exact hc4)
  sl_step
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  have hcov := readCov_whole arg8 _ _ (read_xblk f2 i hc1) inb_S1024x4096_S1024x4096_0_0
  have hcov9 := readCov_whole arg9 (hbM1.view.read (Elt F) f3) (hbM1.view.read (Elt F) f3) rfl inb_S32x4096_S32x4096_0_0
  have hcov9' := readCov_whole arg9 (hbM1.view.read (Elt F) f3) (hbM1.view.read (Elt F) f3) rfl (k0_off4_inb i hc2)
  have hN := read_nAll g10 (xblk (hbM0.view.read (Elt F) f2) (i 0).val) (hbM1.view.read (Elt F) f3) _ g _ (k0_off5_inb i hc2) hcov9' ((View.readAt_full arg4.view f4 inb_S1x4096_S1x4096_0_0).trans hf4) htop
  have hN' := (View.readAt_full nM.view _ inb_S1056x4096_S1056x4096_0_0).trans hN
  isplitl [H8]
  · iexists _; isplitr
    rotate_left
    · iexact H8
    ipureintro
    refine (View.read_writes_full arg8.view _ _ _ _).trans ?_
    unfold runA.sl.v35 runA.sl.H10_1
    exact c5 k0_pay6 hN' ((View.readAt_full arg5.view f5 _).trans hf5) ((View.readAt_full arg6.view f6 _).trans hf6) hcov ((View.readAt_full arg7.view f7 _).trans hf7)
  isplitl [H9]
  · iexists _; isplitr
    rotate_left
    · iexact H9
    ipureintro
    refine (View.read_writes_full arg9.view _ _ _ _).trans ?_
    unfold runA.sl.r runA.sl.r_1 runA.sl.v44 runA.sl.H10_1
    exact c3 k0_pay3 (c3 k0_pay5 hN' ((View.readAt_full arg5.view f5 _).trans hf5) ((View.readAt_full arg6.view f6 _).trans hf6)) (congrArg k0_pay7 hcov9) ((View.readAt_full arg7.view f7 _).trans hf7)
  isplitl [H10]
  · iexists _; isplitr
    rotate_left
    · iexact H10
    ipureintro
    unfold runA.sl.H10_1
    exact hN
  isplitl [Hq]; · iexact Hq
  isplitl [Hq']; · iexact Hq'
  isplitl [Hh]; · iexact Hh
  isplitl [Hh']; · iexact Hh'
  iexists _; iexact HW

/-- The first tile of a later block: the block is copied in and normalised, then the tile's contribution is added. -/
theorem runB (c : Dev nD) (i : grid0.Coords) (hc1 : k0_cond1 i = 1#1) (hc2 : ¬ k0_cond2 i = 1#1) (hc3 : ¬ k0_cond3 i = 1#1) (hc4 : k0_cond4 i = 1#1) (n : Vec F S1056x4096 .bf16) (xs : Vec F S32x4096 .f32) (hn : ∀ y : S1056x4096.Idx, 1024 ≤ (y 0).val → n y = nBot xs g y) (f2 : BufTy.Contents (Elt F) hbM0.view.ty) (W : Waits sig Unit) (K : PUnit → sProp 𝕄D) :
    iprop(owns (c : Thread nD τ) arg4 fullShare (g) ∗ owns (c : Thread nD τ) arg5 fullShare (w1) ∗ owns (c : Thread nD τ) arg6 fullShare (w3) ∗ owns (c : Thread nD τ) arg7 fullShare (w2) ∗ (∃ d, owns (c : Thread nD τ) arg8 fullShare d) ∗ owns (c : Thread nD τ) (nM) fullShare (n) ∗ semVal ((c : Thread nD τ), SemLoc.dma 9) 0 ∗ hbPt c hbM0 f2 ∗ owes (c : Thread nD τ) 0 W
        ∗ (iprop(owns (c : Thread nD τ) arg4 fullShare (g) ∗ owns (c : Thread nD τ) arg5 fullShare (w1) ∗ owns (c : Thread nD τ) arg6 fullShare (w3) ∗ owns (c : Thread nD τ) arg7 fullShare (w2) ∗ owns (c : Thread nD τ) arg8 fullShare (k0_pay4 (xblk (hbM0.view.read (Elt F) f2) (i 0).val) (topRows (nAll (xblk (hbM0.view.read (Elt F) f2) (i 0).val) xs g)) w1 w3 w2) ∗ owns (c : Thread nD τ) (nM) fullShare (nAll (xblk (hbM0.view.read (Elt F) f2) (i 0).val) xs g) ∗ semVal ((c : Thread nD τ), SemLoc.dma 9) 0 ∗ hbPt c hbM0 f2 ∗ (∃ W', owes (c : Thread nD τ) 0 W')) -∗ K ⟨⟩))
      ⊢ wp frame (wpE (defs₀ (F := F)) Variants.none (c : Thread nD τ) none) Set.univ (cc0_ffn (F := F) i hbM0 (Memref.isWhole_whole _) hbM1 (Memref.isWhole_whole _) arg4 harg4 arg5 harg5 arg6 harg6 arg7 harg7 arg8 harg8 arg9 harg9 nM (Memref.isWhole_whole _) cc0_scratch1) K := by
  simp only [cc0_ffn_eq_skeleton]; unfold cc0_ffn_skel
  unfold owns
  iintro ⟨⟨%f4, %hf4, H4⟩, ⟨%f5, %hf5, H5⟩, ⟨%f6, %hf6, H6⟩, ⟨%f7, %hf7, H7⟩, ⟨%d8, %f8, -, H8⟩, ⟨%f10, %hf10, H10⟩, Hq, Hh, HW, Hk⟩
  sl_exec (disch := first | sl_exact hc1 | sl_exact hc2 | sl_exact hc3 | sl_exact hc4)
  sl_for (inv arg4 arg8 (nM) f4 (arg8.view.writes (Elt F) arg8.view.junk [⟨Rect.whole S1024x4096, (hbM0.slice (Rect.unit (s := S8192x4096) (k0_off1 i) S1024x4096.size (k0_off1_inb i hc1)) (fun _ => rfl)).view.read (Elt F) f2⟩]) c f10) $$ [H4 H8 H10]
  · intro k acc
    exact inv_step _ _ _ _ arg4 harg4 arg5 harg5 arg6 harg6 arg7 harg7 arg8 harg8 arg9 harg9 _ _ _ f4 _ Variants.none c none Set.univ i hc1 f10 k acc
  · unfold inv
    isplitl [H4]; · iexact H4
    isplitl [H8]; · iexact H8
    iexists f10
    isplitr
    · ipureintro
      exact ⟨fun y hy => absurd hy (Nat.not_lt_zero _), fun y _ => rfl⟩
    iexact H10
  iintro %acc HI
  unfold inv
  icases HI with ⟨H4, H8, ⟨%g10, %h10, H10⟩⟩
  have ht : (k0_t1_loop.trips : ℕ) = 16 := by decide +kernel
  have hx : arg8.view.read (Elt F) (arg8.view.writes (Elt F) arg8.view.junk [⟨Rect.whole S1024x4096, (hbM0.slice (Rect.unit (s := S8192x4096) (k0_off1 i) S1024x4096.size (k0_off1_inb i hc1)) (fun _ => rfl)).view.read (Elt F) f2⟩]) = xblk (hbM0.view.read (Elt F) f2) (i 0).val :=
    (View.read_writes_full arg8.view _ _ _ _).trans (read_xblk f2 i hc1)
  have htop : ∀ y : S1056x4096.Idx, (y 0).val < 1024 → nM.view.read (Elt F) g10 y = nTop (xblk (hbM0.view.read (Elt F) f2) (i 0).val) g y := fun y hy => by
    rw [h10.1 y (by show (y 0).val < 64 * k0_t1_loop.trips; rw [ht]; exact hy), hx, hf4]

  sl_exec (disch := first | sl_exact hc1 | sl_exact hc2 | sl_exact hc3 | sl_exact hc4)
  sl_step
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  have hN : nM.view.read (Elt F) g10 = nAll (xblk (hbM0.view.read (Elt F) f2) (i 0).val) xs g := by
    funext y
    unfold nAll
    split
    next hlt => exact htop y hlt
    next hge =>
      rw [h10.2 y (by omega), hf10]
      exact hn y (by omega)
  isplitl [H8]
  · iexists _; isplitr
    rotate_left
    · iexact H8
    ipureintro
    refine (View.read_writes_full arg8.view _ _ _ _).trans ?_
    have hcov := readCov_whole arg8 _ _ (read_xblk f2 i hc1) inb_S1024x4096_S1024x4096_0_0
    unfold runB.sl.v14
    exact c5 k0_pay4 hcov ((readAt_topRows (m := nM) g10 _).trans (congrArg topRows hN)) ((View.readAt_full arg5.view f5 _).trans hf5) ((View.readAt_full arg6.view f6 _).trans hf6) ((View.readAt_full arg7.view f7 _).trans hf7)
  isplitl [H10]
  · iexists _; isplitr
    rotate_left
    · iexact H10
    ipureintro; exact hN
  isplitl [Hq]; · iexact Hq
  isplitl [Hh]; · iexact Hh
  iexists _; iexact HW

/-- A later tile of the first block: the tile's contribution is added to the block's output and to the sample rows' output. -/
theorem runC (c : Dev nD) (i : grid0.Coords) (hc1 : ¬ k0_cond1 i = 1#1) (hc2 : ¬ k0_cond2 i = 1#1) (hc3 : k0_cond3 i = 1#1) (hc4 : ¬ k0_cond4 i = 1#1) (n : Vec F S1056x4096 .bf16) (o : Vec F S1024x4096 .f32) (os : Vec F S32x4096 .f32) (K : PUnit → sProp 𝕄D) :
    iprop(owns (c : Thread nD τ) arg4 fullShare (g) ∗ owns (c : Thread nD τ) arg5 fullShare (w1) ∗ owns (c : Thread nD τ) arg6 fullShare (w3) ∗ owns (c : Thread nD τ) arg7 fullShare (w2) ∗ owns (c : Thread nD τ) arg8 fullShare (o) ∗ owns (c : Thread nD τ) arg9 fullShare (os) ∗ owns (c : Thread nD τ) (nM) fullShare (n)
        ∗ (iprop(owns (c : Thread nD τ) arg4 fullShare (g) ∗ owns (c : Thread nD τ) arg5 fullShare (w1) ∗ owns (c : Thread nD τ) arg6 fullShare (w3) ∗ owns (c : Thread nD τ) arg7 fullShare (w2) ∗ owns (c : Thread nD τ) arg8 fullShare (k0_pay6 n w1 w3 o w2) ∗ owns (c : Thread nD τ) arg9 fullShare (k0_pay3 (k0_pay5 n w1 w3) (k0_pay7 os) w2) ∗ owns (c : Thread nD τ) (nM) fullShare (n)) -∗ K ⟨⟩))
      ⊢ wp frame (wpE (defs₀ (F := F)) Variants.none (c : Thread nD τ) none) Set.univ (cc0_ffn (F := F) i hbM0 (Memref.isWhole_whole _) hbM1 (Memref.isWhole_whole _) arg4 harg4 arg5 harg5 arg6 harg6 arg7 harg7 arg8 harg8 arg9 harg9 nM (Memref.isWhole_whole _) cc0_scratch1) K := by
  simp only [cc0_ffn_eq_skeleton]; unfold cc0_ffn_skel
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | sl_exact hc1 | sl_exact hc2 | sl_exact hc3 | sl_exact hc4)
  sl_step
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    rotate_left
    · iexact H8
    ipureintro
    refine (View.read_writes_full arg8.view f8 _ _ _).trans ?_
    exact c5 k0_pay6 ((View.readAt_full (nM).view f10 _).trans hf10) (((View.readAt_full arg5.view f5 _).trans hf5)) (((View.readAt_full arg6.view f6 _).trans hf6)) (((View.readAt_full arg8.view f8 _).trans hf8)) (((View.readAt_full arg7.view f7 _).trans hf7))
  isplitl [H9]
  · iexists _; isplitr
    rotate_left
    · iexact H9
    ipureintro
    refine (View.read_writes_full arg9.view f9 _ _ _).trans ?_
    exact c3 k0_pay3 (c3 k0_pay5 ((View.readAt_full (nM).view f10 _).trans hf10) (((View.readAt_full arg5.view f5 _).trans hf5)) (((View.readAt_full arg6.view f6 _).trans hf6))) (congrArg k0_pay7 (((View.readAt_full arg9.view f9 _).trans hf9))) (((View.readAt_full arg7.view f7 _).trans hf7))
  iexists _; isplitr
  rotate_left
  · iexact H10
  ipureintro; exact hf10

/-- A later tile of a later block: the tile's contribution is added to the block's output. -/
theorem runD (c : Dev nD) (i : grid0.Coords) (hc1 : ¬ k0_cond1 i = 1#1) (hc2 : ¬ k0_cond2 i = 1#1) (hc3 : ¬ k0_cond3 i = 1#1) (hc4 : k0_cond4 i = 1#1) (n : Vec F S1056x4096 .bf16) (o : Vec F S1024x4096 .f32) (K : PUnit → sProp 𝕄D) :
    iprop(owns (c : Thread nD τ) arg4 fullShare (g) ∗ owns (c : Thread nD τ) arg5 fullShare (w1) ∗ owns (c : Thread nD τ) arg6 fullShare (w3) ∗ owns (c : Thread nD τ) arg7 fullShare (w2) ∗ owns (c : Thread nD τ) arg8 fullShare (o) ∗ owns (c : Thread nD τ) (nM) fullShare (n)
        ∗ (iprop(owns (c : Thread nD τ) arg4 fullShare (g) ∗ owns (c : Thread nD τ) arg5 fullShare (w1) ∗ owns (c : Thread nD τ) arg6 fullShare (w3) ∗ owns (c : Thread nD τ) arg7 fullShare (w2) ∗ owns (c : Thread nD τ) arg8 fullShare (k0_pay4 o (topRows n) w1 w3 w2) ∗ owns (c : Thread nD τ) (nM) fullShare (n)) -∗ K ⟨⟩))
      ⊢ wp frame (wpE (defs₀ (F := F)) Variants.none (c : Thread nD τ) none) Set.univ (cc0_ffn (F := F) i hbM0 (Memref.isWhole_whole _) hbM1 (Memref.isWhole_whole _) arg4 harg4 arg5 harg5 arg6 harg6 arg7 harg7 arg8 harg8 arg9 harg9 nM (Memref.isWhole_whole _) cc0_scratch1) K := by
  simp only [cc0_ffn_eq_skeleton]; unfold cc0_ffn_skel
  unfold owns
  iintro ⟨⟨%f4, %hf4, H4⟩, ⟨%f5, %hf5, H5⟩, ⟨%f6, %hf6, H6⟩, ⟨%f7, %hf7, H7⟩, ⟨%f8, %hf8, H8⟩, ⟨%f10, %hf10, H10⟩, Hk⟩
  sl_exec (disch := first | sl_exact hc1 | sl_exact hc2 | sl_exact hc3 | sl_exact hc4)
  sl_step
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    rotate_left
    · iexact H8
    ipureintro
    refine (View.read_writes_full arg8.view f8 _ _ _).trans ?_
    exact c5 k0_pay4 (((View.readAt_full arg8.view f8 _).trans hf8)) ((readAt_topRows (m := nM) f10 _).trans (congrArg topRows hf10)) (((View.readAt_full arg5.view f5 _).trans hf5)) (((View.readAt_full arg6.view f6 _).trans hf6)) (((View.readAt_full arg7.view f7 _).trans hf7))
  iexists _; isplitr
  rotate_left
  · iexact H10
  ipureintro; exact hf10

end Cert.Ffn

end
-- ==== Proof.Ffn.Setup.lean ====
/-
  The feed-forward kernel's launch, first part: what each grid point leaves in the two output blocks and in the buffer
  of normalised rows, the proof data, and what each window's buffer holds when the body runs.
-/
module

public import proofs.«01_k».proof.Proof.Gen.Kernel2Ideal.Frame
public import proofs.«01_k».proof.Proof.Ffn.Body
public import Idealize.ShloMosaic.Lib.Claim

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄D" => MT nD τ sig Unit (Elt F) ℕ (Pipeline.UD sig nD τ) ℕ

variable (m : (ℓ : Loc nD τ sig) → Buf (Elt F) ℓ) (ρ : Dev nD → PrngReg)

/-! ## The grid -/

/-- The first coordinate of a point is its block of rows. -/
theorem coord0 (t : Fin cfg0.N) : (grid0.coords t 0).val = t.val / 43 := by
  have ht : t.val < 344 := Nat.lt_of_lt_of_eq t.isLt N_0
  have e0 : (grid0.coords t 0).val = t.val / 43 % 8 := Pipeline.Grid.coords_val t 0 (by decide) rfl
  omega

/-- The four conditions of the body, at a point of the grid. -/
theorem cond1_iff : ∀ t : Fin cfg0.N, k0_cond1 (grid0.coords t) = 1#1 ↔ t.val % 43 = 0 := by decide +kernel
theorem cond2_iff : ∀ t : Fin cfg0.N, k0_cond2 (grid0.coords t) = 1#1 ↔ t.val = 0 := by decide +kernel
theorem cond3_iff : ∀ t : Fin cfg0.N, k0_cond3 (grid0.coords t) = 1#1 ↔ t.val < 43 := by decide +kernel
theorem cond4_iff : ∀ t : Fin cfg0.N, k0_cond4 (grid0.coords t) = 1#1 ↔ 43 ≤ t.val := by decide +kernel

/-- The long output's window is written at every point; the sample output's at the points of the first block. -/
theorem idle4 : ∀ t : Fin cfg0.N, cfg0.idle 4 (grid0.coords t) = false := by decide +kernel
theorem idle5_lt : ∀ t : Fin cfg0.N, t.val < 43 → cfg0.idle 5 (grid0.coords t) = false := by decide +kernel
theorem idle5_ge : ∀ t : Fin cfg0.N, 43 ≤ t.val → cfg0.idle 5 (grid0.coords t) = true := by decide +kernel

/-! ## What the points leave -/

/-- The long input and the sample rows, as the region finds them. -/
abbrev xA (c : Dev nD) : Vec F S8192x4096 .f32 := hbM0.view.read (Elt F) (V m c main_arg0)
abbrev xsA (c : Dev nD) : Vec F S32x4096 .f32 := hbM1.view.read (Elt F) (V m c main_arg1)

/-- The block of the weights `w` of input window 0, 1, 2 or 3 at point `n`. -/
abbrev gB (c : Dev nD) (t : Fin cfg0.N) : Vec F S1x4096 .f32 := iblk m c 0 t
abbrev w1B (c : Dev nD) (t : Fin cfg0.N) : Vec F S1x1x4096x256 .f32 := iblk m c 1 t
abbrev w3B (c : Dev nD) (t : Fin cfg0.N) : Vec F S1x1x4096x256 .f32 := iblk m c 2 t
abbrev w2B (c : Dev nD) (t : Fin cfg0.N) : Vec F S1x1x256x4096 .f32 := iblk m c 3 t

/-- The gain's block is the same at every point. -/
theorem gB_const (c : Dev nD) (t t' : Fin cfg0.N) : gB m c t = gB m c t' := rfl

/-- The first point. -/
def t0 : Fin cfg0.N := ⟨0, by rw [show cfg0.N = 344 from N_0]; decide⟩

/-- The normalised rows the body multiplies at point `n`: those of the point's block, over those of the sample rows. -/
def nAt (c : Dev nD) (n : ℕ) : Vec F S1056x4096 .bf16 := nAll (xblk (xA m c) (n / 43)) (xsA m c) (gB m c t0)

/-- The block of the long output after point `n`. -/
def oAt (c : Dev nD) : (n : ℕ) → n < cfg0.N → Vec F S1024x4096 .f32
  | 0, h => k0_pay6 (nAt m c 0) (w1B m c ⟨0, h⟩) (w3B m c ⟨0, h⟩) (xblk (xA m c) (0 / 43)) (w2B m c ⟨0, h⟩)
  | n + 1, h => if (n + 1) % 43 = 0 then
        k0_pay4 (xblk (xA m c) ((n + 1) / 43)) (topRows (nAt m c (n + 1))) (w1B m c ⟨n + 1, h⟩) (w3B m c ⟨n + 1, h⟩) (w2B m c ⟨n + 1, h⟩)
      else if n + 1 < 43 then
        k0_pay6 (nAt m c (n + 1)) (w1B m c ⟨n + 1, h⟩) (w3B m c ⟨n + 1, h⟩) (oAt c n (Nat.lt_of_succ_lt h)) (w2B m c ⟨n + 1, h⟩)
      else
        k0_pay4 (oAt c n (Nat.lt_of_succ_lt h)) (topRows (nAt m c (n + 1))) (w1B m c ⟨n + 1, h⟩) (w3B m c ⟨n + 1, h⟩) (w2B m c ⟨n + 1, h⟩)

/-- The sample output after point `n`: it grows over the first block's points and then stays. -/
def osAt (c : Dev nD) : (n : ℕ) → n < cfg0.N → Vec F S32x4096 .f32
  | 0, h => k0_pay3 (k0_pay5 (nAt m c 0) (w1B m c ⟨0, h⟩) (w3B m c ⟨0, h⟩)) (k0_pay7 (xsA m c)) (w2B m c ⟨0, h⟩)
  | n + 1, h => if n + 1 < 43 then
        k0_pay3 (k0_pay5 (nAt m c (n + 1)) (w1B m c ⟨n + 1, h⟩) (w3B m c ⟨n + 1, h⟩)) (k0_pay7 (osAt c n (Nat.lt_of_succ_lt h))) (w2B m c ⟨n + 1, h⟩)
      else osAt c n (Nat.lt_of_succ_lt h)

/-- The long output's block at the first point. -/
theorem oAt_A (c : Dev nD) (t : Fin cfg0.N) (h0 : t.val = 0) : oAt m c t.val t.isLt
    = k0_pay6 (nAt m c t.val) (w1B m c t) (w3B m c t) (xblk (xA m c) (t.val / 43)) (w2B m c t) := by
  obtain ⟨n, hn⟩ := t
  cases n with
  | zero => rfl
  | succ n => exact absurd h0 (Nat.succ_ne_zero n)

/-- At the first tile of a later block. -/
theorem oAt_B (c : Dev nD) (t : Fin cfg0.N) (h0 : t.val ≠ 0) (h1 : t.val % 43 = 0) : oAt m c t.val t.isLt
    = k0_pay4 (xblk (xA m c) (t.val / 43)) (topRows (nAt m c t.val)) (w1B m c t) (w3B m c t) (w2B m c t) := by
  obtain ⟨n, hn⟩ := t
  cases n with
  | zero => exact absurd rfl h0
  | succ n => exact if_pos h1

/-- At a later tile of the first block. -/
theorem oAt_C (c : Dev nD) (t : Fin cfg0.N) (h1 : t.val % 43 ≠ 0) (h2 : t.val < 43) : oAt m c t.val t.isLt
    = k0_pay6 (nAt m c t.val) (w1B m c t) (w3B m c t) (oAt m c (t.val - 1) (Nat.lt_of_le_of_lt (Nat.sub_le _ _) t.isLt)) (w2B m c t) := by
  obtain ⟨n, hn⟩ := t
  cases n with
  | zero => exact absurd rfl h1
  | succ n => exact (if_neg h1).trans (if_pos h2)

/-- At a later tile of a later block. -/
theorem oAt_D (c : Dev nD) (t : Fin cfg0.N) (h1 : t.val % 43 ≠ 0) (h2 : ¬ t.val < 43) : oAt m c t.val t.isLt
    = k0_pay4 (oAt m c (t.val - 1) (Nat.lt_of_le_of_lt (Nat.sub_le _ _) t.isLt)) (topRows (nAt m c t.val)) (w1B m c t) (w3B m c t) (w2B m c t) := by
  obtain ⟨n, hn⟩ := t
  cases n with
  | zero => exact absurd rfl h1
  | succ n => exact (if_neg h1).trans (if_neg h2)

/-- The sample output at the first point. -/
theorem osAt_A (c : Dev nD) (t : Fin cfg0.N) (h0 : t.val = 0) : osAt m c t.val t.isLt
    = k0_pay3 (k0_pay5 (nAt m c t.val) (w1B m c t) (w3B m c t)) (k0_pay7 (xsA m c)) (w2B m c t) := by
  obtain ⟨n, hn⟩ := t
  cases n with
  | zero => rfl
  | succ n => exact absurd h0 (Nat.succ_ne_zero n)

/-- At a later tile of the first block. -/
theorem osAt_C (c : Dev nD) (t : Fin cfg0.N) (h0 : t.val ≠ 0) (h2 : t.val < 43) : osAt m c t.val t.isLt
    = k0_pay3 (k0_pay5 (nAt m c t.val) (w1B m c t) (w3B m c t)) (k0_pay7 (osAt m c (t.val - 1) (Nat.lt_of_le_of_lt (Nat.sub_le _ _) t.isLt))) (w2B m c t) := by
  obtain ⟨n, hn⟩ := t
  cases n with
  | zero => exact absurd rfl h0
  | succ n => exact if_pos h2

/-- At a later block's points it stays. -/
theorem osAt_D (c : Dev nD) (t : Fin cfg0.N) (h2 : ¬ t.val < 43) : osAt m c t.val t.isLt
    = osAt m c (t.val - 1) (Nat.lt_of_le_of_lt (Nat.sub_le _ _) t.isLt) := by
  obtain ⟨n, hn⟩ := t
  cases n with
  | zero => exact absurd (Nat.zero_lt_succ 42) h2
  | succ n => exact if_neg h2

/-! ## The kernel's own buffers and cells -/

/-- The two cells the body's own transfers complete on. -/
abbrev osem0 : Fin 2 → SemLoc sig := fun j => (![SemLoc.dma 9, SemLoc.dma 10] : Fin 2 → SemLoc sig) j
/-- They are cells of no window. -/
theorem ownSemFacts0 : Pipeline.OwnSemFacts spec0 osem0 := by decide
/-- The two cells, one by one. -/
theorem ownSems00_eq (c : Dev nD) :
    (Pipeline.ownSems0 (Ix := Unit) (Name := ℕ) (U := Pipeline.UD sig nD τ) (Lvl := ℕ) (Val := Elt F) (τ := τ) osem0 c : sProp 𝕄D)
      = iprop(semVal ((c : Thread nD τ), SemLoc.dma 9) 0 ∗ semVal ((c : Thread nD τ), SemLoc.dma 10) 0) := by
  rw [Pipeline.ownSems0_eq_of_list c osem0 [0, 1] (by decide) (by decide)]; rfl

/-- The two inputs the body copies in itself. -/
def H0 : Finset (Ref sig .tc) := {main_arg0, main_arg1}
/-- They are arrays no window stages. -/
theorem H0_sub : H0 ⊆ Pipeline.restRefs sig spec0 := by decide
/-- The two inputs, one by one. -/
theorem hbmPts0_eq (c : Dev nD) :
    (bigSep H0 (fun b => ((c : Thread nD τ).loc b) ↦{fullShare} V m c b) : sProp 𝕄D)
      = iprop(hbPt c hbM0 (V m c main_arg0) ∗ hbPt c hbM1 (V m c main_arg1)) := by
  rw [BI.bigSep_eq_bigSepL_of_eq [main_arg0, main_arg1] (by decide) (by decide)]; rfl

/-- What the launch hands the region: the buffer of normalised rows at anything, the generator's register, the two cells
    at zero, the two inputs at the contents the region finds. -/
theorem PhiD0_eq (c : Dev nD) :
    (Pipeline.ΦD osem0 spec0 H0 (V m) c : sProp 𝕄D)
      = iprop((∃ d, owns (c : Thread nD τ) nM fullShare d) ∗ (∃ r, prngReg c r)
          ∗ iprop(semVal ((c : Thread nD τ), SemLoc.dma 9) 0 ∗ semVal ((c : Thread nD τ), SemLoc.dma 10) 0)
          ∗ iprop(hbPt c hbM0 (V m c main_arg0) ∗ hbPt c hbM1 (V m c main_arg1))) := by
  rw [Pipeline.ΦD_eq, scopedRest0_eq, ownSems00_eq, hbmPts0_eq]
  simp only [nM, owns_whole]; try rfl

/-- The region invariant before position `n`: before the first point the buffer of normalised rows is at anything;
    afterwards it is at what the point before multiplied. -/
def PhiS (c : Dev nD) : (n : ℕ) → n ≤ cfg0.N → sProp 𝕄D
  | 0, _ => Pipeline.ΦD osem0 spec0 H0 (V m) c
  | n + 1, hn => iprop(owns (c : Thread nD τ) nM fullShare (nAt m c n) ∗ (∃ r, prngReg c r)
          ∗ iprop(semVal ((c : Thread nD τ), SemLoc.dma 9) 0 ∗ semVal ((c : Thread nD τ), SemLoc.dma 10) 0)
          ∗ iprop(hbPt c hbM0 (V m c main_arg0) ∗ hbPt c hbM1 (V m c main_arg1)))

/-- Before the first point. -/
theorem PhiS_zero (c : Dev nD) (n : ℕ) (h : n ≤ cfg0.N) (hz : n = 0) : PhiS m c n h = Pipeline.ΦD osem0 spec0 H0 (V m) c := by
  subst hz; rfl

/-- Before any other point. -/
theorem PhiS_pos (c : Dev nD) (n : ℕ) (h : n ≤ cfg0.N) (hz : n ≠ 0) :
    PhiS m c n h = iprop(owns (c : Thread nD τ) nM fullShare (nAt m c (n - 1)) ∗ (∃ r, prngReg c r)
          ∗ iprop(semVal ((c : Thread nD τ), SemLoc.dma 9) 0 ∗ semVal ((c : Thread nD τ), SemLoc.dma 10) 0)
          ∗ iprop(hbPt c hbM0 (V m c main_arg0) ∗ hbPt c hbM1 (V m c main_arg1))) := by
  cases n with
  | zero => exact absurd rfl hz
  | succ n => rfl

/-! ## The proof data -/

/-- The pipeline's proof data: the arrays as the region finds them, each input's buffer at its block after every point,
    the two outputs' at what the points leave. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oAt m c t.val t.isLt
    | ⟨5, _⟩ => osAt m c t.val t.isLt
  Φ t := PhiS m c t.val (Nat.le_of_lt_succ t.isLt)
  q _ := fullShare
  owed _ := 0

/-- The arrays are the contents the region finds. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The body leaves input 0's block. -/
theorem after_0 (c : Dev nD) (t : Fin cfg0.N) : (dats m 0 c).after 0 t = iblk m c 0 t := by dsimp only [dats]
/-- Input 0's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- What input 0's buffer is handed back as. -/
theorem leaves_0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after_0]

/-- The body leaves input 1's block. -/
theorem after_1 (c : Dev nD) (t : Fin cfg0.N) : (dats m 0 c).after 1 t = iblk m c 1 t := by dsimp only [dats]
/-- Input 1's buffer holds its block at every point. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- What input 1's buffer is handed back as. -/
theorem leaves_1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after_1]

/-- The body leaves input 2's block. -/
theorem after_2 (c : Dev nD) (t : Fin cfg0.N) : (dats m 0 c).after 2 t = iblk m c 2 t := by dsimp only [dats]
/-- Input 2's buffer holds its block at every point. -/
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- What input 2's buffer is handed back as. -/
theorem leaves_2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after_2]

/-- The body leaves input 3's block. -/
theorem after_3 (c : Dev nD) (t : Fin cfg0.N) : (dats m 0 c).after 3 t = iblk m c 3 t := by dsimp only [dats]
/-- Input 3's buffer holds its block at every point. -/
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- What input 3's buffer is handed back as. -/
theorem leaves_3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after_3]

/-- The body leaves the long output's block at what the point makes. -/
theorem after_4 (c : Dev nD) (t : Fin cfg0.N) : (dats m 0 c).after 4 t = oAt m c t.val t.isLt := by dsimp only [dats]
/-- And the sample output. -/
theorem after_5 (c : Dev nD) (t : Fin cfg0.N) : (dats m 0 c).after 5 t = osAt m c t.val t.isLt := by dsimp only [dats]

/-- A whole block filled over any contents is the block. -/
theorem kept_eq (c : Dev nD) (w : Fin cfg0.W) (hc : ∀ (i : cfg0.grid.Coords) a, (cfg0.win w).clip i a = none) (t : Fin cfg0.N) (d) :
    (dats m 0 c).kept w t d = (dats m 0 c).after w t := by
  unfold Dat.kept
  rw [Pipeline.fill_of_clip_none w _ (hc _) d ((dats m 0 c).after w _), Window.fill_cut]

/-- Past a block's first tile the long output's buffer holds what the point before left. -/
theorem before_4 (c : Dev nD) (t : Fin cfg0.N) (h1 : t.val % 43 ≠ 0) (d) :
    (dats m 0 c).before 4 t d = oAt m c (t.val - 1) (Nat.lt_of_le_of_lt (Nat.sub_le _ _) t.isLt) := by
  have h0 : t.val ≠ 0 := fun h => h1 (by rw [h])
  rw [Dat.before_of_pos (dats m 0 c) 4 t h0 rfl d,
    if_neg (fun hf => by have := (flush0_4 ⟨t.val - 1, _⟩).mp hf; dsimp only at this; omega)]
  unfold Dat.left
  rw [idle4 ⟨t.val - 1, _⟩]
  exact (kept_eq m c 4 (fun _ _ => rfl) _ d).trans (after_4 m c _)

/-- Past the first point the sample output's buffer holds what the point before left. -/
theorem before_5 (c : Dev nD) : ∀ (n : ℕ) (h : n < cfg0.N) (h0 : n ≠ 0) (d),
    (dats m 0 c).before 5 ⟨n, h⟩ d = osAt m c (n - 1) (Nat.lt_of_le_of_lt (Nat.sub_le _ _) h) := by
  intro n
  induction n with
  | zero => intro h h0; exact absurd rfl h0
  | succ k ih =>
    intro h h0 d
    have hN : k + 1 < 344 := Nat.lt_of_lt_of_eq h N_0
    rw [Dat.before_of_pos (dats m 0 c) 5 ⟨k + 1, h⟩ h0 rfl d,
      if_neg (fun hf => by have := (flush0_5 ⟨k + 1 - 1, _⟩).mp hf; dsimp only at this; omega)]
    unfold Dat.left
    show (match cfg0.idle 5 (grid0.coords ⟨k, _⟩) with
      | true => (dats m 0 c).before 5 ⟨k, _⟩ d
      | false => (dats m 0 c).kept 5 ⟨k, _⟩ d) = osAt m c k _
    by_cases hk : k < 43
    · rw [idle5_lt ⟨k, _⟩ hk]
      exact (kept_eq m c 5 (fun _ _ => rfl) _ d).trans (after_5 m c _)
    · rw [idle5_ge ⟨k, _⟩ (Nat.le_of_not_lt hk)]
      exact (ih (Nat.lt_of_succ_lt h) (by omega) d).trans (osAt_D m c ⟨k, Nat.lt_of_succ_lt h⟩ hk).symm

/-- What the long output's buffer is handed back as. -/
theorem leaves_4 (c : Dev nD) (t : Fin cfg0.N) : (dats m 0 c).leavesExact 4 t = owns (c : Thread nD τ) (st0_4 t) fullShare (oAt m c t.val t.isLt) := by
  unfold Dat.leavesExact; rw [show cfg0.idle 4 (cfg0.grid.coords t) = false from idle4 t, after_4]

/-- What the sample output's buffer is handed back as, in the first block. -/
theorem leaves_5_lt (c : Dev nD) (t : Fin cfg0.N) (h : t.val < 43) : (dats m 0 c).leavesExact 5 t = owns (c : Thread nD τ) (st0_5 t) fullShare (osAt m c t.val t.isLt) := by
  unfold Dat.leavesExact; rw [show cfg0.idle 5 (cfg0.grid.coords t) = false from idle5_lt t h, after_5]

/-- In a later block it is handed back as it was found. -/
theorem leaves_5_ge (c : Dev nD) (t : Fin cfg0.N) (h : ¬ t.val < 43) :
    (∃ d, owns (c : Thread nD τ) (st0_5 t) fullShare ((dats m 0 c).before 5 t d)) ⊢ (dats m 0 c).leavesExact 5 t := by
  have hi : cfg0.idle 5 (cfg0.grid.coords t) = true := idle5_ge t (Nat.le_of_not_lt h)
  cases hf : (cfg0.win 5).flush t with
  | false => rw [Dat.leavesExact_idle _ 5 t hi hf]
  | true =>
    have e : (dats m 0 c).leavesExact 5 t = owns (c : Thread nD τ) (st0_5 t) fullShare (osAt m c t.val t.isLt) := by
      unfold Dat.leavesExact; rw [hi, hf, after_5]
    rw [e, osAt_D m c t h]
    iintro ⟨%d, H⟩
    rw [before_5 m c t.val t.isLt (by omega) d]
    iexact H

end Cert.Ffn

end
-- ==== Proof.Ffn.Run.lean ====
/-
  The feed-forward kernel's launch, second part: the body's triple at every point, the run of the whole program, and the
  frame.
-/
module

public import proofs.«01_k».proof.Proof.Ffn.Setup
public import Idealize.ShloMosaic.Lib.Claim

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄D" => MT nD τ sig Unit (Elt F) ℕ (Pipeline.UD sig nD τ) ℕ

variable (m : (ℓ : Loc nD τ sig) → Buf (Elt F) ℓ) (ρ : Dev nD → PrngReg)

/-- What the body is called with at point `t`. -/
def bodyPre (c : Dev nD) (t : Fin cfg0.N) : sProp 𝕄D :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄D :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The buffer of normalised rows depends on the point's block only. -/
theorem nAt_prev (c : Dev nD) (n : ℕ) (h : n % 43 ≠ 0) : nAt m c (n - 1) = nAt m c n := by
  unfold nAt; rw [show (n - 1) / 43 = n / 43 by omega]

/-- Its last rows are the sample rows' whatever the block. -/
theorem nAt_bot (c : Dev nD) (n : ℕ) (t : Fin cfg0.N) (y : S1056x4096.Idx) (h : 1024 ≤ (y 0).val) : nAt m c n y = nBot (xsA m c) (gB m c t) y :=
  if_neg (Nat.not_lt.mpr h)

/-- The block of normalised rows at a point, by the point's first coordinate. -/
theorem nAt_eq (c : Dev nD) (t : Fin cfg0.N) : nAll (xblk (xA m c) (grid0.coords t 0).val) (xsA m c) (gB m c t) = nAt m c t.val := by
  rw [coord0]; rfl

set_option maxHeartbeats 4000000 in
/-- The body at the first point. -/
theorem sound_A (c : Dev nD) (t : Fin cfg0.N) (h2 : t.val = 0) : bodyPre m c t ⊢ wp frame (wpE (defs₀ (F := F)) Variants.none (c : Thread nD τ) none) Set.univ (bodyAt0 t) (fun _ => bodyPost m c t) := by
  have h1 : t.val % 43 = 0 := by omega
  have h3 : t.val < 43 := by omega
  have h4 : ¬ 43 ≤ t.val := by omega
  unfold bodyPre bodyPost bodyAt0
  simp only [before_0, before_1, before_2, before_3]
  rw [show (dats m 0 c).Φ t.succ = iprop(owns (c : Thread nD τ) nM fullShare (nAt m c t.val) ∗ (∃ r, prngReg c r)
          ∗ iprop(semVal ((c : Thread nD τ), SemLoc.dma 9) 0 ∗ semVal ((c : Thread nD τ), SemLoc.dma 10) 0)
          ∗ iprop(hbPt c hbM0 (V m c main_arg0) ∗ hbPt c hbM1 (V m c main_arg1))) from rfl]
  rw [PhiS_castSucc m c t]
  unfold Dat.owesAt Pipeline.owesWithin
  rw [show (dats m 0 c).owed t.castSucc = 0 from rfl, show (dats m 0 c).owed t.succ = 0 from rfl]
  rw [leaves_0, leaves_1, leaves_2, leaves_3, leaves_4]
  rw [leaves_5_lt m c t h3, PhiS_zero m c _ _ h2, PhiD0_eq, oAt_A m c t h2, osAt_A m c t h2, ← nAt_eq m c t, ← coord0 t]
  iintro ⟨⟨HS, Hg, ⟨Hq, Hq'⟩, ⟨Hh, Hh'⟩⟩, ⟨%W, -, HW⟩, ⟨%d0, H0⟩, ⟨%d1, H1⟩, ⟨%d2, H2⟩, ⟨%d3, H3⟩, ⟨%d4, H4⟩, ⟨%d5, H5⟩⟩
  iapply (runA _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) (gB m c t) (w1B m c t) (w3B m c t) (w2B m c t) c (grid0.coords t) ((cond1_iff t).mpr h1) ((cond2_iff t).mpr h2) ((cond3_iff t).mpr h3) (fun h => h4 ((cond4_iff t).mp h)) (V m c main_arg0) (V m c main_arg1) W _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  isplitl [Hq]; · iexact Hq
  isplitl [Hq']; · iexact Hq'
  isplitl [Hh]; · iexact Hh
  isplitl [Hh']; · iexact Hh'
  isplitl [HW]; · iexact HW
  iintro ⟨H0, H1, H2, H3, H4, H5, HS, Hq, Hq', Hh, Hh', ⟨%W', HW⟩⟩
  isplitl [HS Hg Hq Hq' Hh Hh']
  · isplitl [HS]; · iexact HS
    isplitl [Hg]; · iexact Hg
    isplitl [Hq Hq']
    · isplitl [Hq]; · iexact Hq
      iexact Hq'
    isplitl [Hh]; · iexact Hh
    iexact Hh'
  isplitl [HW]
  · iexists W'
    isplitr
    · ipureintro; exact fun _ _ => Or.inl trivial
    iexact HW
  isplitl [H0]; · iexact H0
  isplitl [H1]; · iexact H1
  isplitl [H2]; · iexact H2
  isplitl [H3]; · iexact H3
  isplitl [H4]; · iexact H4
  iexact H5

set_option maxHeartbeats 4000000 in
/-- The body at the first tile of a later block. -/
theorem sound_B (c : Dev nD) (t : Fin cfg0.N) (h2 : ¬ t.val = 0) (h1 : t.val % 43 = 0) : bodyPre m c t ⊢ wp frame (wpE (defs₀ (F := F)) Variants.none (c : Thread nD τ) none) Set.univ (bodyAt0 t) (fun _ => bodyPost m c t) := by
  have h3 : ¬ t.val < 43 := by omega
  have h4 : 43 ≤ t.val := by omega
  unfold bodyPre bodyPost bodyAt0
  simp only [before_0, before_1, before_2, before_3]
  rw [show (dats m 0 c).Φ t.succ = iprop(owns (c : Thread nD τ) nM fullShare (nAt m c t.val) ∗ (∃ r, prngReg c r)
          ∗ iprop(semVal ((c : Thread nD τ), SemLoc.dma 9) 0 ∗ semVal ((c : Thread nD τ), SemLoc.dma 10) 0)
          ∗ iprop(hbPt c hbM0 (V m c main_arg0) ∗ hbPt c hbM1 (V m c main_arg1))) from rfl]
  rw [PhiS_castSucc m c t]
  unfold Dat.owesAt Pipeline.owesWithin
  rw [show (dats m 0 c).owed t.castSucc = 0 from rfl, show (dats m 0 c).owed t.succ = 0 from rfl]
  rw [leaves_0, leaves_1, leaves_2, leaves_3, leaves_4]
  rw [PhiS_pos m c _ _ h2, oAt_B m c t h2 h1, ← nAt_eq m c t, ← coord0 t]
  iintro ⟨⟨HS, Hg, ⟨Hq, Hq'⟩, ⟨Hh, Hh'⟩⟩, ⟨%W, -, HW⟩, ⟨%d0, H0⟩, ⟨%d1, H1⟩, ⟨%d2, H2⟩, ⟨%d3, H3⟩, ⟨%d4, H4⟩, H5⟩
  iapply (runB _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) (gB m c t) (w1B m c t) (w3B m c t) (w2B m c t) c (grid0.coords t) ((cond1_iff t).mpr h1) (fun h => h2 ((cond2_iff t).mp h)) (fun h => h3 ((cond3_iff t).mp h)) ((cond4_iff t).mpr h4) (nAt m c (t.val - 1)) (xsA m c) (nAt_bot m c (t.val - 1) t) (V m c main_arg0) W _)
  isplitl [H0]; · iexact H0
  isplitl [H1]; · iexact H1
  isplitl [H2]; · iexact H2
  isplitl [H3]; · iexact H3
  isplitl [H4]; · iexists _; iexact H4
  isplitl [HS]; · iexact HS
  isplitl [Hq]; · iexact Hq
  isplitl [Hh]; · iexact Hh
  isplitl [HW]; · iexact HW
  iintro ⟨H0, H1, H2, H3, H4, HS, Hq, Hh, ⟨%W', HW⟩⟩
  isplitl [HS Hg Hq Hq' Hh Hh']
  · isplitl [HS]; · iexact HS
    isplitl [Hg]; · iexact Hg
    isplitl [Hq Hq']
    · isplitl [Hq]; · iexact Hq
      iexact Hq'
    isplitl [Hh]; · iexact Hh
    iexact Hh'
  isplitl [HW]
  · iexists W'
    isplitr
    · ipureintro; exact fun _ _ => Or.inl trivial
    iexact HW
  isplitl [H0]; · iexact H0
  isplitl [H1]; · iexact H1
  isplitl [H2]; · iexact H2
  isplitl [H3]; · iexact H3
  isplitl [H4]; · iexact H4
  iapply (leaves_5_ge m c t h3)
  iexact H5

set_option maxHeartbeats 4000000 in
/-- The body at a later tile of the first block. -/
theorem sound_C (c : Dev nD) (t : Fin cfg0.N) (h1 : ¬ t.val % 43 = 0) (h3 : t.val < 43) : bodyPre m c t ⊢ wp frame (wpE (defs₀ (F := F)) Variants.none (c : Thread nD τ) none) Set.univ (bodyAt0 t) (fun _ => bodyPost m c t) := by
  have h2 : ¬ t.val = 0 := by omega
  have h4 : ¬ 43 ≤ t.val := by omega
  unfold bodyPre bodyPost bodyAt0
  simp only [before_0, before_1, before_2, before_3]
  rw [show (dats m 0 c).Φ t.succ = iprop(owns (c : Thread nD τ) nM fullShare (nAt m c t.val) ∗ (∃ r, prngReg c r)
          ∗ iprop(semVal ((c : Thread nD τ), SemLoc.dma 9) 0 ∗ semVal ((c : Thread nD τ), SemLoc.dma 10) 0)
          ∗ iprop(hbPt c hbM0 (V m c main_arg0) ∗ hbPt c hbM1 (V m c main_arg1))) from rfl]
  rw [PhiS_castSucc m c t]
  unfold Dat.owesAt Pipeline.owesWithin
  rw [show (dats m 0 c).owed t.castSucc = 0 from rfl, show (dats m 0 c).owed t.succ = 0 from rfl]
  rw [leaves_0, leaves_1, leaves_2, leaves_3, leaves_4]
  simp only [before_4 m c t h1, before_5 m c t.val t.isLt h2]
  rw [leaves_5_lt m c t h3, PhiS_pos m c _ _ h2, oAt_C m c t h1 h3, osAt_C m c t h2 h3, nAt_prev m c t.val h1]
  iintro ⟨⟨HS, Hg, ⟨Hq, Hq'⟩, ⟨Hh, Hh'⟩⟩, ⟨%W, -, HW⟩, ⟨%d0, H0⟩, ⟨%d1, H1⟩, ⟨%d2, H2⟩, ⟨%d3, H3⟩, ⟨%d4, H4⟩, ⟨%d5, H5⟩⟩
  iapply (runC _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) (gB m c t) (w1B m c t) (w3B m c t) (w2B m c t) c (grid0.coords t) (fun h => h1 ((cond1_iff t).mp h)) (fun h => h2 ((cond2_iff t).mp h)) ((cond3_iff t).mpr h3) (fun h => h4 ((cond4_iff t).mp h)) (nAt m c t.val) (oAt m c (t.val - 1) (Nat.lt_of_le_of_lt (Nat.sub_le _ _) t.isLt)) (osAt m c (t.val - 1) (Nat.lt_of_le_of_lt (Nat.sub_le _ _) t.isLt)) _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg Hq Hq' Hh Hh']
  · isplitl [HS]; · iexact HS
    isplitl [Hg]; · iexact Hg
    isplitl [Hq Hq']
    · isplitl [Hq]; · iexact Hq
      iexact Hq'
    isplitl [Hh]; · iexact Hh
    iexact Hh'
  isplitl [HW]
  · iexists W
    isplitr
    · ipureintro; exact fun _ _ => Or.inl trivial
    iexact HW
  isplitl [H0]; · iexact H0
  isplitl [H1]; · iexact H1
  isplitl [H2]; · iexact H2
  isplitl [H3]; · iexact H3
  isplitl [H4]; · iexact H4
  iexact H5

set_option maxHeartbeats 4000000 in
/-- The body at a later tile of a later block. -/
theorem sound_D (c : Dev nD) (t : Fin cfg0.N) (h1 : ¬ t.val % 43 = 0) (h3 : ¬ t.val < 43) : bodyPre m c t ⊢ wp frame (wpE (defs₀ (F := F)) Variants.none (c : Thread nD τ) none) Set.univ (bodyAt0 t) (fun _ => bodyPost m c t) := by
  have h2 : ¬ t.val = 0 := by omega
  have h4 : 43 ≤ t.val := by omega
  unfold bodyPre bodyPost bodyAt0
  simp only [before_0, before_1, before_2, before_3]
  rw [show (dats m 0 c).Φ t.succ = iprop(owns (c : Thread nD τ) nM fullShare (nAt m c t.val) ∗ (∃ r, prngReg c r)
          ∗ iprop(semVal ((c : Thread nD τ), SemLoc.dma 9) 0 ∗ semVal ((c : Thread nD τ), SemLoc.dma 10) 0)
          ∗ iprop(hbPt c hbM0 (V m c main_arg0) ∗ hbPt c hbM1 (V m c main_arg1))) from rfl]
  rw [PhiS_castSucc m c t]
  unfold Dat.owesAt Pipeline.owesWithin
  rw [show (dats m 0 c).owed t.castSucc = 0 from rfl, show (dats m 0 c).owed t.succ = 0 from rfl]
  rw [leaves_0, leaves_1, leaves_2, leaves_3, leaves_4]
  simp only [before_4 m c t h1]
  rw [PhiS_pos m c _ _ h2, oAt_D m c t h1 h3, nAt_prev m c t.val h1]
  iintro ⟨⟨HS, Hg, ⟨Hq, Hq'⟩, ⟨Hh, Hh'⟩⟩, ⟨%W, -, HW⟩, ⟨%d0, H0⟩, ⟨%d1, H1⟩, ⟨%d2, H2⟩, ⟨%d3, H3⟩, ⟨%d4, H4⟩, H5⟩
  iapply (runD _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) (gB m c t) (w1B m c t) (w3B m c t) (w2B m c t) c (grid0.coords t) (fun h => h1 ((cond1_iff t).mp h)) (fun h => h2 ((cond2_iff t).mp h)) (fun h => h3 ((cond3_iff t).mp h)) ((cond4_iff t).mpr h4) (nAt m c t.val) (oAt m c (t.val - 1) (Nat.lt_of_le_of_lt (Nat.sub_le _ _) t.isLt)) _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg Hq Hq' Hh Hh']
  · isplitl [HS]; · iexact HS
    isplitl [Hg]; · iexact Hg
    isplitl [Hq Hq']
    · isplitl [Hq]; · iexact Hq
      iexact Hq'
    isplitl [Hh]; · iexact Hh
    iexact Hh'
  isplitl [HW]
  · iexists W
    isplitr
    · ipureintro; exact fun _ _ => Or.inl trivial
    iexact HW
  isplitl [H0]; · iexact H0
  isplitl [H1]; · iexact H1
  isplitl [H2]; · iexact H2
  isplitl [H3]; · iexact H3
  isplitl [H4]; · iexact H4
  iapply (leaves_5_ge m c t h3)
  iexact H5

/-- The body at any point, by its case. -/
theorem sound_body (c : Dev nD) (t : Fin cfg0.N) : bodyPre m c t ⊢ wp frame (wpE (defs₀ (F := F)) Variants.none (c : Thread nD τ) none) Set.univ (bodyAt0 t) (fun _ => bodyPost m c t) := by
  by_cases h2 : t.val = 0
  · exact sound_A m c t h2
  · by_cases h1 : t.val % 43 = 0
    · exact sound_B m c t h2 h1
    · by_cases h3 : t.val < 43
      · exact sound_C m c t h1 h3
      · exact sound_D m c t h1 h3

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back. -/
theorem hout (c : Dev nD) : (dats m 0 c).Φ (Fin.last cfg0.N) ⊢ Pipeline.ΦD osem0 spec0 H0 (V m) c := by
  have hl : (Fin.last cfg0.N).val ≠ 0 := by rw [Fin.val_last, show cfg0.N = 344 from N_0]; decide
  rw [show (dats m 0 c).Φ (Fin.last cfg0.N) = PhiS m c (Fin.last cfg0.N).val (Nat.le_of_lt_succ (Fin.last cfg0.N).isLt) from rfl, PhiD0_eq,
    PhiS_pos m c _ _ hl]
  iintro ⟨HS, Hr⟩
  isplitl [HS]
  · iexists _; iexact HS
  iexact Hr

/-- The program up to its one region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run of the program ends with each array at what the proof data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every run ends with the arguments unchanged and every counter at zero. -/
theorem frame_ffn : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 1).trans (((dats m 0 c).arrAt_in 1 rfl _).trans ((A_eq m c 1).trans (V_main_arg3 m c))),
      ((h.1 c).1 2).trans (((dats m 0 c).arrAt_in 2 rfl _).trans ((A_eq m c 2).trans (V_main_arg4 m c))),
      ((h.1 c).1 3).trans (((dats m 0 c).arrAt_in 3 rfl _).trans ((A_eq m c 3).trans (V_main_arg5 m c)))⟩, h.2⟩) (run_quiet m ρ)

end Cert.Ffn

end
-- ==== Proof.Ffn.Spec.lean ====
/-
  The feed-forward half step over the extended reals, element by element: a row is normalised, passed through the gated
  hidden layer, and half of the result is added to it. Both programs are shown to compute this.
-/
module

public import Idealize.ShloMosaic.PureOps.Ideal
public import Idealize.ShloMosaic.Lib.Pointwise
public import Idealize.ShloMosaic.Lib.Pointwise.Index

@[expose] public section

noncomputable section

namespace Cert.Ffn

open Idealize Idealize.ShloMosaic
open scoped BigOperators

/-- One half, as both programs write it. -/
def half : EReal := Ideal.ofBits FTy.f32 1056964608#32

/-- It is the real number one half. -/
theorem half_eq : half = ((1 / 2 : ℝ) : EReal) := by
  unfold half
  simp [Ideal.ofBits, Ideal.ieee, -EReal.coe_mul]; norm_num

/-- A row divided by its root mean square and scaled by the gain. -/
def nS (r g : Fin 4096 → EReal) (d : Fin 4096) : EReal :=
  r d * Ideal.rsqrt (Ideal.div (∑ x, r x * r x) (Ideal.ofBits FTy.f32 1166016512#32) + Ideal.ofBits FTy.f32 897988541#32) * g d

/-- The gated hidden unit `k` of a normalised row: one product, times its logistic, times the other product. -/
def hS (n : Fin 4096 → EReal) (W1 W3 : ℕ → Fin 4096 → EReal) (k : ℕ) : EReal :=
  (∑ x, n x * W1 k x) * Ideal.div 1 (1 + Ideal.exp (0 - ∑ x, n x * W1 k x)) * ∑ x, n x * W3 k x

/-- The half step of a row at column `e`. -/
def ffnS (r g : Fin 4096 → EReal) (W1 W3 W2 : ℕ → Fin 4096 → EReal) (e : Fin 4096) : EReal :=
  r e + half * ∑ k : Fin 11008, hS (nS r g) W1 W3 k * W2 k e

/-- The row with the first `n` hidden units added, each halved on its own. -/
def accS (r g : Fin 4096 → EReal) (W1 W3 W2 : ℕ → Fin 4096 → EReal) (n : ℕ) (e : Fin 4096) : EReal :=
  r e + ∑ k ∈ Finset.range n, hS (nS r g) W1 W3 k * half * W2 k e

/-- Halving a sum is halving each term. -/
theorem half_sum {ι : Type} (s : Finset ι) (f : ι → EReal) : half * ∑ k ∈ s, f k = ∑ k ∈ s, half * f k := by
  classical
  induction s using Finset.induction_on with
  | empty => simp
  | insert a s ha ih =>
    rw [Finset.sum_insert ha, Finset.sum_insert ha, ← ih]
    refine EReal.left_distrib_of_nonneg_of_ne_top ?_ ?_ _ _
    · rw [half_eq]; exact_mod_cast (by norm_num : (0 : ℝ) ≤ 1 / 2)
    · rw [half_eq]; exact EReal.coe_ne_top _

/-- With no hidden unit added it is the row. -/
theorem accS_zero (r g : Fin 4096 → EReal) (W1 W3 W2 : ℕ → Fin 4096 → EReal) (e : Fin 4096) : accS r g W1 W3 W2 0 e = r e := by
  unfold accS; rw [Finset.range_zero, Finset.sum_empty, add_zero]

/-- Another tile of 256 hidden units. -/
theorem accS_tile (r g : Fin 4096 → EReal) (W1 W3 W2 : ℕ → Fin 4096 → EReal) (f : ℕ) (e : Fin 4096) :
    accS r g W1 W3 W2 (256 * f) e + ∑ k : Fin 256, hS (nS r g) W1 W3 (256 * f + k) * half * W2 (256 * f + k) e
      = accS r g W1 W3 W2 (256 * (f + 1)) e := by
  unfold accS
  rw [Nat.mul_succ, Finset.sum_range_add, add_assoc, Fin.sum_univ_eq_sum_range (fun k => hS (nS r g) W1 W3 (256 * f + k) * half * W2 (256 * f + k) e) 256]

/-- With all 11008 it is the half step. -/
theorem accS_all (r g : Fin 4096 → EReal) (W1 W3 W2 : ℕ → Fin 4096 → EReal) (e : Fin 4096) :
    accS r g W1 W3 W2 11008 e = ffnS r g W1 W3 W2 e := by
  unfold accS ffnS
  rw [half_sum, Fin.sum_univ_eq_sum_range (fun k => half * (hS (nS r g) W1 W3 k * W2 k e)) 11008]
  refine congrArg _ (Finset.sum_congr rfl fun k _ => ?_)
  rw [mul_comm (hS _ _ _ _) half, mul_assoc]

/-- The second of the two layers' first-stage weights: unit `k`'s weight of column `d`. -/
def w13 (w : (⟨4, ![1, 2, 4096, 11008]⟩ : Shape).Idx → EReal) (k : ℕ) (d : Fin 4096) : EReal :=
  w (ix4 0 1 d ⟨k % 11008, Nat.mod_lt _ (by decide)⟩)

/-- The second of the two layers' last-stage weights: unit `k`'s weight towards column `e`. -/
def w24 (w : (⟨4, ![1, 2, 11008, 4096]⟩ : Shape).Idx → EReal) (k : ℕ) (e : Fin 4096) : EReal :=
  w (ix4 0 1 ⟨k % 11008, Nat.mod_lt _ (by decide)⟩ e)

/-- At a unit in range it is the array's element. -/
theorem w13_eq (w : (⟨4, ![1, 2, 4096, 11008]⟩ : Shape).Idx → EReal) (k : ℕ) (hk : k < 11008) (d : Fin 4096) :
    w (ix4 0 1 d ⟨k, hk⟩) = w13 w k d := by
  unfold w13
  congr 2; exact Fin.ext (Nat.mod_eq_of_lt hk).symm

/-- At a unit in range it is the array's element. -/
theorem w24_eq (w : (⟨4, ![1, 2, 11008, 4096]⟩ : Shape).Idx → EReal) (k : ℕ) (hk : k < 11008) (e : Fin 4096) :
    w (ix4 0 1 ⟨k, hk⟩ e) = w24 w k e := by
  unfold w24
  congr 2; exact Fin.ext (Nat.mod_eq_of_lt hk).symm

/-- Row `i` of the long input. -/
def rowX (x : (⟨2, ![8192, 4096]⟩ : Shape).Idx → EReal) (i : ℕ) (d : Fin 4096) : EReal := x (ix2 ⟨i % 8192, Nat.mod_lt _ (by decide)⟩ d)
/-- Row `i` of the sample rows. -/
def rowS (x : (⟨2, ![32, 4096]⟩ : Shape).Idx → EReal) (i : ℕ) (d : Fin 4096) : EReal := x (ix2 ⟨i % 32, Nat.mod_lt _ (by decide)⟩ d)
/-- The gain. -/
def gainOf (x : (⟨1, ![4096]⟩ : Shape).Idx → EReal) (d : Fin 4096) : EReal := x (ix1 d)

/-- At a row in range it is the array's element. -/
theorem rowX_eq (x : (⟨2, ![8192, 4096]⟩ : Shape).Idx → EReal) (i : ℕ) (hi : i < 8192) (d : Fin 4096) : x (ix2 ⟨i, hi⟩ d) = rowX x i d := by
  unfold rowX
  congr 2; exact Fin.ext (Nat.mod_eq_of_lt hi).symm
/-- At a row in range it is the array's element. -/
theorem rowS_eq (x : (⟨2, ![32, 4096]⟩ : Shape).Idx → EReal) (i : ℕ) (hi : i < 32) (d : Fin 4096) : x (ix2 ⟨i, hi⟩ d) = rowS x i d := by
  unfold rowS
  congr 2; exact Fin.ext (Nat.mod_eq_of_lt hi).symm

end Cert.Ffn

end
-- ==== Proof.Ffn.KernelValue.lean ====
/-
  What the feed-forward kernel leaves in its two results, element by element.
-/
module

public import proofs.«01_k».proof.Proof.Ffn.Run
public import proofs.«01_k».proof.Proof.Ffn.Spec
public import Idealize.ShloMosaic.Lib.StableHlo.RunClose
public import Idealize.ShloMosaic.Lib.Pipeline.ValueKit

@[expose] public section

set_option maxRecDepth 65536
set_option maxHeartbeats 4000000

noncomputable section

namespace Cert.Ffn

open Idealize Idealize.ShloMosaic Idealize.ShloMosaic.TcCoe Idealize.ShloMosaic.StableHlo Idealize.ShloMosaic.Tactic
open Cert.Kernel2Ideal Cert.Kernel2Ideal.Gen
open scoped BigOperators

/-! The bodies' formulas at an element. -/

/-- A chunk of normalised rows. -/
theorem pay1_apply (x : Vec Ideal S64x4096 .f32) (g : Vec Ideal S1x4096 .f32) (i : Fin 64) (d : Fin 4096) :
    k0_pay1 x g (ix2 i d) = nS (fun e => x (ix2 i e)) (fun e => g (ix2 0 e)) d := by
  unfold k0_pay1
  pointwise
  rfl

/-- The normalised sample rows. -/
theorem pay2_apply (x : Vec Ideal S32x4096 .f32) (g : Vec Ideal S1x4096 .f32) (i : Fin 32) (d : Fin 4096) :
    k0_pay2 x g (ix2 i d) = nS (fun e => x (ix2 i e)) (fun e => g (ix2 0 e)) d := by
  unfold k0_pay2
  pointwise
  rfl

/-- A hidden unit of a tile, halved. -/
theorem pay5_apply (n : Vec Ideal S1056x4096 .bf16) (w1 w3 : Vec Ideal S1x1x4096x256 .f32) (i : Fin 1056) (d : Fin 256) :
    k0_pay5 n w1 w3 (ix2 i d) = (∑ x, n (ix2 i x) * w1 (ix4 0 0 x d)) * Ideal.div 1 (1 + Ideal.exp (0 - ∑ x, n (ix2 i x) * w1 (ix4 0 0 x d)))
      * (∑ x, n (ix2 i x) * w3 (ix4 0 0 x d)) * half := by
  unfold k0_pay5
  pointwise
  rfl

/-- The output rows with a tile added, where the sample rows are worked too. -/
theorem pay6_apply (n : Vec Ideal S1056x4096 .bf16) (w1 w3 : Vec Ideal S1x1x4096x256 .f32) (o : Vec Ideal S1024x4096 .f32) (w2 : Vec Ideal S1x1x256x4096 .f32)
    (i : Fin 1024) (d : Fin 4096) :
    k0_pay6 n w1 w3 o w2 (ix2 i d) = o (ix2 i d) + ∑ x : Fin 256, k0_pay5 n w1 w3 (ix2 ⟨i.val, by have := i.isLt; omega⟩ x) * w2 (ix4 0 0 x d) := by
  unfold k0_pay6
  pointwise
  try rfl

/-- The output rows with a tile added, where they are worked alone. -/
theorem pay4_apply (o : Vec Ideal S1024x4096 .f32) (n : Vec Ideal S1024x4096 .bf16) (w1 w3 : Vec Ideal S1x1x4096x256 .f32) (w2 : Vec Ideal S1x1x256x4096 .f32)
    (i : Fin 1024) (d : Fin 4096) :
    k0_pay4 o n w1 w3 w2 (ix2 i d) = o (ix2 i d) + ∑ k : Fin 256, (∑ x, n (ix2 i x) * w1 (ix4 0 0 x k)) * Ideal.div 1 (1 + Ideal.exp (0 - ∑ x, n (ix2 i x) * w1 (ix4 0 0 x k)))
      * (∑ x, n (ix2 i x) * w3 (ix4 0 0 x k)) * half * w2 (ix4 0 0 k d) := by
  unfold k0_pay4
  pointwise
  rfl

/-- The sample rows with a tile added. -/
theorem pay3_apply (h : Vec Ideal S1056x256 .bf16) (o : Vec Ideal S32x4096 .f32) (w2 : Vec Ideal S1x1x256x4096 .f32) (i : Fin 32) (d : Fin 4096) :
    k0_pay3 h o w2 (ix2 i d) = o (ix2 i d) + ∑ x : Fin 256, h (ix2 ⟨1024 + i.val, by have := i.isLt; omega⟩ x) * w2 (ix4 0 0 x d) := by
  unfold k0_pay3
  pointwise
  try rfl

/-- The sample rows as they were. -/
theorem pay7_apply (o : Vec Ideal S32x4096 .f32) (i : Fin 32) (d : Fin 4096) : k0_pay7 o (ix2 i d) = o (ix2 i d) := by
  unfold k0_pay7
  pointwise
  try rfl

/-! The same steps on running sums. -/

section Steps

variable {r g : Fin 4096 → EReal} {W1 W3 W2 : ℕ → Fin 4096 → EReal} {f : ℕ} {e : Fin 4096}
variable {w1 w3 : Vec Ideal S1x1x4096x256 .f32} {w2 : Vec Ideal S1x1x256x4096 .f32}

/-- A tile with the sample rows, on an output row. -/
theorem pay6_step {n : Vec Ideal S1056x4096 .bf16} {o : Vec Ideal S1024x4096 .f32} {i : Fin 1024}
    (hn : ∀ d, n (ix2 ⟨i.val, by have := i.isLt; omega⟩ d) = nS r g d)
    (h1 : ∀ (x : Fin 4096) (k : Fin 256), w1 (ix4 0 0 x k) = W1 (256 * f + k) x)
    (h3 : ∀ (x : Fin 4096) (k : Fin 256), w3 (ix4 0 0 x k) = W3 (256 * f + k) x)
    (h2 : ∀ (k : Fin 256) (x : Fin 4096), w2 (ix4 0 0 k x) = W2 (256 * f + k) x)
    (ho : o (ix2 i e) = accS r g W1 W3 W2 (256 * f) e) :
    k0_pay6 n w1 w3 o w2 (ix2 i e) = accS r g W1 W3 W2 (256 * (f + 1)) e := by
  rw [pay6_apply, ho, ← accS_tile]
  simp only [pay5_apply, hn, h1, h3, h2, hS]

/-- A tile without the sample rows, on an output row. -/
theorem pay4_step {n : Vec Ideal S1024x4096 .bf16} {o : Vec Ideal S1024x4096 .f32} {i : Fin 1024}
    (hn : ∀ d, n (ix2 i d) = nS r g d)
    (h1 : ∀ (x : Fin 4096) (k : Fin 256), w1 (ix4 0 0 x k) = W1 (256 * f + k) x)
    (h3 : ∀ (x : Fin 4096) (k : Fin 256), w3 (ix4 0 0 x k) = W3 (256 * f + k) x)
    (h2 : ∀ (k : Fin 256) (x : Fin 4096), w2 (ix4 0 0 k x) = W2 (256 * f + k) x)
    (ho : o (ix2 i e) = accS r g W1 W3 W2 (256 * f) e) :
    k0_pay4 o n w1 w3 w2 (ix2 i e) = accS r g W1 W3 W2 (256 * (f + 1)) e := by
  rw [pay4_apply, ho, ← accS_tile]
  simp only [hn, h1, h3, h2, hS]

/-- A tile on a sample row. -/
theorem pay3_step {n : Vec Ideal S1056x4096 .bf16} {o : Vec Ideal S32x4096 .f32} {i : Fin 32}
    (hn : ∀ d, n (ix2 ⟨1024 + i.val, by have := i.isLt; omega⟩ d) = nS r g d)
    (h1 : ∀ (x : Fin 4096) (k : Fin 256), w1 (ix4 0 0 x k) = W1 (256 * f + k) x)
    (h3 : ∀ (x : Fin 4096) (k : Fin 256), w3 (ix4 0 0 x k) = W3 (256 * f + k) x)
    (h2 : ∀ (k : Fin 256) (x : Fin 4096), w2 (ix4 0 0 k x) = W2 (256 * f + k) x)
    (ho : o (ix2 i e) = accS r g W1 W3 W2 (256 * f) e) :
    k0_pay3 (k0_pay5 n w1 w3) (k0_pay7 o) w2 (ix2 i e) = accS r g W1 W3 W2 (256 * (f + 1)) e := by
  rw [pay3_apply, pay7_apply, ho, ← accS_tile]
  simp only [pay5_apply, hn, h1, h3, h2, hS]

end Steps

/-! The arrays the points work on. -/

variable (m : (ℓ : Loc nD τ sig) → Buf (Elt Ideal) ℓ) (c : Dev nD)

/-- The long input's rows. -/
abbrev XK : ℕ → Fin 4096 → EReal := rowX (m ((c.tc : Thread nD τ).loc main_arg0))
/-- The sample rows. -/
abbrev SK : ℕ → Fin 4096 → EReal := rowS (m ((c.tc : Thread nD τ).loc main_arg1))
/-- The gain. -/
abbrev GK : Fin 4096 → EReal := gainOf (m ((c.tc : Thread nD τ).loc main_arg2))
/-- The gate's weights. -/
abbrev W1K : ℕ → Fin 4096 → EReal := w13 (m ((c.tc : Thread nD τ).loc main_arg3))
/-- The other factor's weights. -/
abbrev W3K : ℕ → Fin 4096 → EReal := w13 (m ((c.tc : Thread nD τ).loc main_arg4))
/-- The last stage's weights. -/
abbrev W2K : ℕ → Fin 4096 → EReal := w24 (m ((c.tc : Thread nD τ).loc main_arg5))

/-- The gain as the kernel's one-row array. -/
theorem V_g (j : Fin 4096) : V m c main_v0 (ix2 0 j) = GK m c j := by
  unfold V
  simp only [hostOps0, List.flatten_cons, List.flatten_nil, List.append_nil, List.cons_append, List.nil_append]
  after_results_simp
  pointwise
  rfl

/-- The block window 0 stages at each point. -/
theorem e0 : ∀ t : Fin cfg0.N, win0_0.index t = ![0, 0] := by decide +kernel
/-- The block window 1 stages at each point. -/
theorem e1 : ∀ t : Fin cfg0.N, win0_1.index t = ![0, 1, 0, t.val % 43] := by decide +kernel
/-- The block window 2 stages at each point. -/
theorem e2 : ∀ t : Fin cfg0.N, win0_2.index t = ![0, 1, 0, t.val % 43] := by decide +kernel
/-- The block window 3 stages at each point. -/
theorem e3 : ∀ t : Fin cfg0.N, win0_3.index t = ![0, 1, t.val % 43, 0] := by decide +kernel
/-- The block window 4 stages at each point. -/
theorem e4 : ∀ t : Fin cfg0.N, win0_4.index t = ![t.val / 43, 0] := by decide +kernel
/-- The block window 5 stages at each point. -/
theorem e5 : ∀ t : Fin cfg0.N, win0_5.index t = ![0, 0] := by decide +kernel

/-- The staged gain. -/
theorem gB_apply (t : Fin cfg0.N) (d : Fin 4096) : gB m c t (ix2 0 d) = GK m c d := by
  have hd := d.isLt
  blk_simp [gB, iblk]
  refine Eq.trans (congrArg _ ?_) (V_g m c d)
  blk_ext [e0]

/-- The staged tile of the gate's weights. -/
theorem w1B_apply (t : Fin cfg0.N) (x : Fin 4096) (k : Fin 256) : w1B m c t (ix4 0 0 x k) = W1K m c (256 * (t.val % 43) + k) x := by
  have hx := x.isLt
  have hk := k.isLt
  blk_simp [w1B, iblk]
  rw [V_main_arg3]
  refine Eq.trans (congrArg _ ?_) (w13_eq _ _ (by omega) _)
  blk_ext [e1]

/-- The staged tile of the other factor's weights. -/
theorem w3B_apply (t : Fin cfg0.N) (x : Fin 4096) (k : Fin 256) : w3B m c t (ix4 0 0 x k) = W3K m c (256 * (t.val % 43) + k) x := by
  have hx := x.isLt
  have hk := k.isLt
  blk_simp [w3B, iblk]
  rw [V_main_arg4]
  refine Eq.trans (congrArg _ ?_) (w13_eq _ _ (by omega) _)
  blk_ext [e2]

/-- The staged tile of the last stage's weights. -/
theorem w2B_apply (t : Fin cfg0.N) (k : Fin 256) (x : Fin 4096) : w2B m c t (ix4 0 0 k x) = W2K m c (256 * (t.val % 43) + k) x := by
  have hx := x.isLt
  have hk := k.isLt
  blk_simp [w2B, iblk]
  rw [V_main_arg5]
  refine Eq.trans (congrArg _ ?_) (w24_eq _ _ (by omega) _)
  blk_ext [e3]

/-- A fetched block of the long input. -/
theorem xblk_apply (b : ℕ) (i : Fin 1024) (d : Fin 4096) : xblk (xA m c) b (ix2 i d) = XK m c (1024 * b + i) d := by
  unfold xblk xA
  rw [V_main_arg0]
  rfl

/-- The fetched sample rows. -/
theorem xsA_apply (i : Fin 32) (d : Fin 4096) : xsA m c (ix2 i d) = SK m c i d := by
  unfold xsA
  rw [V_main_arg1]
  exact rowS_eq _ _ i.isLt d

/-- The normalised rows of a block. -/
theorem nAt_top (n : ℕ) (i : Fin 1024) (d : Fin 4096) :
    nAt m c n (ix2 ⟨i.val, by have := i.isLt; omega⟩ d) = nS (XK m c (1024 * (n / 43) + i)) (GK m c) d := by
  have hi := i.isLt
  unfold nAt nAll
  rw [if_pos (show ((ix2 ⟨i.val, by omega⟩ d : S1056x4096.Idx) 0).val < 1024 from hi)]
  unfold nTop
  refine (pay1_apply _ _ _ _).trans ?_
  have h1 : (fun e => chunk (xblk (xA m c) (n / 43)) (i.val / 64) (ix2 ⟨i.val % 64, Nat.mod_lt _ (by decide)⟩ e)) = XK m c (1024 * (n / 43) + i) := by
    funext e
    unfold chunk
    refine (xblk_apply m c _ _ _).trans ?_
    dsimp only
    show XK m c (1024 * (n / 43) + (64 * (i.val / 64) + i.val % 64) % 1024) _ = _
    rw [show (64 * (i.val / 64) + i.val % 64) % 1024 = i.val by omega]
    rfl
  have h2 : (fun e => gB m c t0 (ix2 0 e)) = GK m c := funext fun e => gB_apply m c t0 e
  refine Eq.trans ?_ (congrFun (congrArg₂ nS h1 h2) d)
  rfl

/-- The normalised sample rows. -/
theorem nAt_low (n : ℕ) (i : Fin 32) (d : Fin 4096) :
    nAt m c n (ix2 ⟨1024 + i.val, by have := i.isLt; omega⟩ d) = nS (SK m c i) (GK m c) d := by
  have hi := i.isLt
  unfold nAt nAll
  rw [if_neg (show ¬ ((ix2 ⟨1024 + i.val, by omega⟩ d : S1056x4096.Idx) 0).val < 1024 from by show ¬ 1024 + i.val < 1024; omega)]
  unfold nBot
  refine (pay2_apply _ _ _ _).trans ?_
  have h1 : (fun e => xsA m c (ix2 ⟨(1024 + i.val - 1024) % 32, Nat.mod_lt _ (by decide)⟩ e)) = SK m c i := by
    funext e
    refine (xsA_apply m c _ _).trans ?_
    dsimp only
    rw [show (1024 + i.val - 1024) % 32 = i.val by omega]
  have h2 : (fun e => gB m c t0 (ix2 0 e)) = GK m c := funext fun e => gB_apply m c t0 e
  refine Eq.trans ?_ (congrFun (congrArg₂ nS h1 h2) d)
  rfl

/-- The output block after each point: the hidden units of the tiles so far have been added. -/
theorem oAt_spec (n : ℕ) (hn : n < cfg0.N) (i : Fin 1024) (e : Fin 4096) :
    oAt m c n hn (ix2 i e) = accS (XK m c (1024 * (n / 43) + i)) (GK m c) (W1K m c) (W3K m c) (W2K m c) (256 * (n % 43 + 1)) e := by
  induction n with
  | zero =>
    refine (congrFun (oAt_A m c ⟨0, hn⟩ rfl) _).trans ?_
    refine pay6_step (nAt_top m c _ i) (w1B_apply m c _) (w3B_apply m c _) (w2B_apply m c _) ?_
    exact (xblk_apply m c _ i e).trans (accS_zero _ _ _ _ _ e).symm
  | succ n ih =>
    by_cases h1 : (n + 1) % 43 = 0
    · refine (congrFun (oAt_B m c ⟨n + 1, hn⟩ (Nat.succ_ne_zero n) h1) _).trans ?_
      refine pay4_step (fun d => nAt_top m c (n + 1) i d) (w1B_apply m c _) (w3B_apply m c _) (w2B_apply m c _) ?_
      refine (xblk_apply m c _ i e).trans ?_
      dsimp only
      rw [h1]
      exact (accS_zero _ _ _ _ _ e).symm
    · have hd : n / 43 = (n + 1) / 43 := by omega
      have hm : n % 43 + 1 = (n + 1) % 43 := by omega
      have ih' := ih (Nat.lt_of_succ_lt hn)
      rw [hd, hm] at ih'
      by_cases h2 : n + 1 < 43
      · refine (congrFun (oAt_C m c ⟨n + 1, hn⟩ h1 h2) _).trans ?_
        exact pay6_step (fun d => nAt_top m c (n + 1) i d) (w1B_apply m c _) (w3B_apply m c _) (w2B_apply m c _) ih'
      · refine (congrFun (oAt_D m c ⟨n + 1, hn⟩ h1 h2) _).trans ?_
        exact pay4_step (fun d => nAt_top m c (n + 1) i d) (w1B_apply m c _) (w3B_apply m c _) (w2B_apply m c _) ih'

/-- The sample rows after each point: they grow over the first 43 points and stay. -/
theorem osAt_spec (n : ℕ) (hn : n < cfg0.N) (i : Fin 32) (e : Fin 4096) :
    osAt m c n hn (ix2 i e) = accS (SK m c i) (GK m c) (W1K m c) (W3K m c) (W2K m c) (256 * (min n 42 + 1)) e := by
  induction n with
  | zero =>
    refine (congrFun (osAt_A m c ⟨0, hn⟩ rfl) _).trans ?_
    refine pay3_step (f := 0) (nAt_low m c _ i) (w1B_apply m c _) (w3B_apply m c _) (w2B_apply m c _) ?_
    exact (xsA_apply m c i e).trans (accS_zero _ _ _ _ _ e).symm
  | succ n ih =>
    have ih' := ih (Nat.lt_of_succ_lt hn)
    by_cases h2 : n + 1 < 43
    · refine (congrFun (osAt_C m c ⟨n + 1, hn⟩ (Nat.succ_ne_zero n) h2) _).trans ?_
      have hm : (n + 1) % 43 = n + 1 := by omega
      rw [show min n 42 + 1 = n + 1 by omega] at ih'
      rw [show min (n + 1) 42 + 1 = n + 1 + 1 by omega]
      refine pay3_step (f := n + 1) (nAt_low m c _ i) (fun x k => (w1B_apply m c _ x k).trans ?_) (fun x k => (w3B_apply m c _ x k).trans ?_)
        (fun k x => (w2B_apply m c _ k x).trans ?_) ih' <;> (dsimp only; rw [hm])
    · refine (congrFun (osAt_D m c ⟨n + 1, hn⟩ h2) _).trans ?_
      rw [show min n 42 + 1 = min (n + 1) 42 + 1 by omega] at ih'
      exact ih'

/-- The long result. -/
theorem final_o : (dats m 0 c).arrAt 4 cfg0.N
    = fun j : S8192x4096.Idx => (ffnS (XK m c (j 0).val) (GK m c) (W1K m c) (W3K m c) (W2K m c) (j 1) : EReal) := by
  refine (dats m 0 c).arrAt_eq_of_covers 4 _ (by decide +kernel) fun t hf y => ?_
  blk_simp
  rw [after_4]
  have ht : t.val < 344 := t.isLt
  have h42 : t.val % 43 = 42 := (flush0_4 t).mp hf
  have h0 : (y 0).val < 1024 := (y 0).isLt
  have h1 : (y 1).val < 4096 := (y 1).isLt
  blk_simp [e4]
  have hy : (win0_4.blk t).view.emb y 1 = (⟨(y 1).val, h1⟩ : Fin 4096) := Fin.ext (by blk_simp [e4])
  rw [hy]
  refine (congrArg (oAt m c t.val t.isLt) (eq_ix2 (n0 := 1024) (n1 := 4096) y)).trans ?_
  refine (oAt_spec m c t.val t.isLt ⟨(y 0).val, h0⟩ ⟨(y 1).val, h1⟩).trans ?_
  rw [h42, accS_all, Nat.mul_comm 1024]
  try rfl

/-- The sample result. -/
theorem final_os : (dats m 0 c).arrAt 5 cfg0.N
    = fun j : S32x4096.Idx => (ffnS (SK m c (j 0).val) (GK m c) (W1K m c) (W3K m c) (W2K m c) (j 1) : EReal) := by
  refine (dats m 0 c).arrAt_eq_of_covers 5 _ (by decide +kernel) fun t hf y => ?_
  blk_simp
  rw [after_5]
  have ht : t.val < 344 := t.isLt
  have h42 : t.val % 344 = 343 := (flush0_5 t).mp hf
  have h0 : (y 0).val < 32 := (y 0).isLt
  have h1 : (y 1).val < 4096 := (y 1).isLt
  blk_simp [e5]
  have hy : (win0_5.blk t).view.emb y 1 = (⟨(y 1).val, h1⟩ : Fin 4096) := Fin.ext (by blk_simp [e5])
  rw [hy]
  refine (congrArg (osAt m c t.val t.isLt) (eq_ix2 (n0 := 32) (n1 := 4096) y)).trans ?_
  refine (osAt_spec m c t.val t.isLt ⟨(y 0).val, h0⟩ ⟨(y 1).val, h1⟩).trans ?_
  rw [show min t.val 42 + 1 = 43 by omega, accS_all]
  try rfl

end Cert.Ffn

end
-- ==== Proof.Ffn.RefValue.lean ====
/-
  What the feed-forward reference computes, element by element.
-/
module

public import proofs.«01_k».proof.Proof.Gen.Reference2Ideal.Run
public import proofs.«01_k».proof.Proof.Ffn.Spec

@[expose] public section

set_option maxRecDepth 65536
set_option maxHeartbeats 4000000

noncomputable section

namespace Cert.Ffn

open Idealize Idealize.ShloMosaic Idealize.ShloMosaic.TcCoe Idealize.ShloMosaic.StableHlo Idealize.SL.Sem
open Cert.Reference2Ideal Cert.Reference2Ideal.Gen
open scoped BigOperators

/-- The half step with the logistic's sign written as a negation. -/
theorem ffnS_neg (r g : Fin 4096 → EReal) (W1 W3 W2 : ℕ → Fin 4096 → EReal) (e : Fin 4096) :
    ffnS r g W1 W3 W2 e = r e + half * ∑ k : Fin 11008, (∑ x, nS r g x * W1 k x) * Ideal.div 1 (1 + Ideal.exp (-∑ x, nS r g x * W1 k x)) * (∑ x, nS r g x * W3 k x) * W2 k e := by
  simp only [ffnS, hS, zero_sub]

/-- The half step of a row that is `r`, written over the arrays. -/
theorem ffnS_at (r' : Fin 4096 → EReal) (r : Fin 4096 → EReal) (g : (⟨1, ![4096]⟩ : Shape).Idx → EReal)
    (w1 w3 : (⟨4, ![1, 2, 4096, 11008]⟩ : Shape).Idx → EReal) (w2 : (⟨4, ![1, 2, 11008, 4096]⟩ : Shape).Idx → EReal)
    (hr : ∀ d, r' d = r d) (e : Fin 4096) :
    ffnS r (gainOf g) (w13 w1) (w13 w3) (w24 w2) e
      = r' e + Ideal.ofBits FTy.f32 1056964608#32 * ∑ k : Fin 11008,
          ((∑ x, r' x * Ideal.rsqrt (Ideal.div (∑ x, r' x * r' x) (Ideal.ofBits FTy.f32 1166016512#32) + Ideal.ofBits FTy.f32 897988541#32) * g (ix1 x) * w1 (ix4 0 1 x k))
            * Ideal.div 1 (1 + Ideal.exp (-∑ x, r' x * Ideal.rsqrt (Ideal.div (∑ x, r' x * r' x) (Ideal.ofBits FTy.f32 1166016512#32) + Ideal.ofBits FTy.f32 897988541#32) * g (ix1 x) * w1 (ix4 0 1 x k)))
            * ∑ x, r' x * Ideal.rsqrt (Ideal.div (∑ x, r' x * r' x) (Ideal.ofBits FTy.f32 1166016512#32) + Ideal.ofBits FTy.f32 897988541#32) * g (ix1 x) * w3 (ix4 0 1 x k))
          * w2 (ix4 0 1 k e) := by
  have h1 : ∀ (k : Fin 11008) (x : Fin 4096), w1 (ix4 0 1 x k) = w13 w1 k x := fun k x => w13_eq w1 k k.isLt x
  have h3 : ∀ (k : Fin 11008) (x : Fin 4096), w3 (ix4 0 1 x k) = w13 w3 k x := fun k x => w13_eq w3 k k.isLt x
  have h2 : ∀ (k : Fin 11008) (x : Fin 4096), w2 (ix4 0 1 k x) = w24 w2 k x := fun k x => w24_eq w2 k k.isLt x
  simp only [h1, h2, h3, hr]
  rw [ffnS_neg]
  rfl

set_option maxHeartbeats 28800000 in
/-- Every run of the reference ends with the half step of each row of both inputs, its arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26) = (fun j : S8192x4096.Idx => (ffnS (rowX (m ((c.tc : Thread nD τ).loc main_arg0)) (j 0).val) (gainOf (m ((c.tc : Thread nD τ).loc main_arg2)))
          (w13 (m ((c.tc : Thread nD τ).loc main_arg3))) (w13 (m ((c.tc : Thread nD τ).loc main_arg4))) (w24 (m ((c.tc : Thread nD τ).loc main_arg5))) (j 1) : EReal))
      ∧ r.2.mem ((c.tc : Thread nD τ).loc main_v47) = (fun j : S32x4096.Idx => (ffnS (rowS (m ((c.tc : Thread nD τ).loc main_arg1)) (j 0).val) (gainOf (m ((c.tc : Thread nD τ).loc main_arg2)))
          (w13 (m ((c.tc : Thread nD τ).loc main_arg3))) (w13 (m ((c.tc : Thread nD τ).loc main_arg4))) (w24 (m ((c.tc : Thread nD τ).loc main_arg5))) (j 1) : EReal)) := by
  refine (θ_run _ _ _).mono (fun r h c => ⟨(h c).1.trans ?_, (h c).2.1.trans ?_⟩) (Cert.Reference2Ideal.Value.run (F := Ideal) m ρ)
  · funext j
    obtain ⟨a, b, rfl⟩ : ∃ (a : Fin 8192) (b : Fin 4096), j = ix2 a b := ⟨j 0, j 1, eq_ix2 j⟩
    pointwise
    exact (ffnS_at (fun d => m ((c.tc : Thread nD τ).loc main_arg0) (ix2 a d)) (rowX (m ((c.tc : Thread nD τ).loc main_arg0)) a.val) (m ((c.tc : Thread nD τ).loc main_arg2))
      (m ((c.tc : Thread nD τ).loc main_arg3)) (m ((c.tc : Thread nD τ).loc main_arg4)) (m ((c.tc : Thread nD τ).loc main_arg5))
      (fun d => rowX_eq (m ((c.tc : Thread nD τ).loc main_arg0)) a.val a.isLt d) b).symm
  · funext j
    obtain ⟨a, b, rfl⟩ : ∃ (a : Fin 32) (b : Fin 4096), j = ix2 a b := ⟨j 0, j 1, eq_ix2 j⟩
    pointwise
    exact (ffnS_at (fun d => m ((c.tc : Thread nD τ).loc main_arg1) (ix2 a d)) (rowS (m ((c.tc : Thread nD τ).loc main_arg1)) a.val) (m ((c.tc : Thread nD τ).loc main_arg2))
      (m ((c.tc : Thread nD τ).loc main_arg3)) (m ((c.tc : Thread nD τ).loc main_arg4)) (m ((c.tc : Thread nD τ).loc main_arg5))
      (fun d => rowS_eq (m ((c.tc : Thread nD τ).loc main_arg1)) a.val a.isLt d) b).symm

/-- Every run of the reference leaves its arguments unchanged and its semaphores at zero. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run _ _ _).mono (fun r h => ⟨fun c => (h c).2.2, Idealize.ShloMosaic.sem_eq_zero_of_no_sems (by decide) _⟩) (Cert.Reference2Ideal.Value.run (F := Ideal) m ρ)

end Cert.Ffn

end
-- ==== Proof.Ffn.Claims.lean ====
/-
  The claims about the feed-forward half step: the frames of its three programs and the equality of the kernel's results
  with the reference's.
-/
module

public import proofs.«01_k».proof.Defs
public import proofs.«01_k».proof.Proof.Ffn.Same
public import proofs.«01_k».proof.Proof.Ffn.KernelValue
public import proofs.«01_k».proof.Proof.Ffn.RefValue

@[expose] public section

set_option maxRecDepth 65536
set_option maxHeartbeats 10000000

noncomputable section

namespace Cert.Ffn

open Idealize Idealize.ShloMosaic Idealize.ShloMosaic.TcCoe Idealize.ShloMosaic.StableHlo Idealize.SL.Sem

local instance : Cert.Kernel2.Facts := Cert.Kernel2.Gen.facts
local instance : Cert.Kernel2Ideal.Facts := Cert.Kernel2Ideal.Gen.facts
local instance : Cert.Reference2Ideal.Facts := Cert.Reference2Ideal.Gen.facts

/-- The frame, of any table equal to the kernel's. -/
theorem frame_table (m : (ℓ : Loc Cert.Kernel2Ideal.nD Cert.Kernel2Ideal.τ Cert.Kernel2Ideal.sig) → Buf (Elt Bits) ℓ) (g : Dev Cert.Kernel2Ideal.nD → PrngReg)
    (d) (hd : d = Cert.Kernel2Ideal.defs (F := Bits)) :
    θ_run d (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0) := by
  subst hd
  exact frame_ffn (F := Bits) m g

/-- The printed kernel leaves its arguments and every counter. -/
theorem frame_P : Cert.quiescent_Kernel2 (hKernel2 := Cert.Kernel2.Gen.facts) := fun m g _ =>
  frame_table m g _ defs_same

/-- So does the kernel over the extended reals. -/
theorem frame_PI : Cert.quiescent_Kernel2Ideal (hKernel2Ideal := Cert.Kernel2Ideal.Gen.facts) := fun m g _ =>
  frame_ffn (F := Ideal) m g

/-- The reference leaves its arguments; it has no counters. -/
theorem frame_RI : Cert.quiescent_Reference2Ideal (hReference2Ideal := Cert.Reference2Ideal.Gen.facts) := fun m g _ =>
  ref_frame m g

/-- The two results of the kernel, as half steps of its arguments' rows. -/
theorem kernel_run (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r =>
      (∀ c : Dev Cert.Kernel2Ideal.nD,
        r.2.mem ((c.tc : Thread Cert.Kernel2Ideal.nD Cert.Kernel2Ideal.τ).loc Cert.Kernel2Ideal.main_v1_0)
          = (fun j : Cert.Kernel2Ideal.S8192x4096.Idx => (ffnS (XK m c (j 0).val) (GK m c) (W1K m c) (W3K m c) (W2K m c) (j 1) : EReal))
        ∧ r.2.mem ((c.tc : Thread Cert.Kernel2Ideal.nD Cert.Kernel2Ideal.τ).loc Cert.Kernel2Ideal.main_v1_1)
          = (fun j : Cert.Kernel2Ideal.S32x4096.Idx => (ffnS (SK m c (j 0).val) (GK m c) (W1K m c) (W3K m c) (W2K m c) (j 1) : EReal)))) :=
  (θ_run Cert.Kernel2Ideal.defs _ _).mono (fun r h c =>
    ⟨(h.1.out_eq c (4 : Fin 6)).trans (final_o m c), (h.1.out_eq c (5 : Fin 6)).trans (final_os m c)⟩) (run_quiet (F := Ideal) m g)

/-- The kernel and the reference, over the extended reals, end with equal results. -/
theorem algebraic : Cert.algebraic_Kernel2Ideal_Reference2Ideal (hKernel2Ideal := Cert.Kernel2Ideal.Gen.facts) (hReference2Ideal := Cert.Reference2Ideal.Gen.facts) := by
  intro m g m' g' _ hag
  refine ⟨fun c => (fun j : Cert.Kernel2Ideal.S8192x4096.Idx => (ffnS (XK m c (j 0).val) (GK m c) (W1K m c) (W3K m c) (W2K m c) (j 1) : EReal)),
    fun c => (fun j : Cert.Kernel2Ideal.S32x4096.Idx => (ffnS (SK m c (j 0).val) (GK m c) (W1K m c) (W3K m c) (W2K m c) (j 1) : EReal)), ?_, ?_⟩
  · refine (θ_run Cert.Kernel2Ideal.defs _ _).mono (fun r h c => ?_) (θ_run_and (kernel_run m g) (frame_ffn (F := Ideal) m g))
    exact ⟨(h.1 c).1, (h.1 c).2, h.2.1 c⟩
  · refine (θ_run Cert.Reference2Ideal.defs _ _).mono (fun r h c => ?_) (θ_run_and (ref_run m' g') (ref_frame m' g'))
    obtain ⟨h0, h1, h2, h3, h4, h5⟩ := hag c
    have hX := congrArg rowX h0
    have hS := congrArg rowS h1
    have hG := congrArg gainOf h2
    have hW1 := congrArg w13 h3
    have hW3 := congrArg w13 h4
    have hW2 := congrArg w24 h5
    refine ⟨(h.1 c).1.trans ?_, (h.1 c).2.trans ?_, h.2.1 c⟩
    · rw [hX, hG, hW1, hW3, hW2]
    · rw [hS, hG, hW1, hW3, hW2]

end Cert.Ffn
-- ==== Proof.Proj.Same.lean ====
/-
  The printed norm and input projection and their reading over the extended reals have one text, so one run serves both.
-/
module

public import proofs.«01_k».proof.Proof.Gen.Kernel3
public import proofs.«01_k».proof.Proof.Gen.Kernel3Ideal
public import Idealize.ShloMosaic.PureOps.BitExact

@[expose] public section

set_option maxRecDepth 65536
set_option maxHeartbeats 10000000

noncomputable section

namespace Cert.Proj

open Idealize Idealize.ShloMosaic Idealize.ShloMosaic.TcCoe Idealize.ShloMosaic.StableHlo Idealize.SL.Sem

/-- The tables of bodies are one. -/
theorem table_same : @Cert.Kernel3.defs₀ Bits _ Cert.Kernel3.Gen.facts = @Cert.Kernel3Ideal.defs₀ Bits _ Cert.Kernel3Ideal.Gen.facts := by
  unfold Cert.Kernel3.defs₀ Cert.Kernel3Ideal.defs₀
  refine congrArg Defs.onTc (funext fun l => funext fun a => ?_)
  match l, a with
  | 0, (t, s) => rfl
  | 1, (t, s) => rfl
  | 2, (t, s) => rfl
  | 3, (t, s) => rfl
  | 4, (t, s) => rfl
  | 5, (t, s) => rfl
  | 6, (t, s) => rfl
  | 7, (t, s) => rfl
  | 8, (t, s) => rfl
  | 9, (t, s) => rfl
  | 10, (t, s) => rfl
  | 11, (t, s) => rfl

/-- So are the tables of the programs. -/
theorem defs_same : @Cert.Kernel3.defs Bits _ Cert.Kernel3.Gen.facts = @Cert.Kernel3Ideal.defs Bits _ Cert.Kernel3Ideal.Gen.facts :=
  congrArg (Pipeline.defs (@Cert.Kernel3Ideal.pcfgs Bits _)) table_same

end Cert.Proj
-- ==== Proof.Proj.Run.lean ====
/-
  The run of the norm and the input projection: it ends with every array at the contents the calls leave, one after the
  other, and every counter at zero.
-/
module

public import proofs.«01_k».proof.Proof.Gen.Kernel3Ideal.Frame

@[expose] public section

set_option maxRecDepth 16384
set_option maxHeartbeats 4000000

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, each array at its contents after the last call, every counter at zero. -/
theorem run_all : θ_run defs (onTc (τ := τ) (main (F := F))) ⟨m, fun _ => 0, ρ⟩ (fun r =>
      (∀ (c : Dev nD) (b : Ref sig .tc), ¬ (Proc.devRef .tc b : DevRef τ sig).isScoped → r.2.mem ((c.tc : Thread nD τ).loc b) = W14 m ρ c (Proc.devRef .tc b))
      ∧ r.2.sem = fun _ => 0) :=
  Pipeline.θ_run_regions_kit_sems (pcfgs (F := F)) adm (pdats m ρ) () cellOf_inj emb₁ Cert.Kernel3Ideal.defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨fun c b hb => h c _ (mem_uc b hb), funext fun g => hz g (.inr (no_unscoped g.2))⟩)

/-- Every run leaves the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c main_arg0 (by decide)).trans (W14_main_arg0 m ρ c), (h.1 c main_arg1 (by decide)).trans (W14_main_arg1 m ρ c),
     (h.1 c main_arg2 (by decide)).trans (W14_main_arg2 m ρ c), (h.1 c main_arg3 (by decide)).trans (W14_main_arg3 m ρ c)⟩, h.2⟩) (run_all m ρ)

end Cert.Proj

end
-- ==== Proof.Proj.Spec.lean ====
/-
  The normed input projection over the extended reals, element by element. Both programs are shown to compute this.
-/
module

public import proofs.«01_k».proof.Proof.Ffn.Spec

@[expose] public section

noncomputable section

namespace Cert.Proj

open Idealize Idealize.ShloMosaic
open scoped BigOperators

/-- The product of row `a` of one array with row `r` of the other. -/
def dotAt {A : ℕ} (n : (⟨2, ![A, 4096]⟩ : Shape).Idx → EReal) (w : (⟨2, ![13360, 4096]⟩ : Shape).Idx → EReal) (a : Fin A) (r : ℕ) : EReal :=
  ∑ x : Fin 4096, n (ix2 a x) * w (ix2 ⟨r % 13360, Nat.mod_lt _ (by decide)⟩ x)

/-- The rows of an array, normalised. -/
def normed {A : ℕ} (h : (⟨2, ![A, 4096]⟩ : Shape).Idx → EReal) (g : Fin 4096 → EReal) : (⟨2, ![A, 4096]⟩ : Shape).Idx → EReal :=
  fun j => Cert.Ffn.nS (fun d => h (ix2 (j 0) d)) g (j 1)

/-- The normalised row `a` against column `r` of the projection. -/
def projAt {A : ℕ} (h : (⟨2, ![A, 4096]⟩ : Shape).Idx → EReal) (g : (⟨1, ![4096]⟩ : Shape).Idx → EReal)
    (w : (⟨3, ![1, 4096, 13360]⟩ : Shape).Idx → EReal) (a : Fin A) (r : ℕ) : EReal :=
  ∑ x : Fin 4096, Cert.Ffn.nS (fun d => h (ix2 a d)) (fun d => g (ix1 d)) x * w (ix3 0 x ⟨r % 13360, Nat.mod_lt _ (by decide)⟩)

end Cert.Proj

end
-- ==== Proof.Proj.Regions.lean ====
/-
  What each call of the input projection's kernels leaves in its output array, from the arrays it finds.
-/
module

public import proofs.«01_k».proof.Proof.Gen.Kernel3Ideal.Frame
public import proofs.«01_k».proof.Proof.Proj.Spec
public import Idealize.ShloMosaic.Lib.Pipeline.ValueKit

@[expose] public section

set_option maxRecDepth 65536
set_option maxHeartbeats 4000000

noncomputable section

namespace Cert.Proj

open Idealize Idealize.ShloMosaic Idealize.ShloMosaic.TcCoe Idealize.ShloMosaic.StableHlo Idealize.ShloMosaic.Tactic
open Cert.Kernel3Ideal Cert.Kernel3Ideal.Gen
open scoped BigOperators

/-! A body's output block, element by element. -/

/-- A block of 256 normalised rows. -/
theorem tile_n256 (x0 : Vec Ideal S256x4096 .f32) (x1 : Vec Ideal S1x4096 .f32) (i : Fin 256) (j : Fin 4096) :
    out0_2 x0 x1 (ix2 i j) = Cert.Ffn.nS (fun d => x0 (ix2 i d)) (fun d => x1 (ix2 0 d)) j := by
  unfold out0_2
  rw [View.canon_cons_unit_lit _ _ _ (by decide)]
  unfold k0_pay1
  pointwise
  try rfl

/-- A block of 32 normalised rows. -/
theorem tile_n32 (x0 : Vec Ideal S32x4096 .f32) (x1 : Vec Ideal S1x4096 .f32) (i : Fin 32) (j : Fin 4096) :
    out6_2 x0 x1 (ix2 i j) = Cert.Ffn.nS (fun d => x0 (ix2 i d)) (fun d => x1 (ix2 0 d)) j := by
  unfold out6_2
  rw [View.canon_cons_unit_lit _ _ _ (by decide)]
  unfold k6_pay1
  pointwise
  try rfl

/-- A tile of the product: 1024 rows by 512 columns. -/
theorem tile_1024_512 (x0 : Vec Ideal S1024x4096 .bf16) (x1 : Vec Ideal S512x4096 .f32) (i : Fin 1024) (j : Fin 512) :
    out1_2 x0 x1 (ix2 i j) = ∑ x, x0 (ix2 i x) * x1 (ix2 j x) := by
  unfold out1_2
  rw [View.canon_cons_unit_lit _ _ _ (by decide)]
  unfold k1_pay1
  pointwise
  try rfl

/-- A tile of the product: 1024 rows by 128 columns. -/
theorem tile_1024_128 (x0 : Vec Ideal S1024x4096 .bf16) (x1 : Vec Ideal S128x4096 .f32) (i : Fin 1024) (j : Fin 128) :
    out4_2 x0 x1 (ix2 i j) = ∑ x, x0 (ix2 i x) * x1 (ix2 j x) := by
  unfold out4_2
  rw [View.canon_cons_unit_lit _ _ _ (by decide)]
  unfold k4_pay1
  pointwise
  try rfl

/-- A tile of the product: 32 rows by 512 columns. -/
theorem tile_32_512 (x0 : Vec Ideal S32x4096 .bf16) (x1 : Vec Ideal S512x4096 .f32) (i : Fin 32) (j : Fin 512) :
    out7_2 x0 x1 (ix2 i j) = ∑ x, x0 (ix2 i x) * x1 (ix2 j x) := by
  unfold out7_2
  rw [View.canon_cons_unit_lit _ _ _ (by decide)]
  unfold k7_pay1
  pointwise
  try rfl

/-- A tile of the product: 32 rows by 128 columns. -/
theorem tile_32_128 (x0 : Vec Ideal S32x4096 .bf16) (x1 : Vec Ideal S128x4096 .f32) (i : Fin 32) (j : Fin 128) :
    out10_2 x0 x1 (ix2 i j) = ∑ x, x0 (ix2 i x) * x1 (ix2 j x) := by
  unfold out10_2
  rw [View.canon_cons_unit_lit _ _ _ (by decide)]
  unfold k10_pay1
  pointwise
  try rfl

/-- A product of staged rows is the product of the arrays' rows they are staged from. -/
theorem dotAt_of {A : ℕ} {n : (⟨2, ![A, 4096]⟩ : Shape).Idx → EReal} {w : (⟨2, ![13360, 4096]⟩ : Shape).Idx → EReal} {a : Fin A} {r : ℕ}
    {f g : Fin 4096 → EReal} (e : Fin 4096 → (⟨2, ![13360, 4096]⟩ : Shape).Idx) (hf : ∀ x, f x = n (ix2 a x)) (hg : ∀ x, g x = w (e x))
    (h0 : ∀ x, (e x 0).val = r % 13360) (h1 : ∀ x, (e x 1).val = x.val) : ∑ x, f x * g x = dotAt n w a r := by
  unfold dotAt
  refine Finset.sum_congr rfl fun x _ => congrArg₂ (· * ·) (hf x) ((hg x).trans (congrArg w ?_))
  refine (eq_ix2 (n0 := 13360) (n1 := 4096) (e x)).trans ?_
  rw [show e x 0 = (⟨r % 13360, Nat.mod_lt _ (by decide)⟩ : Fin 13360) from Fin.ext (h0 x), show e x 1 = x from Fin.ext (h1 x)]

/-! The calls' output arrays. -/

variable (V : (c : Dev nD) → (b : Ref sig .tc) → Buf (Elt Ideal) ((c.tc : Thread nD τ).loc b)) (c : Dev nD)

/-- The blocks a point of the prompt norm works on. -/
theorem idx0 : ∀ t : Fin cfg0.N, win0_0.index t = ![t.val, 0] ∧ win0_1.index t = ![0, 0] ∧ win0_2.index t = ![t.val, 0] := by decide +kernel

/-- The prompt rows, normalised. -/
theorem final0 : (dat0 V c).arrAt 2 cfg0.N = (normed (V c main_arg0) (fun d => V c main_v2 (ix2 0 d)) : S8192x4096.Idx → EReal) := by
  refine (dat0 V c).arrAt_eq_of_covers 2 _ (by decide +kernel) fun t hf y => ?_
  obtain ⟨e0, e1, e2⟩ := idx0 t
  blk_simp
  rw [after0_2]
  have ht : t.val < 32 := t.isLt
  have h0 : (y 0).val < 256 := (y 0).isLt
  have h1 : (y 1).val < 4096 := (y 1).isLt
  refine (congrArg (out0_2 _ _) (eq_ix2 (n0 := 256) (n1 := 4096) y)).trans ((tile_n256 _ _ ⟨_, h0⟩ ⟨_, h1⟩).trans ?_)
  unfold normed
  have hy : (win0_2.blk t).view.emb y 1 = (⟨(y 1).val, h1⟩ : Fin 4096) := Fin.ext (by blk_simp [e2])
  rw [hy]
  refine congrArg₂ (fun a b => Cert.Ffn.nS a b _) (funext fun x => ?_) (funext fun x => ?_)
  · blk_simp [iblk0]
    exact congrArg _ (by blk_ext [e0, e2])
  · blk_simp [iblk0]
    exact congrArg _ (by blk_ext [e1])

/-- The blocks a point of the sample norm works on. -/
theorem idx6 : ∀ t : Fin cfg6.N, win6_0.index t = ![0, 0] ∧ win6_1.index t = ![0, 0] ∧ win6_2.index t = ![0, 0] := by decide +kernel

/-- The sample rows, normalised. -/
theorem final6 : (dat6 V c).arrAt 2 cfg6.N = (normed (V c main_arg1) (fun d => V c main_v9 (ix2 0 d)) : S32x4096.Idx → EReal) := by
  refine (dat6 V c).arrAt_eq_of_covers 2 _ (by decide +kernel) fun t hf y => ?_
  obtain ⟨e0, e1, e2⟩ := idx6 t
  blk_simp
  rw [after6_2]
  have ht : t.val < 1 := t.isLt
  have h0 : (y 0).val < 32 := (y 0).isLt
  have h1 : (y 1).val < 4096 := (y 1).isLt
  refine (congrArg (out6_2 _ _) (eq_ix2 (n0 := 32) (n1 := 4096) y)).trans ((tile_n32 _ _ ⟨_, h0⟩ ⟨_, h1⟩).trans ?_)
  unfold normed
  have hy : (win6_2.blk t).view.emb y 1 = (⟨(y 1).val, h1⟩ : Fin 4096) := Fin.ext (by blk_simp [e2])
  rw [hy]
  refine congrArg₂ (fun a b => Cert.Ffn.nS a b _) (funext fun x => ?_) (funext fun x => ?_)
  · blk_simp [iblk6]
    exact congrArg _ (by blk_ext [e0, e2])
  · blk_simp [iblk6]
    exact congrArg _ (by blk_ext [e1])

/-- The blocks a point of the prompt queries works on. -/
theorem idx1 : ∀ t : Fin cfg1.N, win1_0.index t = ![t.val / 4, 0] ∧ win1_1.index t = ![512 * (t.val % 4), 0] ∧ win1_2.index t = ![t.val / 4, t.val % 4] := by decide +kernel

/-- The prompt queries. -/
theorem final1 : (dat1 V c).arrAt 2 cfg1.N = fun j : S8192x2048.Idx => (dotAt (V c main_v3) (V c main_v1) (j 0) (j 1).val : EReal) := by
  refine (dat1 V c).arrAt_eq_of_covers 2 _ (by decide +kernel) fun t hf y => ?_
  obtain ⟨e0, e1, e2⟩ := idx1 t
  blk_simp
  rw [after1_2]
  have ht : t.val < 32 := t.isLt
  have h0 : (y 0).val < 1024 := (y 0).isLt
  have h1 : (y 1).val < 512 := (y 1).isLt
  refine (congrArg (out1_2 _ _) (eq_ix2 (n0 := 1024) (n1 := 512) y)).trans ((tile_1024_512 _ _ ⟨_, h0⟩ ⟨_, h1⟩).trans
    (dotAt_of (fun x => (win1_1.rect t).emb (ix2 ⟨_, h1⟩ x)) (fun x => ?_) (fun x => rfl)
      (fun x => (Pipeline.Window.rect_emb_val_off win1_1 t _ 0).trans ?_) (fun x => (Pipeline.Window.rect_emb_val_off win1_1 t _ 1).trans ?_)))
  · blk_simp [iblk1]
    exact congrArg _ (by blk_ext [e0, e2])
  · rw [e1]
    blk_simp [e2]
    show 512 * (t.val % 4) + (y 1).val = (t.val % 4 * 512 + (y 1).val) % 13360
    omega
  · rw [e1]
    exact Nat.zero_add _

/-- The blocks a point of the prompt keys and values works on. -/
theorem idx2 : ∀ t : Fin cfg2.N, win2_0.index t = ![t.val / 4, 0] ∧ win2_1.index t = ![2048 + 512 * (t.val % 4), 0] ∧ win2_2.index t = ![t.val / 4, t.val % 4] := by decide +kernel

/-- The prompt keys and values. -/
theorem final2 : (dat2 V c).arrAt 2 cfg2.N = fun j : S8192x2048.Idx => (dotAt (V c main_v3) (V c main_v1) (j 0) (2048 + (j 1).val) : EReal) := by
  refine (dat2 V c).arrAt_eq_of_covers 2 _ (by decide +kernel) fun t hf y => ?_
  obtain ⟨e0, e1, e2⟩ := idx2 t
  blk_simp
  rw [after2_2]
  have ht : t.val < 32 := t.isLt
  have h0 : (y 0).val < 1024 := (y 0).isLt
  have h1 : (y 1).val < 512 := (y 1).isLt
  refine (congrArg (out2_2 _ _) (eq_ix2 (n0 := 1024) (n1 := 512) y)).trans ((tile_1024_512 _ _ ⟨_, h0⟩ ⟨_, h1⟩).trans
    (dotAt_of (fun x => (win2_1.rect t).emb (ix2 ⟨_, h1⟩ x)) (fun x => ?_) (fun x => rfl)
      (fun x => (Pipeline.Window.rect_emb_val_off win2_1 t _ 0).trans ?_) (fun x => (Pipeline.Window.rect_emb_val_off win2_1 t _ 1).trans ?_)))
  · blk_simp [iblk2]
    exact congrArg _ (by blk_ext [e0, e2])
  · rw [e1]
    blk_simp [e2]
    show 2048 + 512 * (t.val % 4) + (y 1).val = (2048 + ((t.val % 4) * 512 + (y 1).val)) % 13360
    omega
  · rw [e1]
    exact Nat.zero_add _

/-- The blocks a point of the prompt windowed keys and values works on. -/
theorem idx3 : ∀ t : Fin cfg3.N, win3_0.index t = ![t.val / 2, 0] ∧ win3_1.index t = ![4096 + 512 * (t.val % 2), 0] ∧ win3_2.index t = ![t.val / 2, t.val % 2] := by decide +kernel

/-- The prompt windowed keys and values. -/
theorem final3 : (dat3 V c).arrAt 2 cfg3.N = fun j : S8192x1024.Idx => (dotAt (V c main_v3) (V c main_v1) (j 0) (4096 + (j 1).val) : EReal) := by
  refine (dat3 V c).arrAt_eq_of_covers 2 _ (by decide +kernel) fun t hf y => ?_
  obtain ⟨e0, e1, e2⟩ := idx3 t
  blk_simp
  rw [after3_2]
  have ht : t.val < 16 := t.isLt
  have h0 : (y 0).val < 1024 := (y 0).isLt
  have h1 : (y 1).val < 512 := (y 1).isLt
  refine (congrArg (out3_2 _ _) (eq_ix2 (n0 := 1024) (n1 := 512) y)).trans ((tile_1024_512 _ _ ⟨_, h0⟩ ⟨_, h1⟩).trans
    (dotAt_of (fun x => (win3_1.rect t).emb (ix2 ⟨_, h1⟩ x)) (fun x => ?_) (fun x => rfl)
      (fun x => (Pipeline.Window.rect_emb_val_off win3_1 t _ 0).trans ?_) (fun x => (Pipeline.Window.rect_emb_val_off win3_1 t _ 1).trans ?_)))
  · blk_simp [iblk3]
    exact congrArg _ (by blk_ext [e0, e2])
  · rw [e1]
    blk_simp [e2]
    show 4096 + 512 * (t.val % 2) + (y 1).val = (4096 + ((t.val % 2) * 512 + (y 1).val)) % 13360
    omega
  · rw [e1]
    exact Nat.zero_add _

/-- The blocks a point of the prompt gates works on. -/
theorem idx4 : ∀ t : Fin cfg4.N, win4_0.index t = ![t.val, 0] ∧ win4_1.index t = ![5120, 0] ∧ win4_2.index t = ![t.val, 0] := by decide +kernel

/-- The prompt gates. -/
theorem final4 : (dat4 V c).arrAt 2 cfg4.N = fun j : S8192x128.Idx => (dotAt (V c main_v3) (V c main_v1) (j 0) (5120 + (j 1).val) : EReal) := by
  refine (dat4 V c).arrAt_eq_of_covers 2 _ (by decide +kernel) fun t hf y => ?_
  obtain ⟨e0, e1, e2⟩ := idx4 t
  blk_simp
  rw [after4_2]
  have ht : t.val < 8 := t.isLt
  have h0 : (y 0).val < 1024 := (y 0).isLt
  have h1 : (y 1).val < 128 := (y 1).isLt
  refine (congrArg (out4_2 _ _) (eq_ix2 (n0 := 1024) (n1 := 128) y)).trans ((tile_1024_128 _ _ ⟨_, h0⟩ ⟨_, h1⟩).trans
    (dotAt_of (fun x => (win4_1.rect t).emb (ix2 ⟨_, h1⟩ x)) (fun x => ?_) (fun x => rfl)
      (fun x => (Pipeline.Window.rect_emb_val_off win4_1 t _ 0).trans ?_) (fun x => (Pipeline.Window.rect_emb_val_off win4_1 t _ 1).trans ?_)))
  · blk_simp [iblk4]
    exact congrArg _ (by blk_ext [e0, e2])
  · rw [e1]
    blk_simp [e2]
    show 5120 + (y 1).val = (5120 + (y 1).val) % 13360
    omega
  · rw [e1]
    exact Nat.zero_add _

/-- The blocks a point of the prompt retention part works on. -/
theorem idx5 : ∀ t : Fin cfg5.N, win5_0.index t = ![t.val / 16, 0] ∧ win5_1.index t = ![5168 + 512 * (t.val % 16), 0] ∧ win5_2.index t = ![t.val / 16, t.val % 16] := by decide +kernel

/-- The prompt retention part. -/
theorem final5 : (dat5 V c).arrAt 2 cfg5.N = fun j : S8192x8192.Idx => (dotAt (V c main_v3) (V c main_v1) (j 0) (5168 + (j 1).val) : EReal) := by
  refine (dat5 V c).arrAt_eq_of_covers 2 _ (by decide +kernel) fun t hf y => ?_
  obtain ⟨e0, e1, e2⟩ := idx5 t
  blk_simp
  rw [after5_2]
  have ht : t.val < 128 := t.isLt
  have h0 : (y 0).val < 1024 := (y 0).isLt
  have h1 : (y 1).val < 512 := (y 1).isLt
  refine (congrArg (out5_2 _ _) (eq_ix2 (n0 := 1024) (n1 := 512) y)).trans ((tile_1024_512 _ _ ⟨_, h0⟩ ⟨_, h1⟩).trans
    (dotAt_of (fun x => (win5_1.rect t).emb (ix2 ⟨_, h1⟩ x)) (fun x => ?_) (fun x => rfl)
      (fun x => (Pipeline.Window.rect_emb_val_off win5_1 t _ 0).trans ?_) (fun x => (Pipeline.Window.rect_emb_val_off win5_1 t _ 1).trans ?_)))
  · blk_simp [iblk5]
    exact congrArg _ (by blk_ext [e0, e2])
  · rw [e1]
    blk_simp [e2]
    show 5168 + 512 * (t.val % 16) + (y 1).val = (5168 + ((t.val % 16) * 512 + (y 1).val)) % 13360
    omega
  · rw [e1]
    exact Nat.zero_add _

/-- The blocks a point of the sample queries works on. -/
theorem idx7 : ∀ t : Fin cfg7.N, win7_0.index t = ![0, 0] ∧ win7_1.index t = ![512 * t.val, 0] ∧ win7_2.index t = ![0, t.val] := by decide +kernel

/-- The sample queries. -/
theorem final7 : (dat7 V c).arrAt 2 cfg7.N = fun j : S32x2048.Idx => (dotAt (V c main_v10) (V c main_v1) (j 0) (j 1).val : EReal) := by
  refine (dat7 V c).arrAt_eq_of_covers 2 _ (by decide +kernel) fun t hf y => ?_
  obtain ⟨e0, e1, e2⟩ := idx7 t
  blk_simp
  rw [after7_2]
  have ht : t.val < 4 := t.isLt
  have h0 : (y 0).val < 32 := (y 0).isLt
  have h1 : (y 1).val < 512 := (y 1).isLt
  refine (congrArg (out7_2 _ _) (eq_ix2 (n0 := 32) (n1 := 512) y)).trans ((tile_32_512 _ _ ⟨_, h0⟩ ⟨_, h1⟩).trans
    (dotAt_of (fun x => (win7_1.rect t).emb (ix2 ⟨_, h1⟩ x)) (fun x => ?_) (fun x => rfl)
      (fun x => (Pipeline.Window.rect_emb_val_off win7_1 t _ 0).trans ?_) (fun x => (Pipeline.Window.rect_emb_val_off win7_1 t _ 1).trans ?_)))
  · blk_simp [iblk7]
    exact congrArg _ (by blk_ext [e0, e2])
  · rw [e1]
    blk_simp [e2]
    show 512 * t.val + (y 1).val = (t.val * 512 + (y 1).val) % 13360
    omega
  · rw [e1]
    exact Nat.zero_add _

/-- The blocks a point of the sample keys and values works on. -/
theorem idx8 : ∀ t : Fin cfg8.N, win8_0.index t = ![0, 0] ∧ win8_1.index t = ![2048 + 512 * t.val, 0] ∧ win8_2.index t = ![0, t.val] := by decide +kernel

/-- The sample keys and values. -/
theorem final8 : (dat8 V c).arrAt 2 cfg8.N = fun j : S32x2048.Idx => (dotAt (V c main_v10) (V c main_v1) (j 0) (2048 + (j 1).val) : EReal) := by
  refine (dat8 V c).arrAt_eq_of_covers 2 _ (by decide +kernel) fun t hf y => ?_
  obtain ⟨e0, e1, e2⟩ := idx8 t
  blk_simp
  rw [after8_2]
  have ht : t.val < 4 := t.isLt
  have h0 : (y 0).val < 32 := (y 0).isLt
  have h1 : (y 1).val < 512 := (y 1).isLt
  refine (congrArg (out8_2 _ _) (eq_ix2 (n0 := 32) (n1 := 512) y)).trans ((tile_32_512 _ _ ⟨_, h0⟩ ⟨_, h1⟩).trans
    (dotAt_of (fun x => (win8_1.rect t).emb (ix2 ⟨_, h1⟩ x)) (fun x => ?_) (fun x => rfl)
      (fun x => (Pipeline.Window.rect_emb_val_off win8_1 t _ 0).trans ?_) (fun x => (Pipeline.Window.rect_emb_val_off win8_1 t _ 1).trans ?_)))
  · blk_simp [iblk8]
    exact congrArg _ (by blk_ext [e0, e2])
  · rw [e1]
    blk_simp [e2]
    show 2048 + 512 * t.val + (y 1).val = (2048 + (t.val * 512 + (y 1).val)) % 13360
    omega
  · rw [e1]
    exact Nat.zero_add _

/-- The blocks a point of the sample windowed keys and values works on. -/
theorem idx9 : ∀ t : Fin cfg9.N, win9_0.index t = ![0, 0] ∧ win9_1.index t = ![4096 + 512 * t.val, 0] ∧ win9_2.index t = ![0, t.val] := by decide +kernel

/-- The sample windowed keys and values. -/
theorem final9 : (dat9 V c).arrAt 2 cfg9.N = fun j : S32x1024.Idx => (dotAt (V c main_v10) (V c main_v1) (j 0) (4096 + (j 1).val) : EReal) := by
  refine (dat9 V c).arrAt_eq_of_covers 2 _ (by decide +kernel) fun t hf y => ?_
  obtain ⟨e0, e1, e2⟩ := idx9 t
  blk_simp
  rw [after9_2]
  have ht : t.val < 2 := t.isLt
  have h0 : (y 0).val < 32 := (y 0).isLt
  have h1 : (y 1).val < 512 := (y 1).isLt
  refine (congrArg (out9_2 _ _) (eq_ix2 (n0 := 32) (n1 := 512) y)).trans ((tile_32_512 _ _ ⟨_, h0⟩ ⟨_, h1⟩).trans
    (dotAt_of (fun x => (win9_1.rect t).emb (ix2 ⟨_, h1⟩ x)) (fun x => ?_) (fun x => rfl)
      (fun x => (Pipeline.Window.rect_emb_val_off win9_1 t _ 0).trans ?_) (fun x => (Pipeline.Window.rect_emb_val_off win9_1 t _ 1).trans ?_)))
  · blk_simp [iblk9]
    exact congrArg _ (by blk_ext [e0, e2])
  · rw [e1]
    blk_simp [e2]
    show 4096 + 512 * t.val + (y 1).val = (4096 + (t.val * 512 + (y 1).val)) % 13360
    omega
  · rw [e1]
    exact Nat.zero_add _

/-- The blocks a point of the sample gates works on. -/
theorem idx10 : ∀ t : Fin cfg10.N, win10_0.index t = ![0, 0] ∧ win10_1.index t = ![5120, 0] ∧ win10_2.index t = ![0, 0] := by decide +kernel

/-- The sample gates. -/
theorem final10 : (dat10 V c).arrAt 2 cfg10.N = fun j : S32x128.Idx => (dotAt (V c main_v10) (V c main_v1) (j 0) (5120 + (j 1).val) : EReal) := by
  refine (dat10 V c).arrAt_eq_of_covers 2 _ (by decide +kernel) fun t hf y => ?_
  obtain ⟨e0, e1, e2⟩ := idx10 t
  blk_simp
  rw [after10_2]
  have ht : t.val < 1 := t.isLt
  have h0 : (y 0).val < 32 := (y 0).isLt
  have h1 : (y 1).val < 128 := (y 1).isLt
  refine (congrArg (out10_2 _ _) (eq_ix2 (n0 := 32) (n1 := 128) y)).trans ((tile_32_128 _ _ ⟨_, h0⟩ ⟨_, h1⟩).trans
    (dotAt_of (fun x => (win10_1.rect t).emb (ix2 ⟨_, h1⟩ x)) (fun x => ?_) (fun x => rfl)
      (fun x => (Pipeline.Window.rect_emb_val_off win10_1 t _ 0).trans ?_) (fun x => (Pipeline.Window.rect_emb_val_off win10_1 t _ 1).trans ?_)))
  · blk_simp [iblk10]
    exact congrArg _ (by blk_ext [e0, e2])
  · rw [e1]
    blk_simp [e2]
    show 5120 + (y 1).val = (5120 + (y 1).val) % 13360
    omega
  · rw [e1]
    exact Nat.zero_add _

/-- The blocks a point of the sample retention part works on. -/
theorem idx11 : ∀ t : Fin cfg11.N, win11_0.index t = ![0, 0] ∧ win11_1.index t = ![5168 + 512 * t.val, 0] ∧ win11_2.index t = ![0, t.val] := by decide +kernel

/-- The sample retention part. -/
theorem final11 : (dat11 V c).arrAt 2 cfg11.N = fun j : S32x8192.Idx => (dotAt (V c main_v10) (V c main_v1) (j 0) (5168 + (j 1).val) : EReal) := by
  refine (dat11 V c).arrAt_eq_of_covers 2 _ (by decide +kernel) fun t hf y => ?_
  obtain ⟨e0, e1, e2⟩ := idx11 t
  blk_simp
  rw [after11_2]
  have ht : t.val < 16 := t.isLt
  have h0 : (y 0).val < 32 := (y 0).isLt
  have h1 : (y 1).val < 512 := (y 1).isLt
  refine (congrArg (out11_2 _ _) (eq_ix2 (n0 := 32) (n1 := 512) y)).trans ((tile_32_512 _ _ ⟨_, h0⟩ ⟨_, h1⟩).trans
    (dotAt_of (fun x => (win11_1.rect t).emb (ix2 ⟨_, h1⟩ x)) (fun x => ?_) (fun x => rfl)
      (fun x => (Pipeline.Window.rect_emb_val_off win11_1 t _ 0).trans ?_) (fun x => (Pipeline.Window.rect_emb_val_off win11_1 t _ 1).trans ?_)))
  · blk_simp [iblk11]
    exact congrArg _ (by blk_ext [e0, e2])
  · rw [e1]
    blk_simp [e2]
    show 5168 + 512 * t.val + (y 1).val = (5168 + (t.val * 512 + (y 1).val)) % 13360
    omega
  · rw [e1]
    exact Nat.zero_add _

end Cert.Proj

end
-- ==== Proof.Proj.Values.lean ====
/-
  What the norm and the input projection leave in their ten results, element by element.
-/
module

public import proofs.«01_k».proof.Proof.Proj.Run
public import proofs.«01_k».proof.Proof.Proj.Regions
public import Idealize.ShloMosaic.Lib.StableHlo.RunClose

@[expose] public section

set_option maxRecDepth 65536
set_option maxHeartbeats 4000000

noncomputable section

namespace Cert.Proj

open Idealize Idealize.ShloMosaic Idealize.ShloMosaic.TcCoe Idealize.ShloMosaic.StableHlo Idealize.ShloMosaic.Tactic Idealize.SL.Sem
open Cert.Kernel3Ideal Cert.Kernel3Ideal.Gen
open scoped BigOperators

variable (m : (ℓ : Loc nD τ sig) → Buf (Elt Ideal) ℓ) (ρ : Dev nD → PrngReg) (c : Dev nD)

/-- The prompt rows. -/
abbrev HP : S8192x4096.Idx → EReal := m ((c.tc : Thread nD τ).loc main_arg0)
/-- The sample rows. -/
abbrev HS : S32x4096.Idx → EReal := m ((c.tc : Thread nD τ).loc main_arg1)
/-- The gain. -/
abbrev GA : S4096.Idx → EReal := m ((c.tc : Thread nD τ).loc main_arg2)
/-- The projection's weights. -/
abbrev WA : S1x4096x13360.Idx → EReal := m ((c.tc : Thread nD τ).loc main_arg3)

/-- The weights, transposed, after the first host operations. -/
theorem w_at (r : Fin 13360) (x : Fin 4096) : V1 m ρ c main_v1 (ix2 r x) = WA m c (ix3 0 x r) := by
  show after hostOps0 (W0 m ρ c) (Proc.devRef .tc main_v1) (ix2 r x) = _
  simp only [hostOps0]
  after_results_simp
  pointwise

/-- The gain as one row, after the first host operations. -/
theorem g_at (d : Fin 4096) : V1 m ρ c main_v2 (ix2 0 d) = GA m c (ix1 d) := by
  show after hostOps0 (W0 m ρ c) (Proc.devRef .tc main_v2) (ix2 0 d) = _
  simp only [hostOps0]
  after_results_simp
  pointwise

/-- The gain as one row, for the sample rows. -/
theorem g_at' (d : Fin 4096) : V8 m ρ c main_v9 (ix2 0 d) = GA m c (ix1 d) := by
  show after hostOps6 (W7 m ρ c) (Proc.devRef .tc main_v9) (ix2 0 d) = _
  simp only [hostOps6]
  after_results_simp
  pointwise
  exact congrFun (W7_args m ρ c main_arg2 (by decide)) (ix1 d)

/-! What no later call writes stays. -/

/-- The weights' array is as the first host operations leave it whenever a projection reads it. -/
theorem w2 : W2 m ρ c (Proc.devRef .tc main_v1) = W1 m ρ c (Proc.devRef .tc main_v1) := W2_of m ρ c main_v1 (by decide +kernel)
/-- The same after item 3. -/
theorem w3 : W3 m ρ c (Proc.devRef .tc main_v1) = W1 m ρ c (Proc.devRef .tc main_v1) := (W3_of m ρ c main_v1 (by decide +kernel)).trans (w2 m ρ c)
/-- The same after item 4. -/
theorem w4 : W4 m ρ c (Proc.devRef .tc main_v1) = W1 m ρ c (Proc.devRef .tc main_v1) := (W4_of m ρ c main_v1 (by decide +kernel)).trans (w3 m ρ c)
/-- The same after item 5. -/
theorem w5 : W5 m ρ c (Proc.devRef .tc main_v1) = W1 m ρ c (Proc.devRef .tc main_v1) := (W5_of m ρ c main_v1 (by decide +kernel)).trans (w4 m ρ c)
/-- The same after item 6. -/
theorem w6 : W6 m ρ c (Proc.devRef .tc main_v1) = W1 m ρ c (Proc.devRef .tc main_v1) := (W6_of m ρ c main_v1 (by decide +kernel)).trans (w5 m ρ c)
/-- The same after item 7. -/
theorem w7 : W7 m ρ c (Proc.devRef .tc main_v1) = W1 m ρ c (Proc.devRef .tc main_v1) := (W7_of m ρ c main_v1 (by decide +kernel)).trans (w6 m ρ c)
/-- The same after item 8. -/
theorem w8 : W8 m ρ c (Proc.devRef .tc main_v1) = W1 m ρ c (Proc.devRef .tc main_v1) := (W8_of m ρ c main_v1 (by decide +kernel)).trans (w7 m ρ c)
/-- The same after item 9. -/
theorem w9 : W9 m ρ c (Proc.devRef .tc main_v1) = W1 m ρ c (Proc.devRef .tc main_v1) := (W9_of m ρ c main_v1 (by decide +kernel)).trans (w8 m ρ c)
/-- The same after item 10. -/
theorem w10 : W10 m ρ c (Proc.devRef .tc main_v1) = W1 m ρ c (Proc.devRef .tc main_v1) := (W10_of m ρ c main_v1 (by decide +kernel)).trans (w9 m ρ c)
/-- The same after item 11. -/
theorem w11 : W11 m ρ c (Proc.devRef .tc main_v1) = W1 m ρ c (Proc.devRef .tc main_v1) := (W11_of m ρ c main_v1 (by decide +kernel)).trans (w10 m ρ c)
/-- The same after item 12. -/
theorem w12 : W12 m ρ c (Proc.devRef .tc main_v1) = W1 m ρ c (Proc.devRef .tc main_v1) := (W12_of m ρ c main_v1 (by decide +kernel)).trans (w11 m ρ c)
/-- The same after item 13. -/
theorem w13 : W13 m ρ c (Proc.devRef .tc main_v1) = W1 m ρ c (Proc.devRef .tc main_v1) := (W13_of m ρ c main_v1 (by decide +kernel)).trans (w12 m ρ c)

/-- The normalised prompt rows, after the norm. -/
theorem n2 : W2 m ρ c (Proc.devRef .tc main_v3) = normed (HP m c) (fun d => V1 m ρ c main_v2 (ix2 0 d)) :=
  (W2_arr m ρ c 2).trans ((final0 (V1 m ρ) c).trans (congrArg (fun h => normed h _) (W1_args m ρ c main_arg0 (by decide))))
/-- They are there for the next projection. -/
theorem n3 : W3 m ρ c (Proc.devRef .tc main_v3) = W2 m ρ c (Proc.devRef .tc main_v3) := W3_of m ρ c main_v3 (by decide +kernel)
/-- They are there for the next projection. -/
theorem n4 : W4 m ρ c (Proc.devRef .tc main_v3) = W2 m ρ c (Proc.devRef .tc main_v3) := (W4_of m ρ c main_v3 (by decide +kernel)).trans (n3 m ρ c)
/-- They are there for the next projection. -/
theorem n5 : W5 m ρ c (Proc.devRef .tc main_v3) = W2 m ρ c (Proc.devRef .tc main_v3) := (W5_of m ρ c main_v3 (by decide +kernel)).trans (n4 m ρ c)
/-- They are there for the next projection. -/
theorem n6 : W6 m ρ c (Proc.devRef .tc main_v3) = W2 m ρ c (Proc.devRef .tc main_v3) := (W6_of m ρ c main_v3 (by decide +kernel)).trans (n5 m ρ c)

/-- The normalised sample rows, after the norm. -/
theorem n9 : W9 m ρ c (Proc.devRef .tc main_v10) = normed (HS m c) (fun d => V8 m ρ c main_v9 (ix2 0 d)) :=
  (W9_arr m ρ c 2).trans ((final6 (V8 m ρ) c).trans (congrArg (fun h => normed h _) (W8_args m ρ c main_arg1 (by decide))))
/-- They are there for the next projection. -/
theorem n10 : W10 m ρ c (Proc.devRef .tc main_v10) = W9 m ρ c (Proc.devRef .tc main_v10) := W10_of m ρ c main_v10 (by decide +kernel)
/-- They are there for the next projection. -/
theorem n11 : W11 m ρ c (Proc.devRef .tc main_v10) = W9 m ρ c (Proc.devRef .tc main_v10) := (W11_of m ρ c main_v10 (by decide +kernel)).trans (n10 m ρ c)
/-- They are there for the next projection. -/
theorem n12 : W12 m ρ c (Proc.devRef .tc main_v10) = W9 m ρ c (Proc.devRef .tc main_v10) := (W12_of m ρ c main_v10 (by decide +kernel)).trans (n11 m ρ c)
/-- They are there for the next projection. -/
theorem n13 : W13 m ρ c (Proc.devRef .tc main_v10) = W9 m ρ c (Proc.devRef .tc main_v10) := (W13_of m ρ c main_v10 (by decide +kernel)).trans (n12 m ρ c)

/-- A product with normalised rows and transposed weights is the projection. -/
theorem dotAt_eq {A : ℕ} {n h : (⟨2, ![A, 4096]⟩ : Shape).Idx → EReal} {gg : Fin 4096 → EReal} {g : S4096.Idx → EReal} {w1 : S13360x4096.Idx → EReal}
    {w : S1x4096x13360.Idx → EReal} (hn : n = normed h gg) (hg : ∀ d, gg d = g (ix1 d)) (hw : ∀ r x, w1 (ix2 r x) = w (ix3 0 x r))
    (a : Fin A) (r : ℕ) : dotAt n w1 a r = projAt h g w a r := by
  subst hn
  unfold dotAt projAt normed
  rw [show gg = (fun d => g (ix1 d)) from funext hg]
  exact Finset.sum_congr rfl fun x _ => congrArg (_ * ·) (hw _ x)

/-- The same with the rows and the weights as a call finds them. -/
theorem part_p {n w1} (hn : n = W2 m ρ c (Proc.devRef .tc main_v3)) (hw : w1 = W1 m ρ c (Proc.devRef .tc main_v1)) (a : Fin 8192) (r : ℕ) :
    dotAt n w1 a r = projAt (HP m c) (GA m c) (WA m c) a r :=
  dotAt_eq (hn.trans (n2 m ρ c)) (g_at m ρ c) (fun r x => (congrFun hw _).trans (w_at m ρ c r x)) a r

/-- For the sample rows. -/
theorem part_s {n w1} (hn : n = W9 m ρ c (Proc.devRef .tc main_v10)) (hw : w1 = W1 m ρ c (Proc.devRef .tc main_v1)) (a : Fin 32) (r : ℕ) :
    dotAt n w1 a r = projAt (HS m c) (GA m c) (WA m c) a r :=
  dotAt_eq (hn.trans (n9 m ρ c)) (g_at' m ρ c) (fun r x => (congrFun hw _).trans (w_at m ρ c r x)) a r

/-- What the sample rows' calls do not write they keep. -/
theorem from7 (r : Ref sig .tc) (h : r ∉ hostOps6_W) (h6 : ∀ w, Pipeline.arrRef spec6 w = r → (cfg6.win w).isOut = false)
    (h7 : ∀ w, Pipeline.arrRef spec7 w = r → (cfg7.win w).isOut = false) (h8 : ∀ w, Pipeline.arrRef spec8 w = r → (cfg8.win w).isOut = false)
    (h9 : ∀ w, Pipeline.arrRef spec9 w = r → (cfg9.win w).isOut = false) (h10 : ∀ w, Pipeline.arrRef spec10 w = r → (cfg10.win w).isOut = false)
    (h11 : ∀ w, Pipeline.arrRef spec11 w = r → (cfg11.win w).isOut = false) :
    W14 m ρ c (Proc.devRef .tc r) = W7 m ρ c (Proc.devRef .tc r) :=
  (W14_of m ρ c r h11).trans ((W13_of m ρ c r h10).trans ((W12_of m ρ c r h9).trans ((W11_of m ρ c r h8).trans ((W10_of m ρ c r h7).trans
    ((W9_of m ρ c r h6).trans (W8_of m ρ c r h))))))

/-! The ten results. -/

/-- The prompt queries. -/
theorem res1 : W14 m ρ c (Proc.devRef .tc main_v4) = fun j : S8192x2048.Idx => (projAt (HP m c) (GA m c) (WA m c) (j 0) (j 1).val : EReal) :=
  (from7 m ρ c main_v4 (by decide +kernel) (by decide +kernel) (by decide +kernel) (by decide +kernel) (by decide +kernel) (by decide +kernel) (by decide +kernel)).trans ((W7_of m ρ c main_v4 (by decide +kernel)).trans ((W6_of m ρ c main_v4 (by decide +kernel)).trans ((W5_of m ρ c main_v4 (by decide +kernel)).trans ((W4_of m ρ c main_v4 (by decide +kernel)).trans ((W3_arr m ρ c 2).trans ((final1 (V2 m ρ) c).trans (funext fun j => part_p m ρ c rfl (w2 m ρ c) (j 0) _)))))))

/-- The prompt keys and values. -/
theorem res2 : W14 m ρ c (Proc.devRef .tc main_v5) = fun j : S8192x2048.Idx => (projAt (HP m c) (GA m c) (WA m c) (j 0) (2048 + (j 1).val) : EReal) :=
  (from7 m ρ c main_v5 (by decide +kernel) (by decide +kernel) (by decide +kernel) (by decide +kernel) (by decide +kernel) (by decide +kernel) (by decide +kernel)).trans ((W7_of m ρ c main_v5 (by decide +kernel)).trans ((W6_of m ρ c main_v5 (by decide +kernel)).trans ((W5_of m ρ c main_v5 (by decide +kernel)).trans ((W4_arr m ρ c 2).trans ((final2 (V3 m ρ) c).trans (funext fun j => part_p m ρ c (n3 m ρ c) (w3 m ρ c) (j 0) _))))))

/-- The prompt windowed keys and values. -/
theorem res3 : W14 m ρ c (Proc.devRef .tc main_v6) = fun j : S8192x1024.Idx => (projAt (HP m c) (GA m c) (WA m c) (j 0) (4096 + (j 1).val) : EReal) :=
  (from7 m ρ c main_v6 (by decide +kernel) (by decide +kernel) (by decide +kernel) (by decide +kernel) (by decide +kernel) (by decide +kernel) (by decide +kernel)).trans ((W7_of m ρ c main_v6 (by decide +kernel)).trans ((W6_of m ρ c main_v6 (by decide +kernel)).trans ((W5_arr m ρ c 2).trans ((final3 (V4 m ρ) c).trans (funext fun j => part_p m ρ c (n4 m ρ c) (w4 m ρ c) (j 0) _)))))

/-- The prompt gates. -/
theorem res4 : W14 m ρ c (Proc.devRef .tc main_v7) = fun j : S8192x128.Idx => (projAt (HP m c) (GA m c) (WA m c) (j 0) (5120 + (j 1).val) : EReal) :=
  (from7 m ρ c main_v7 (by decide +kernel) (by decide +kernel) (by decide +kernel) (by decide +kernel) (by decide +kernel) (by decide +kernel) (by decide +kernel)).trans ((W7_of m ρ c main_v7 (by decide +kernel)).trans ((W6_arr m ρ c 2).trans ((final4 (V5 m ρ) c).trans (funext fun j => part_p m ρ c (n5 m ρ c) (w5 m ρ c) (j 0) _))))

/-- The prompt retention part. -/
theorem res5 : W14 m ρ c (Proc.devRef .tc main_v8) = fun j : S8192x8192.Idx => (projAt (HP m c) (GA m c) (WA m c) (j 0) (5168 + (j 1).val) : EReal) :=
  (from7 m ρ c main_v8 (by decide +kernel) (by decide +kernel) (by decide +kernel) (by decide +kernel) (by decide +kernel) (by decide +kernel) (by decide +kernel)).trans ((W7_arr m ρ c 2).trans ((final5 (V6 m ρ) c).trans (funext fun j => part_p m ρ c (n6 m ρ c) (w6 m ρ c) (j 0) _)))

/-- The sample queries. -/
theorem res7 : W14 m ρ c (Proc.devRef .tc main_v11) = fun j : S32x2048.Idx => (projAt (HS m c) (GA m c) (WA m c) (j 0) (j 1).val : EReal) :=
  (W14_of m ρ c main_v11 (by decide +kernel)).trans ((W13_of m ρ c main_v11 (by decide +kernel)).trans ((W12_of m ρ c main_v11 (by decide +kernel)).trans ((W11_of m ρ c main_v11 (by decide +kernel)).trans ((W10_arr m ρ c 2).trans ((final7 (V9 m ρ) c).trans (funext fun j => part_s m ρ c rfl (w9 m ρ c) (j 0) _))))))

/-- The sample keys and values. -/
theorem res8 : W14 m ρ c (Proc.devRef .tc main_v12) = fun j : S32x2048.Idx => (projAt (HS m c) (GA m c) (WA m c) (j 0) (2048 + (j 1).val) : EReal) :=
  (W14_of m ρ c main_v12 (by decide +kernel)).trans ((W13_of m ρ c main_v12 (by decide +kernel)).trans ((W12_of m ρ c main_v12 (by decide +kernel)).trans ((W11_arr m ρ c 2).trans ((final8 (V10 m ρ) c).trans (funext fun j => part_s m ρ c (n10 m ρ c) (w10 m ρ c) (j 0) _)))))

/-- The sample windowed keys and values. -/
theorem res9 : W14 m ρ c (Proc.devRef .tc main_v13) = fun j : S32x1024.Idx => (projAt (HS m c) (GA m c) (WA m c) (j 0) (4096 + (j 1).val) : EReal) :=
  (W14_of m ρ c main_v13 (by decide +kernel)).trans ((W13_of m ρ c main_v13 (by decide +kernel)).trans ((W12_arr m ρ c 2).trans ((final9 (V11 m ρ) c).trans (funext fun j => part_s m ρ c (n11 m ρ c) (w11 m ρ c) (j 0) _))))

/-- The sample gates. -/
theorem res10 : W14 m ρ c (Proc.devRef .tc main_v14) = fun j : S32x128.Idx => (projAt (HS m c) (GA m c) (WA m c) (j 0) (5120 + (j 1).val) : EReal) :=
  (W14_of m ρ c main_v14 (by decide +kernel)).trans ((W13_arr m ρ c 2).trans ((final10 (V12 m ρ) c).trans (funext fun j => part_s m ρ c (n12 m ρ c) (w12 m ρ c) (j 0) _)))

/-- The sample retention part. -/
theorem res11 : W14 m ρ c (Proc.devRef .tc main_v15) = fun j : S32x8192.Idx => (projAt (HS m c) (GA m c) (WA m c) (j 0) (5168 + (j 1).val) : EReal) :=
  (W14_arr m ρ c 2).trans ((final11 (V13 m ρ) c).trans (funext fun j => part_s m ρ c (n13 m ρ c) (w13 m ρ c) (j 0) _))

end Cert.Proj

end
-- ==== Proof.Proj.RefValue.lean ====
/-
  What the reference's norm and input projection compute, element by element.
-/
module

public import proofs.«01_k».proof.Proof.Gen.Reference3Ideal.Run
public import proofs.«01_k».proof.Proof.Proj.Spec

@[expose] public section

set_option maxRecDepth 65536
set_option maxHeartbeats 4000000

noncomputable section

namespace Cert.Proj

open Idealize Idealize.ShloMosaic Idealize.ShloMosaic.TcCoe Idealize.ShloMosaic.StableHlo Idealize.SL.Sem
open Cert.Reference3Ideal Cert.Reference3Ideal.Gen
open scoped BigOperators

/-- The projection of a row, written over the arrays. -/
theorem projAt_at {A : ℕ} (h : (⟨2, ![A, 4096]⟩ : Shape).Idx → EReal) (g : (⟨1, ![4096]⟩ : Shape).Idx → EReal)
    (w : (⟨3, ![1, 4096, 13360]⟩ : Shape).Idx → EReal) (a : Fin A) (r : Fin 13360) :
    ∑ x : Fin 4096, h (ix2 a x) * Ideal.rsqrt (Ideal.div (∑ x, h (ix2 a x) * h (ix2 a x)) (Ideal.ofBits FTy.f32 1166016512#32) + Ideal.ofBits FTy.f32 897988541#32) * g (ix1 x)
        * w (ix3 0 x r) = projAt h g w a r.val := by
  unfold projAt Cert.Ffn.nS
  rw [show (⟨r.val % 13360, Nat.mod_lt _ (by decide)⟩ : Fin 13360) = r from Fin.ext (Nat.mod_eq_of_lt r.isLt)]

/-- The whole projection of the prompt rows, as the reference composes it. -/
def fullP (h : FVec Ideal S8192x4096 .f32) (g : FVec Ideal S4096 .f32) (w : FVec Ideal S1x4096x13360 .f32) : FVec Ideal S8192x13360 .f32 :=
  Host.dotGeneral dot_S8192x4096_S4096x13360_S8192x13360_1_0_0_1_n_n none
    (mulf (mulf h (broadcastInDim S8192x4096 ![0, 1] bcast_S8192x1_S8192x4096_0_1
        (Host.rsqrt (addf (Host.divf (broadcastInDim S8192x1 ![0] bcast_S8192_S8192x1_0
            (Host.reduceAdd (mulf h h) (constant S_ .f32 0x00000000#32) reducesTo_S8192x4096_S8192_d1 h_S_))
          (broadcastInDim S8192x1 ![] bcast_S_S8192x1 (constant S_ .f32 0x45800000#32)))
          (broadcastInDim S8192x1 ![] bcast_S_S8192x1 (constant S_ .f32 0x358637BD#32))))))
      (broadcastInDim S8192x4096 ![0, 1] bcast_S1x4096_S8192x4096_0_1 (broadcastInDim S1x4096 ![1] bcast_S4096_S1x4096_1 g)))
    (shapeCast _ w shapeCasts_S1x4096x13360_S4096x13360)

/-- It is the projection, element by element. -/
theorem fullP_at (h : FVec Ideal S8192x4096 .f32) (g : FVec Ideal S4096 .f32) (w : FVec Ideal S1x4096x13360 .f32) (a : Fin 8192) (r : Fin 13360) :
    fullP h g w (ix2 a r) = projAt h g w a r.val := by
  unfold fullP
  pointwise
  exact projAt_at h g w a r

/-- The whole projection of the sample rows, as the reference composes it. -/
def fullS (h : FVec Ideal S32x4096 .f32) (g : FVec Ideal S4096 .f32) (w : FVec Ideal S1x4096x13360 .f32) : FVec Ideal S32x13360 .f32 :=
  Host.dotGeneral dot_S32x4096_S4096x13360_S32x13360_1_0_0_1_n_n none
    (mulf (mulf h (broadcastInDim S32x4096 ![0, 1] bcast_S32x1_S32x4096_0_1
        (Host.rsqrt (addf (Host.divf (broadcastInDim S32x1 ![0] bcast_S32_S32x1_0
            (Host.reduceAdd (mulf h h) (constant S_ .f32 0x00000000#32) reducesTo_S32x4096_S32_d1 h_S_))
          (broadcastInDim S32x1 ![] bcast_S_S32x1 (constant S_ .f32 0x45800000#32)))
          (broadcastInDim S32x1 ![] bcast_S_S32x1 (constant S_ .f32 0x358637BD#32))))))
      (broadcastInDim S32x4096 ![0, 1] bcast_S1x4096_S32x4096_0_1 (broadcastInDim S1x4096 ![1] bcast_S4096_S1x4096_1 g)))
    (shapeCast _ w shapeCasts_S1x4096x13360_S4096x13360)

/-- It is the projection, element by element. -/
theorem fullS_at (h : FVec Ideal S32x4096 .f32) (g : FVec Ideal S4096 .f32) (w : FVec Ideal S1x4096x13360 .f32) (a : Fin 32) (r : Fin 13360) :
    fullS h g w (ix2 a r) = projAt h g w a r.val := by
  unfold fullS
  pointwise
  exact projAt_at h g w a r

/-- A part of a projection's columns. -/
theorem cut_eq {A B o : ℕ} {X : (⟨2, ![A, 13360]⟩ : Shape).Idx → EReal} {f : Fin A → ℕ → EReal} (hX : ∀ a r, X (ix2 a r) = f a r.val)
    (h : (⟨2, ![A, 13360]⟩ : Shape).Slices ![0, o] ⟨2, ![A, B]⟩) :
    extractStridedSlice (⟨2, ![A, B]⟩ : Shape) ![0, o] X h = fun j => f (j 0) (o + (j 1).val) := by
  funext j
  have hb : o + (j 1).val < 13360 := Nat.lt_of_lt_of_le (Nat.add_lt_add_left (j 1).isLt _) (h.2 1)
  refine (extractStridedSlice_apply ![0, o] X h j (ix2 (j 0) ⟨o + (j 1).val, hb⟩) fun a => ?_).trans (hX (j 0) ⟨o + (j 1).val, hb⟩)
  match a with
  | 0 => exact (Nat.zero_add _).symm
  | 1 => rfl

/-- The part at column zero. -/
theorem cut_zero {A B : ℕ} {X : (⟨2, ![A, 13360]⟩ : Shape).Idx → EReal} {f : Fin A → ℕ → EReal} (hX : ∀ a r, X (ix2 a r) = f a r.val)
    (h : (⟨2, ![A, 13360]⟩ : Shape).Slices ![0, 0] ⟨2, ![A, B]⟩) :
    extractStridedSlice (⟨2, ![A, B]⟩ : Shape) ![0, 0] X h = fun j => f (j 0) (j 1).val :=
  (cut_eq hX h).trans (funext fun j => congrArg (f (j 0)) (Nat.zero_add _))

variable (m : (ℓ : Loc nD τ sig) → Buf (Elt Ideal) ℓ) (ρ : Dev nD → PrngReg)

/-- Every run of the reference ends with its ten results at the projection of each row. -/
theorem ref_run :
    θ_run (defs (F := Ideal)) (onTc (τ := τ) (main (F := Ideal))) ⟨m, fun _ => 0, ρ⟩ fun r => ∀ c : Dev nD,
      let hp := m ((c.tc : Thread nD τ).loc main_arg0)
      let hs := m ((c.tc : Thread nD τ).loc main_arg1)
      let g := m ((c.tc : Thread nD τ).loc main_arg2)
      let w := m ((c.tc : Thread nD τ).loc main_arg3)
      r.2.mem ((c.tc : Thread nD τ).loc main_v15) = (fun j : S8192x2048.Idx => (projAt hp g w (j 0) (j 1).val : EReal))
      ∧ r.2.mem ((c.tc : Thread nD τ).loc main_v16) = (fun j : S8192x2048.Idx => (projAt hp g w (j 0) (2048 + (j 1).val) : EReal))
      ∧ r.2.mem ((c.tc : Thread nD τ).loc main_v17) = (fun j : S8192x1024.Idx => (projAt hp g w (j 0) (4096 + (j 1).val) : EReal))
      ∧ r.2.mem ((c.tc : Thread nD τ).loc main_v18) = (fun j : S8192x128.Idx => (projAt hp g w (j 0) (5120 + (j 1).val) : EReal))
      ∧ r.2.mem ((c.tc : Thread nD τ).loc main_v19) = (fun j : S8192x8192.Idx => (projAt hp g w (j 0) (5168 + (j 1).val) : EReal))
      ∧ r.2.mem ((c.tc : Thread nD τ).loc main_v35) = (fun j : S32x2048.Idx => (projAt hs g w (j 0) (j 1).val : EReal))
      ∧ r.2.mem ((c.tc : Thread nD τ).loc main_v36) = (fun j : S32x2048.Idx => (projAt hs g w (j 0) (2048 + (j 1).val) : EReal))
      ∧ r.2.mem ((c.tc : Thread nD τ).loc main_v37) = (fun j : S32x1024.Idx => (projAt hs g w (j 0) (4096 + (j 1).val) : EReal))
      ∧ r.2.mem ((c.tc : Thread nD τ).loc main_v38) = (fun j : S32x128.Idx => (projAt hs g w (j 0) (5120 + (j 1).val) : EReal))
      ∧ r.2.mem ((c.tc : Thread nD τ).loc main_v39) = (fun j : S32x8192.Idx => (projAt hs g w (j 0) (5168 + (j 1).val) : EReal)) := by
  refine (θ_run _ _ _).mono (fun r h c => ?_) (Cert.Reference3Ideal.Value.run (F := Ideal) m ρ)
  obtain ⟨h0, h1, h2, h3, h4, h5, h6, h7, h8, h9, -⟩ := h c
  have hp := fullP_at (m ((c.tc : Thread nD τ).loc main_arg0)) (m ((c.tc : Thread nD τ).loc main_arg2)) (m ((c.tc : Thread nD τ).loc main_arg3))
  have hs := fullS_at (m ((c.tc : Thread nD τ).loc main_arg1)) (m ((c.tc : Thread nD τ).loc main_arg2)) (m ((c.tc : Thread nD τ).loc main_arg3))
  exact ⟨h0.trans (cut_zero hp _), h1.trans (cut_eq hp _), h2.trans (cut_eq hp _), h3.trans (cut_eq hp _), h4.trans (cut_eq hp _),
    h5.trans (cut_zero hs _), h6.trans (cut_eq hs _), h7.trans (cut_eq hs _), h8.trans (cut_eq hs _), h9.trans (cut_eq hs _)⟩

/-- Every run of the reference leaves its arguments unchanged and its semaphores at zero. -/
theorem ref_frame :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun r h => ⟨fun c => (h c).2.2.2.2.2.2.2.2.2.2, Idealize.ShloMosaic.sem_eq_zero_of_no_sems (by decide) _⟩) (Cert.Reference3Ideal.Value.run (F := Ideal) m ρ)

end Cert.Proj

end
-- ==== Proof.Proj.Claims.lean ====
/-
  The claims about the normed input projection: the frames of its three programs and the equality of the kernel's results
  with the reference's.
-/
module

public import proofs.«01_k».proof.Defs
public import proofs.«01_k».proof.Proof.Proj.Same
public import proofs.«01_k».proof.Proof.Proj.Values
public import proofs.«01_k».proof.Proof.Proj.RefValue

@[expose] public section

set_option maxRecDepth 65536
set_option maxHeartbeats 10000000

noncomputable section

namespace Cert.Proj

open Idealize Idealize.ShloMosaic Idealize.ShloMosaic.TcCoe Idealize.ShloMosaic.StableHlo Idealize.SL.Sem

local instance : Cert.Kernel3.Facts := Cert.Kernel3.Gen.facts
local instance : Cert.Kernel3Ideal.Facts := Cert.Kernel3Ideal.Gen.facts
local instance : Cert.Reference3Ideal.Facts := Cert.Reference3Ideal.Gen.facts

/-- The frame, of any table equal to the kernel's. -/
theorem frame_table (m : (ℓ : Loc Cert.Kernel3Ideal.nD Cert.Kernel3Ideal.τ Cert.Kernel3Ideal.sig) → Buf (Elt Bits) ℓ) (g : Dev Cert.Kernel3Ideal.nD → PrngReg)
    (d) (hd : d = Cert.Kernel3Ideal.defs (F := Bits)) :
    θ_run d (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0) := by
  subst hd
  exact run_frame (F := Bits) m g

/-- The printed kernel leaves its arguments and every counter. -/
theorem frame_P : Cert.quiescent_Kernel3 (hKernel3 := Cert.Kernel3.Gen.facts) := fun m g _ =>
  frame_table m g _ defs_same

/-- So does the kernel over the extended reals. -/
theorem frame_PI : Cert.quiescent_Kernel3Ideal (hKernel3Ideal := Cert.Kernel3Ideal.Gen.facts) := fun m g _ =>
  run_frame (F := Ideal) m g

/-- The reference leaves its arguments; it has no counters. -/
theorem frame_RI : Cert.quiescent_Reference3Ideal (hReference3Ideal := Cert.Reference3Ideal.Gen.facts) := fun m g _ =>
  ref_frame m g

/-- The ten results of the kernel, as projections of its arguments' normalised rows. -/
theorem kernel_run (m : (ℓ : Loc Cert.Kernel3Ideal.nD Cert.Kernel3Ideal.τ Cert.Kernel3Ideal.sig) → Buf (Elt Ideal) ℓ) (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
        r.2.mem ((c.tc : Thread Cert.Kernel3Ideal.nD Cert.Kernel3Ideal.τ).loc Cert.Kernel3Ideal.main_v4) = (fun j : Cert.Kernel3Ideal.S8192x2048.Idx => (projAt (HP m c) (GA m c) (WA m c) (j 0) (j 1).val : EReal))
        ∧ r.2.mem ((c.tc : Thread Cert.Kernel3Ideal.nD Cert.Kernel3Ideal.τ).loc Cert.Kernel3Ideal.main_v5) = (fun j : Cert.Kernel3Ideal.S8192x2048.Idx => (projAt (HP m c) (GA m c) (WA m c) (j 0) (2048 + (j 1).val) : EReal))
        ∧ r.2.mem ((c.tc : Thread Cert.Kernel3Ideal.nD Cert.Kernel3Ideal.τ).loc Cert.Kernel3Ideal.main_v6) = (fun j : Cert.Kernel3Ideal.S8192x1024.Idx => (projAt (HP m c) (GA m c) (WA m c) (j 0) (4096 + (j 1).val) : EReal))
        ∧ r.2.mem ((c.tc : Thread Cert.Kernel3Ideal.nD Cert.Kernel3Ideal.τ).loc Cert.Kernel3Ideal.main_v7) = (fun j : Cert.Kernel3Ideal.S8192x128.Idx => (projAt (HP m c) (GA m c) (WA m c) (j 0) (5120 + (j 1).val) : EReal))
        ∧ r.2.mem ((c.tc : Thread Cert.Kernel3Ideal.nD Cert.Kernel3Ideal.τ).loc Cert.Kernel3Ideal.main_v8) = (fun j : Cert.Kernel3Ideal.S8192x8192.Idx => (projAt (HP m c) (GA m c) (WA m c) (j 0) (5168 + (j 1).val) : EReal))
        ∧ r.2.mem ((c.tc : Thread Cert.Kernel3Ideal.nD Cert.Kernel3Ideal.τ).loc Cert.Kernel3Ideal.main_v11) = (fun j : Cert.Kernel3Ideal.S32x2048.Idx => (projAt (HS m c) (GA m c) (WA m c) (j 0) (j 1).val : EReal))
        ∧ r.2.mem ((c.tc : Thread Cert.Kernel3Ideal.nD Cert.Kernel3Ideal.τ).loc Cert.Kernel3Ideal.main_v12) = (fun j : Cert.Kernel3Ideal.S32x2048.Idx => (projAt (HS m c) (GA m c) (WA m c) (j 0) (2048 + (j 1).val) : EReal))
        ∧ r.2.mem ((c.tc : Thread Cert.Kernel3Ideal.nD Cert.Kernel3Ideal.τ).loc Cert.Kernel3Ideal.main_v13) = (fun j : Cert.Kernel3Ideal.S32x1024.Idx => (projAt (HS m c) (GA m c) (WA m c) (j 0) (4096 + (j 1).val) : EReal))
        ∧ r.2.mem ((c.tc : Thread Cert.Kernel3Ideal.nD Cert.Kernel3Ideal.τ).loc Cert.Kernel3Ideal.main_v14) = (fun j : Cert.Kernel3Ideal.S32x128.Idx => (projAt (HS m c) (GA m c) (WA m c) (j 0) (5120 + (j 1).val) : EReal))
        ∧ r.2.mem ((c.tc : Thread Cert.Kernel3Ideal.nD Cert.Kernel3Ideal.τ).loc Cert.Kernel3Ideal.main_v15) = (fun j : Cert.Kernel3Ideal.S32x8192.Idx => (projAt (HS m c) (GA m c) (WA m c) (j 0) (5168 + (j 1).val) : EReal))
        ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)) :=
  (θ_run Cert.Kernel3Ideal.defs _ _).mono (fun r h c => ⟨(h.1 c Cert.Kernel3Ideal.main_v4 (by decide)).trans (res1 m g c),
     (h.1 c Cert.Kernel3Ideal.main_v5 (by decide)).trans (res2 m g c),
     (h.1 c Cert.Kernel3Ideal.main_v6 (by decide)).trans (res3 m g c),
     (h.1 c Cert.Kernel3Ideal.main_v7 (by decide)).trans (res4 m g c),
     (h.1 c Cert.Kernel3Ideal.main_v8 (by decide)).trans (res5 m g c),
     (h.1 c Cert.Kernel3Ideal.main_v11 (by decide)).trans (res7 m g c),
     (h.1 c Cert.Kernel3Ideal.main_v12 (by decide)).trans (res8 m g c),
     (h.1 c Cert.Kernel3Ideal.main_v13 (by decide)).trans (res9 m g c),
     (h.1 c Cert.Kernel3Ideal.main_v14 (by decide)).trans (res10 m g c),
     (h.1 c Cert.Kernel3Ideal.main_v15 (by decide)).trans (res11 m g c),
     (h.1 c Cert.Kernel3Ideal.main_arg0 (by decide)).trans (Cert.Kernel3Ideal.Gen.W14_main_arg0 m g c), (h.1 c Cert.Kernel3Ideal.main_arg1 (by decide)).trans (Cert.Kernel3Ideal.Gen.W14_main_arg1 m g c),
     (h.1 c Cert.Kernel3Ideal.main_arg2 (by decide)).trans (Cert.Kernel3Ideal.Gen.W14_main_arg2 m g c), (h.1 c Cert.Kernel3Ideal.main_arg3 (by decide)).trans (Cert.Kernel3Ideal.Gen.W14_main_arg3 m g c)⟩)
    (run_all (F := Ideal) m g)

/-- The kernel and the reference, over the extended reals, end with equal results. -/
theorem algebraic : Cert.algebraic_Kernel3Ideal_Reference3Ideal (hKernel3Ideal := Cert.Kernel3Ideal.Gen.facts) (hReference3Ideal := Cert.Reference3Ideal.Gen.facts) := by
  intro m g m' g' _ hag
  refine ⟨fun c => (fun j : Cert.Kernel3Ideal.S8192x2048.Idx => (projAt (HP m c) (GA m c) (WA m c) (j 0) (j 1).val : EReal)),
    fun c => (fun j : Cert.Kernel3Ideal.S8192x2048.Idx => (projAt (HP m c) (GA m c) (WA m c) (j 0) (2048 + (j 1).val) : EReal)),
    fun c => (fun j : Cert.Kernel3Ideal.S8192x1024.Idx => (projAt (HP m c) (GA m c) (WA m c) (j 0) (4096 + (j 1).val) : EReal)),
    fun c => (fun j : Cert.Kernel3Ideal.S8192x128.Idx => (projAt (HP m c) (GA m c) (WA m c) (j 0) (5120 + (j 1).val) : EReal)),
    fun c => (fun j : Cert.Kernel3Ideal.S8192x8192.Idx => (projAt (HP m c) (GA m c) (WA m c) (j 0) (5168 + (j 1).val) : EReal)),
    fun c => (fun j : Cert.Kernel3Ideal.S32x2048.Idx => (projAt (HS m c) (GA m c) (WA m c) (j 0) (j 1).val : EReal)),
    fun c => (fun j : Cert.Kernel3Ideal.S32x2048.Idx => (projAt (HS m c) (GA m c) (WA m c) (j 0) (2048 + (j 1).val) : EReal)),
    fun c => (fun j : Cert.Kernel3Ideal.S32x1024.Idx => (projAt (HS m c) (GA m c) (WA m c) (j 0) (4096 + (j 1).val) : EReal)),
    fun c => (fun j : Cert.Kernel3Ideal.S32x128.Idx => (projAt (HS m c) (GA m c) (WA m c) (j 0) (5120 + (j 1).val) : EReal)),
    fun c => (fun j : Cert.Kernel3Ideal.S32x8192.Idx => (projAt (HS m c) (GA m c) (WA m c) (j 0) (5168 + (j 1).val) : EReal)), kernel_run m g, ?_⟩
  refine (θ_run Cert.Reference3Ideal.defs _ _).mono (fun r h c => ?_) (θ_run_and (ref_run m' g') (ref_frame m' g'))
  obtain ⟨e0, e1, e2, e3⟩ := hag c
  obtain ⟨h0, h1, h2, h3, h4, h5, h6, h7, h8, h9⟩ := h.1 c
  have hp := congr (congr (congrArg projAt e0) e2) e3
  have hs := congr (congr (congrArg projAt e1) e2) e3
  exact ⟨h0.trans (funext fun j => congrFun (congrFun hp (j 0)) _), h1.trans (funext fun j => congrFun (congrFun hp (j 0)) _),
    h2.trans (funext fun j => congrFun (congrFun hp (j 0)) _), h3.trans (funext fun j => congrFun (congrFun hp (j 0)) _),
    h4.trans (funext fun j => congrFun (congrFun hp (j 0)) _), h5.trans (funext fun j => congrFun (congrFun hs (j 0)) _),
    h6.trans (funext fun j => congrFun (congrFun hs (j 0)) _), h7.trans (funext fun j => congrFun (congrFun hs (j 0)) _),
    h8.trans (funext fun j => congrFun (congrFun hs (j 0)) _), h9.trans (funext fun j => congrFun (congrFun hs (j 0)) _), h.2.1 c⟩

end Cert.Proj

end
-- ==== Proof.Out.Same.lean ====
/-
  The printed output projection and its reading over the extended reals have one text, so one run serves both.
-/
module

public import proofs.«01_k».proof.Proof.Gen.Kernel4
public import proofs.«01_k».proof.Proof.Gen.Kernel4Ideal
public import Idealize.ShloMosaic.PureOps.BitExact

@[expose] public section

set_option maxRecDepth 65536
set_option maxHeartbeats 10000000

noncomputable section

namespace Cert.Out

open Idealize Idealize.ShloMosaic Idealize.ShloMosaic.TcCoe Idealize.ShloMosaic.StableHlo Idealize.SL.Sem

/-- The tables of bodies are one. -/
theorem table_same : @Cert.Kernel4.defs₀ Bits _ Cert.Kernel4.Gen.facts = @Cert.Kernel4Ideal.defs₀ Bits _ Cert.Kernel4Ideal.Gen.facts := by
  unfold Cert.Kernel4.defs₀ Cert.Kernel4Ideal.defs₀
  refine congrArg Defs.onTc (funext fun l => funext fun a => ?_)
  match l, a with
  | 0, (t, s) => rfl
  | 1, (t, s) => rfl

/-- So are the tables of the programs. -/
theorem defs_same : @Cert.Kernel4.defs Bits _ Cert.Kernel4.Gen.facts = @Cert.Kernel4Ideal.defs Bits _ Cert.Kernel4Ideal.Gen.facts :=
  congrArg (Pipeline.defs (@Cert.Kernel4Ideal.pcfgs Bits _)) table_same

end Cert.Out
-- ==== Proof.Out.Run.lean ====
/-
  The run of the output projection: it ends with every array at the contents the calls leave, one after the
  other, and every counter at zero.
-/
module

public import proofs.«01_k».proof.Proof.Gen.Kernel4Ideal.Frame

@[expose] public section

set_option maxRecDepth 16384
set_option maxHeartbeats 4000000

noncomputable section

namespace Cert.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, each array at its contents after the last call, every counter at zero. -/
theorem run_all : θ_run defs (onTc (τ := τ) (main (F := F))) ⟨m, fun _ => 0, ρ⟩ (fun r =>
      (∀ (c : Dev nD) (b : Ref sig .tc), ¬ (Proc.devRef .tc b : DevRef τ sig).isScoped → r.2.mem ((c.tc : Thread nD τ).loc b) = W3 m ρ c (Proc.devRef .tc b))
      ∧ r.2.sem = fun _ => 0) :=
  Pipeline.θ_run_regions_kit_sems (pcfgs (F := F)) adm (pdats m ρ) () cellOf_inj emb₁ Cert.Kernel4Ideal.defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨fun c b hb => h c _ (mem_uc b hb), funext fun g => hz g (.inr (no_unscoped g.2))⟩)

/-- Every run leaves the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨(h.1 c main_arg0 (by decide)).trans (W3_main_arg0 m ρ c),
     (h.1 c main_arg1 (by decide)).trans (W3_main_arg1 m ρ c),
     (h.1 c main_arg2 (by decide)).trans (W3_main_arg2 m ρ c),
     (h.1 c main_arg3 (by decide)).trans (W3_main_arg3 m ρ c),
     (h.1 c main_arg4 (by decide)).trans (W3_main_arg4 m ρ c),
     (h.1 c main_arg5 (by decide)).trans (W3_main_arg5 m ρ c),
     (h.1 c main_arg6 (by decide)).trans (W3_main_arg6 m ρ c)⟩, h.2⟩) (run_all m ρ)

end Cert.Out

end
-- ==== Proof.Out.Spec.lean ====
/-
  The output projection over the extended reals, element by element. Both programs are shown to compute this.
-/
module

public import Idealize.ShloMosaic.PureOps.Ideal
public import Idealize.ShloMosaic.Lib.Pointwise
public import Idealize.ShloMosaic.Lib.Pointwise.Index

@[expose] public section

noncomputable section

namespace Cert.Out

open Idealize Idealize.ShloMosaic
open scoped BigOperators

/-- Row `i` of `h` plus the rows of `a` and of `r` against the two halves of column `j` of the weights. -/
def outAt {A : ℕ} (a r : (⟨2, ![A, 2048]⟩ : Shape).Idx → EReal) (w : (⟨3, ![1, 4096, 4096]⟩ : Shape).Idx → EReal)
    (h : (⟨2, ![A, 4096]⟩ : Shape).Idx → EReal) (i : Fin A) (j : Fin 4096) : EReal :=
  h (ix2 i j) + (∑ x : Fin 2048, a (ix2 i x) * w (ix3 0 ⟨x.val, by omega⟩ j) + ∑ x : Fin 2048, r (ix2 i x) * w (ix3 0 ⟨2048 + x.val, by omega⟩ j))

/-- The sixteen heads of a row, side by side. -/
def heads (a : (⟨3, ![32, 16, 128]⟩ : Shape).Idx → EReal) : (⟨2, ![32, 2048]⟩ : Shape).Idx → EReal :=
  fun j => a (ix3 (j 0) ⟨(j 1).val / 128, Nat.div_lt_of_lt_mul (j 1).isLt⟩ ⟨(j 1).val % 128, Nat.mod_lt _ (by decide)⟩)

end Cert.Out

end
-- ==== Proof.Out.Regions.lean ====
/-
  What each call of the output projection's kernel leaves in its output array, from the arrays it finds.
-/
module

public import proofs.«01_k».proof.Proof.Gen.Kernel4Ideal.Frame
public import proofs.«01_k».proof.Proof.Out.Spec
public import Idealize.ShloMosaic.Lib.Pipeline.ValueKit

@[expose] public section

set_option maxRecDepth 65536
set_option maxHeartbeats 4000000

noncomputable section

namespace Cert.Out

open Idealize Idealize.ShloMosaic Idealize.ShloMosaic.TcCoe Idealize.ShloMosaic.StableHlo Idealize.ShloMosaic.Tactic
open Cert.Kernel4Ideal Cert.Kernel4Ideal.Gen
open scoped BigOperators

/-- A tile of the prompt rows' output: 1024 rows by 512 columns. -/
theorem tile0 (x0 x1 : Vec Ideal S1024x2048 .bf16) (x2 : Vec Ideal S1x4096x512 .f32) (x3 : Vec Ideal S1024x512 .f32) (i : Fin 1024) (j : Fin 512) :
    out0_4 x0 x1 x2 x3 (ix2 i j) = x3 (ix2 i j) + (∑ x : Fin 2048, x0 (ix2 i x) * x2 (ix3 0 ⟨x.val, by omega⟩ j)
      + ∑ x : Fin 2048, x1 (ix2 i x) * x2 (ix3 0 ⟨2048 + x.val, by omega⟩ j)) := by
  unfold out0_4
  rw [View.canon_cons_unit_lit _ _ _ (by decide)]
  unfold k0_pay1
  pointwise
  try rfl

/-- A tile of the sample rows' output: 32 rows by 512 columns. -/
theorem tile1 (x0 x1 : Vec Ideal S32x2048 .bf16) (x2 : Vec Ideal S1x4096x512 .f32) (x3 : Vec Ideal S32x512 .f32) (i : Fin 32) (j : Fin 512) :
    out1_4 x0 x1 x2 x3 (ix2 i j) = x3 (ix2 i j) + (∑ x : Fin 2048, x0 (ix2 i x) * x2 (ix3 0 ⟨x.val, by omega⟩ j)
      + ∑ x : Fin 2048, x1 (ix2 i x) * x2 (ix3 0 ⟨2048 + x.val, by omega⟩ j)) := by
  unfold out1_4
  rw [View.canon_cons_unit_lit _ _ _ (by decide)]
  unfold k1_pay1
  pointwise
  try rfl

/-- The blocks a point of the prompt call works on. -/
theorem idx0 : ∀ t : Fin cfg0.N, win0_0.index t = ![t.val / 8, 0] ∧ win0_1.index t = ![t.val / 8, 0] ∧ win0_2.index t = ![0, 0, t.val % 8]
    ∧ win0_3.index t = ![t.val / 8, t.val % 8] ∧ win0_4.index t = ![t.val / 8, t.val % 8] := by decide +kernel

/-- The blocks a point of the sample call works on. -/
theorem idx1 : ∀ t : Fin cfg1.N, win1_0.index t = ![0, 0] ∧ win1_1.index t = ![0, 0] ∧ win1_2.index t = ![0, 0, t.val]
    ∧ win1_3.index t = ![0, t.val] ∧ win1_4.index t = ![0, t.val] := by decide +kernel

variable (V : (c : Dev nD) → (b : Ref sig .tc) → Buf (Elt Ideal) ((c.tc : Thread nD τ).loc b)) (c : Dev nD)

/-- The prompt rows' output. -/
theorem final0 : (dat0 V c).arrAt 4 cfg0.N = fun j : S8192x4096.Idx => (outAt (V c main_arg0) (V c main_arg1) (V c main_arg6) (V c main_arg2) (j 0) (j 1) : EReal) := by
  refine (dat0 V c).arrAt_eq_of_covers 4 _ (by decide +kernel) fun t hf y => ?_
  obtain ⟨e0, e1, e2, e3, e4⟩ := idx0 t
  blk_simp
  rw [after0_4]
  have ht : t.val < 64 := t.isLt
  have h0 : (y 0).val < 1024 := (y 0).isLt
  have h1 : (y 1).val < 512 := (y 1).isLt
  refine (congrArg (out0_4 _ _ _ _) (eq_ix2 (n0 := 1024) (n1 := 512) y)).trans ((tile0 _ _ _ _ ⟨_, h0⟩ ⟨_, h1⟩).trans ?_)
  unfold outAt
  refine congrArg₂ (· + ·) ?_ (congrArg₂ (· + ·) (Finset.sum_congr rfl fun x _ => congrArg₂ (· * ·) ?_ ?_) (Finset.sum_congr rfl fun x _ => congrArg₂ (· * ·) ?_ ?_))
  · blk_simp [iblk0]
    exact congrArg _ (by blk_ext [e3, e4])
  · blk_simp [iblk0]
    exact congrArg _ (by blk_ext [e0, e4])
  · blk_simp [iblk0]
    exact congrArg _ (by blk_ext [e2, e4])
  · blk_simp [iblk0]
    exact congrArg _ (by blk_ext [e1, e4])
  · blk_simp [iblk0]
    exact congrArg _ (by blk_ext [e2, e4])

/-- The sample rows' output. -/
theorem final1 : (dat1 V c).arrAt 4 cfg1.N = fun j : S32x4096.Idx => (outAt (V c main_v1) (V c main_v2) (V c main_arg6) (V c main_arg5) (j 0) (j 1) : EReal) := by
  refine (dat1 V c).arrAt_eq_of_covers 4 _ (by decide +kernel) fun t hf y => ?_
  obtain ⟨e0, e1, e2, e3, e4⟩ := idx1 t
  blk_simp
  rw [after1_4]
  have ht : t.val < 8 := t.isLt
  have h0 : (y 0).val < 32 := (y 0).isLt
  have h1 : (y 1).val < 512 := (y 1).isLt
  refine (congrArg (out1_4 _ _ _ _) (eq_ix2 (n0 := 32) (n1 := 512) y)).trans ((tile1 _ _ _ _ ⟨_, h0⟩ ⟨_, h1⟩).trans ?_)
  unfold outAt
  refine congrArg₂ (· + ·) ?_ (congrArg₂ (· + ·) (Finset.sum_congr rfl fun x _ => congrArg₂ (· * ·) ?_ ?_) (Finset.sum_congr rfl fun x _ => congrArg₂ (· * ·) ?_ ?_))
  · blk_simp [iblk1]
    exact congrArg _ (by blk_ext [e3, e4])
  · blk_simp [iblk1]
    exact congrArg _ (by blk_ext [e0, e4])
  · blk_simp [iblk1]
    exact congrArg _ (by blk_ext [e2, e4])
  · blk_simp [iblk1]
    exact congrArg _ (by blk_ext [e1, e4])
  · blk_simp [iblk1]
    exact congrArg _ (by blk_ext [e2, e4])

end Cert.Out

end
-- ==== Proof.Out.Values.lean ====
/-
  What the output projection leaves in its two results, element by element.
-/
module

public import proofs.«01_k».proof.Proof.Out.Run
public import proofs.«01_k».proof.Proof.Out.Regions
public import Idealize.ShloMosaic.Lib.StableHlo.RunClose

@[expose] public section

set_option maxRecDepth 65536
set_option maxHeartbeats 4000000

noncomputable section

namespace Cert.Out

open Idealize Idealize.ShloMosaic Idealize.ShloMosaic.TcCoe Idealize.ShloMosaic.StableHlo Idealize.ShloMosaic.Tactic Idealize.SL.Sem
open Cert.Kernel4Ideal Cert.Kernel4Ideal.Gen
open scoped BigOperators

variable (m : (ℓ : Loc nD τ sig) → Buf (Elt Ideal) ℓ) (ρ : Dev nD → PrngReg) (c : Dev nD)

/-- The prompt's attention rows. -/
abbrev AP : S8192x2048.Idx → EReal := m ((c.tc : Thread nD τ).loc main_arg0)
/-- The prompt's retention rows. -/
abbrev RP : S8192x2048.Idx → EReal := m ((c.tc : Thread nD τ).loc main_arg1)
/-- The prompt's residual rows. -/
abbrev HP : S8192x4096.Idx → EReal := m ((c.tc : Thread nD τ).loc main_arg2)
/-- The samples' attention heads. -/
abbrev AS : S32x16x128.Idx → EReal := m ((c.tc : Thread nD τ).loc main_arg3)
/-- The samples' retention heads. -/
abbrev RS : S32x16x128.Idx → EReal := m ((c.tc : Thread nD τ).loc main_arg4)
/-- The samples' residual rows. -/
abbrev HS : S32x4096.Idx → EReal := m ((c.tc : Thread nD τ).loc main_arg5)
/-- The weights. -/
abbrev WO : S1x4096x4096.Idx → EReal := m ((c.tc : Thread nD τ).loc main_arg6)

/-- The samples' attention heads, reshaped to rows. -/
theorem a_rows : V2 m ρ c main_v1 = heads (AS m c) := by
  funext j
  refine (congrArg _ (eq_ix2 (n0 := 32) (n1 := 2048) j)).trans ?_
  show after hostOps1 (W1 m ρ c) (Proc.devRef .tc main_v1) (ix2 (j 0) (j 1)) = _
  simp only [hostOps1]
  after_results_simp
  pointwise
  exact congrFun (W1_args m ρ c main_arg3 (by decide)) _

/-- The samples' retention heads, reshaped to rows. -/
theorem r_rows : V2 m ρ c main_v2 = heads (RS m c) := by
  funext j
  refine (congrArg _ (eq_ix2 (n0 := 32) (n1 := 2048) j)).trans ?_
  show after hostOps1 (W1 m ρ c) (Proc.devRef .tc main_v2) (ix2 (j 0) (j 1)) = _
  simp only [hostOps1]
  after_results_simp
  pointwise
  exact congrFun (W1_args m ρ c main_arg4 (by decide)) _

/-- The prompt's result. -/
theorem res0 : W3 m ρ c (Proc.devRef .tc main_v0) = fun j : S8192x4096.Idx => (outAt (AP m c) (RP m c) (WO m c) (HP m c) (j 0) (j 1) : EReal) :=
  (W3_of m ρ c main_v0 (by decide +kernel)).trans ((W2_of m ρ c main_v0 (by decide +kernel)).trans ((W1_arr m ρ c 4).trans (final0 (V0 m ρ) c)))

/-- The samples' result. -/
theorem res1 : W3 m ρ c (Proc.devRef .tc main_v3) = fun j : S32x4096.Idx => (outAt (heads (AS m c)) (heads (RS m c)) (WO m c) (HS m c) (j 0) (j 1) : EReal) := by
  refine (W3_arr m ρ c 4).trans ((final1 (V2 m ρ) c).trans ?_)
  have hw : V2 m ρ c main_arg6 = WO m c := W2_args m ρ c main_arg6 (by decide)
  have hh : V2 m ρ c main_arg5 = HS m c := W2_args m ρ c main_arg5 (by decide)
  rw [a_rows, r_rows, hw, hh]

end Cert.Out

end
-- ==== Proof.Out.RefValue.lean ====
/-
  What the reference's output projection computes, element by element.
-/
module

public import proofs.«01_k».proof.Proof.Gen.Reference4Ideal.Run
public import proofs.«01_k».proof.Proof.Out.Spec

@[expose] public section

set_option maxRecDepth 65536
set_option maxHeartbeats 4000000

noncomputable section

namespace Cert.Out

open Idealize Idealize.ShloMosaic Idealize.ShloMosaic.TcCoe Idealize.ShloMosaic.StableHlo Idealize.SL.Sem
open Cert.Reference4Ideal Cert.Reference4Ideal.Gen
open scoped BigOperators

/-- The prompt rows' output, as the reference composes it. -/
def fullP (a r : FVec Ideal S8192x2048 .bf16) (w : FVec Ideal S1x4096x4096 .f32) (h : FVec Ideal S8192x4096 .f32) : FVec Ideal S8192x4096 .f32 :=
  addf h (Host.dotGeneral dot_S8192x4096_S4096x4096_S8192x4096_1_0_0_1_n_n none
    (extf .f32 (concatenate S8192x4096 1 [⟨S8192x2048, a⟩, ⟨S8192x2048, r⟩] concatenates_S8192x2048_S8192x2048_S8192x4096_d1) bitsLt_bf16_f32)
    (shapeCast _ w shapeCasts_S1x4096x4096_S4096x4096))

/-- Its value, element by element. -/
theorem fullP_at (a r : FVec Ideal S8192x2048 .bf16) (w : FVec Ideal S1x4096x4096 .f32) (h : FVec Ideal S8192x4096 .f32) (i : Fin 8192) (j : Fin 4096) :
    fullP a r w h (ix2 i j) = outAt a r w h i j := by
  unfold fullP
  pointwise
  rfl

/-- The sample rows' output, as the reference composes it. -/
def fullS (a r : FVec Ideal S32x16x128 .bf16) (w : FVec Ideal S1x4096x4096 .f32) (h : FVec Ideal S32x4096 .f32) : FVec Ideal S32x4096 .f32 :=
  addf h (Host.dotGeneral dot_S32x4096_S4096x4096_S32x4096_1_0_0_1_n_n none
    (extf .f32 (concatenate S32x4096 1 [⟨S32x2048, shapeCast _ a shapeCasts_S32x16x128_S32x2048⟩, ⟨S32x2048, shapeCast _ r shapeCasts_S32x16x128_S32x2048⟩]
      concatenates_S32x2048_S32x2048_S32x4096_d1) bitsLt_bf16_f32)
    (shapeCast _ w shapeCasts_S1x4096x4096_S4096x4096))

/-- Its value, element by element. -/
theorem fullS_at (a r : FVec Ideal S32x16x128 .bf16) (w : FVec Ideal S1x4096x4096 .f32) (h : FVec Ideal S32x4096 .f32) (i : Fin 32) (j : Fin 4096) :
    fullS a r w h (ix2 i j) = outAt (heads a) (heads r) w h i j := by
  unfold fullS
  pointwise
  rfl

variable (m : (ℓ : Loc nD τ sig) → Buf (Elt Ideal) ℓ) (ρ : Dev nD → PrngReg)

/-- Every run of the reference ends with its two results at the output projection of the rows. -/
theorem ref_run :
    θ_run (defs (F := Ideal)) (onTc (τ := τ) (main (F := Ideal))) ⟨m, fun _ => 0, ρ⟩ fun r => ∀ c : Dev nD,
      r.2.mem ((c.tc : Thread nD τ).loc main_v4) = (fun j : S8192x4096.Idx => (outAt (m ((c.tc : Thread nD τ).loc main_arg0)) (m ((c.tc : Thread nD τ).loc main_arg1))
        (m ((c.tc : Thread nD τ).loc main_arg6)) (m ((c.tc : Thread nD τ).loc main_arg2)) (j 0) (j 1) : EReal))
      ∧ r.2.mem ((c.tc : Thread nD τ).loc main_v11) = (fun j : S32x4096.Idx => (outAt (heads (m ((c.tc : Thread nD τ).loc main_arg3))) (heads (m ((c.tc : Thread nD τ).loc main_arg4)))
        (m ((c.tc : Thread nD τ).loc main_arg6)) (m ((c.tc : Thread nD τ).loc main_arg5)) (j 0) (j 1) : EReal)) := by
  refine (θ_run _ _ _).mono (fun r h c => ?_) (Cert.Reference4Ideal.Value.run (F := Ideal) m ρ)
  obtain ⟨h0, h1, -⟩ := h c
  refine ⟨h0.trans (funext fun j => (congrArg _ (eq_ix2 (n0 := 8192) (n1 := 4096) j)).trans (fullP_at _ _ _ _ (j 0) (j 1))),
    h1.trans (funext fun j => (congrArg _ (eq_ix2 (n0 := 32) (n1 := 4096) j)).trans (fullS_at _ _ _ _ (j 0) (j 1)))⟩

/-- Every run of the reference leaves its arguments unchanged and its semaphores at zero. -/
theorem ref_frame :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run _ _ _).mono (fun r h => ⟨fun c => (h c).2.2, Idealize.ShloMosaic.sem_eq_zero_of_no_sems (by decide) _⟩) (Cert.Reference4Ideal.Value.run (F := Ideal) m ρ)

end Cert.Out

end
-- ==== Proof.Out.Claims.lean ====
/-
  The claims about the output projection: the frames of its three programs and the equality of the kernel's results
  with the reference's.
-/
module

public import proofs.«01_k».proof.Defs
public import proofs.«01_k».proof.Proof.Out.Same
public import proofs.«01_k».proof.Proof.Out.Values
public import proofs.«01_k».proof.Proof.Out.RefValue

@[expose] public section

set_option maxRecDepth 65536
set_option maxHeartbeats 10000000

noncomputable section

namespace Cert.Out

open Idealize Idealize.ShloMosaic Idealize.ShloMosaic.TcCoe Idealize.ShloMosaic.StableHlo Idealize.SL.Sem

local instance : Cert.Kernel4.Facts := Cert.Kernel4.Gen.facts
local instance : Cert.Kernel4Ideal.Facts := Cert.Kernel4Ideal.Gen.facts
local instance : Cert.Reference4Ideal.Facts := Cert.Reference4Ideal.Gen.facts

/-- The frame, of any table equal to the kernel's. -/
theorem frame_table (m : (ℓ : Loc Cert.Kernel4Ideal.nD Cert.Kernel4Ideal.τ Cert.Kernel4Ideal.sig) → Buf (Elt Bits) ℓ) (g : Dev Cert.Kernel4Ideal.nD → PrngReg)
    (d) (hd : d = Cert.Kernel4Ideal.defs (F := Bits)) :
    θ_run d (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0) := by
  subst hd
  exact run_frame (F := Bits) m g

/-- The printed kernel leaves its arguments and every counter. -/
theorem frame_P : Cert.quiescent_Kernel4 (hKernel4 := Cert.Kernel4.Gen.facts) := fun m g _ =>
  frame_table m g _ defs_same

/-- So does the kernel over the extended reals. -/
theorem frame_PI : Cert.quiescent_Kernel4Ideal (hKernel4Ideal := Cert.Kernel4Ideal.Gen.facts) := fun m g _ =>
  run_frame (F := Ideal) m g

/-- The reference leaves its arguments; it has no counters. -/
theorem frame_RI : Cert.quiescent_Reference4Ideal (hReference4Ideal := Cert.Reference4Ideal.Gen.facts) := fun m g _ =>
  ref_frame m g

/-- The two results of the kernel, as the output projection of its arguments. -/
theorem kernel_run (m : (ℓ : Loc Cert.Kernel4Ideal.nD Cert.Kernel4Ideal.τ Cert.Kernel4Ideal.sig) → Buf (Elt Ideal) ℓ) (g : Dev Cert.Kernel4Ideal.nD → PrngReg) :
    θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
      r.2.mem ((c.tc : Thread Cert.Kernel4Ideal.nD Cert.Kernel4Ideal.τ).loc Cert.Kernel4Ideal.main_v0) = (fun j : Cert.Kernel4Ideal.S8192x4096.Idx => (outAt (AP m c) (RP m c) (WO m c) (HP m c) (j 0) (j 1) : EReal))
      ∧ r.2.mem ((c.tc : Thread Cert.Kernel4Ideal.nD Cert.Kernel4Ideal.τ).loc Cert.Kernel4Ideal.main_v3) = (fun j : Cert.Kernel4Ideal.S32x4096.Idx => (outAt (heads (AS m c)) (heads (RS m c)) (WO m c) (HS m c) (j 0) (j 1) : EReal))
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)) :=
  (θ_run Cert.Kernel4Ideal.defs _ _).mono (fun r h c => ⟨(h.1 c Cert.Kernel4Ideal.main_v0 (by decide)).trans (res0 m g c), (h.1 c Cert.Kernel4Ideal.main_v3 (by decide)).trans (res1 m g c),
     (h.1 c Cert.Kernel4Ideal.main_arg0 (by decide)).trans (Cert.Kernel4Ideal.Gen.W3_main_arg0 m g c),
     (h.1 c Cert.Kernel4Ideal.main_arg1 (by decide)).trans (Cert.Kernel4Ideal.Gen.W3_main_arg1 m g c),
     (h.1 c Cert.Kernel4Ideal.main_arg2 (by decide)).trans (Cert.Kernel4Ideal.Gen.W3_main_arg2 m g c),
     (h.1 c Cert.Kernel4Ideal.main_arg3 (by decide)).trans (Cert.Kernel4Ideal.Gen.W3_main_arg3 m g c),
     (h.1 c Cert.Kernel4Ideal.main_arg4 (by decide)).trans (Cert.Kernel4Ideal.Gen.W3_main_arg4 m g c),
     (h.1 c Cert.Kernel4Ideal.main_arg5 (by decide)).trans (Cert.Kernel4Ideal.Gen.W3_main_arg5 m g c),
     (h.1 c Cert.Kernel4Ideal.main_arg6 (by decide)).trans (Cert.Kernel4Ideal.Gen.W3_main_arg6 m g c)⟩)
    (run_all (F := Ideal) m g)

/-- The kernel and the reference, over the extended reals, end with equal results. -/
theorem algebraic : Cert.algebraic_Kernel4Ideal_Reference4Ideal (hKernel4Ideal := Cert.Kernel4Ideal.Gen.facts) (hReference4Ideal := Cert.Reference4Ideal.Gen.facts) := by
  intro m g m' g' _ hag
  refine ⟨fun c => (fun j : Cert.Kernel4Ideal.S8192x4096.Idx => (outAt (AP m c) (RP m c) (WO m c) (HP m c) (j 0) (j 1) : EReal)), fun c => (fun j : Cert.Kernel4Ideal.S32x4096.Idx => (outAt (heads (AS m c)) (heads (RS m c)) (WO m c) (HS m c) (j 0) (j 1) : EReal)), kernel_run m g, ?_⟩
  refine (θ_run Cert.Reference4Ideal.defs _ _).mono (fun r h c => ?_) (θ_run_and (ref_run m' g') (ref_frame m' g'))
  obtain ⟨e0, e1, e2, e3, e4, e5, e6⟩ := hag c
  obtain ⟨h0, h1⟩ := h.1 c
  have hp := congr (congr (congr (congrArg outAt e0) e1) e6) e2
  have hs := congr (congr (congr (congrArg outAt (congrArg heads e3)) (congrArg heads e4)) e6) e5
  exact ⟨h0.trans (funext fun j => congrFun (congrFun hp (j 0)) _), h1.trans (funext fun j => congrFun (congrFun hs (j 0)) _), h.2.1 c⟩

end Cert.Out

end
-- ==== Proof.SRet.Same.lean ====
/-
  The printed step of retention and its reading over the extended reals have one text, so one run serves both.
-/
module

public import proofs.«01_k».proof.Proof.Gen.Kernel5
public import proofs.«01_k».proof.Proof.Gen.Kernel5Ideal
public import Idealize.ShloMosaic.PureOps.BitExact

@[expose] public section

set_option maxRecDepth 65536
set_option maxHeartbeats 10000000

noncomputable section

namespace Cert.SRet

open Idealize Idealize.ShloMosaic Idealize.ShloMosaic.TcCoe Idealize.ShloMosaic.StableHlo Idealize.SL.Sem

/-- The tables of bodies are one. -/
theorem table_same : @Cert.Kernel5.defs₀ Bits _ Cert.Kernel5.Gen.facts = @Cert.Kernel5Ideal.defs₀ Bits _ Cert.Kernel5Ideal.Gen.facts := by
  unfold Cert.Kernel5.defs₀ Cert.Kernel5Ideal.defs₀
  refine congrArg Defs.onTc (funext fun l => funext fun a => ?_)
  match l, a with
  | 0, (t, s) => rfl

/-- So are the tables of the programs. -/
theorem defs_same : @Cert.Kernel5.defs Bits _ Cert.Kernel5.Gen.facts = @Cert.Kernel5Ideal.defs Bits _ Cert.Kernel5Ideal.Gen.facts :=
  congrArg (Pipeline.defs (@Cert.Kernel5Ideal.pcfgs Bits _)) table_same

end Cert.SRet
-- ==== Proof.SRet.Spec.lean ====
/-
  One step of retention over the extended reals, element by element: the state after the step, and the group-normalised,
  gated output. Both programs are shown to compute these.
-/
module

public import proofs.«01_k».proof.Proof.Ret.Spec

@[expose] public section

noncomputable section

namespace Cert.SRet

open Idealize Idealize.ShloMosaic Cert.Ret
open scoped BigOperators

/-- A 32 by 8192 array read by natural-number columns. -/
def rowOf (x : (⟨2, ![32, 8192]⟩ : Shape).Idx → EReal) (b : Fin 32) (j : ℕ) : EReal := x (ix2 b ⟨j % 8192, Nat.mod_lt _ (by decide)⟩)

/-- At a column in range it is the array's element. -/
theorem rowOf_eq (x : (⟨2, ![32, 8192]⟩ : Shape).Idx → EReal) (b : Fin 32) (j k : ℕ) (hj : j < 8192) (e : j = k) : x (ix2 b ⟨j, hj⟩) = rowOf x b k := by
  subst e
  unfold rowOf
  exact congrArg (fun n => x (ix2 b n)) (Fin.ext (Nat.mod_eq_of_lt hj).symm)

/-- The state after the step: the given state decayed, plus the outer product of the scaled key and the value. -/
def stAt (s : (⟨5, ![1, 32, 16, 128, 128]⟩ : Shape).Idx → EReal) (r : (⟨2, ![32, 8192]⟩ : Shape).Idx → EReal) (b : Fin 32) (h : Fin 16) (d e : Fin 128) : EReal :=
  s (ix5 0 b h d e) * qdT h 0 + rowOf r b (2048 + 128 * h + d) * dkS * rowOf r b (4096 + 128 * h + e)

/-- The output of a head before the normalisation: the sample against itself, and against the given state. -/
def oAt (s : (⟨5, ![1, 32, 16, 128, 128]⟩ : Shape).Idx → EReal) (r : (⟨2, ![32, 8192]⟩ : Shape).Idx → EReal) (b : Fin 32) (h : Fin 16) (e : Fin 128) : EReal :=
  (∑ d : Fin 128, rowOf r b (128 * h + d) * (rowOf r b (2048 + 128 * h + d) * dkS)) * rowOf r b (4096 + 128 * h + e)
    + ∑ d : Fin 128, rowOf r b (128 * h + d) * qdT h 0 * s (ix5 0 b h d e)

/-- The output of a head, normalised, scaled and gated. -/
def outAt (s : (⟨5, ![1, 32, 16, 128, 128]⟩ : Shape).Idx → EReal) (r : (⟨2, ![32, 8192]⟩ : Shape).Idx → EReal) (g : (⟨1, ![2048]⟩ : Shape).Idx → EReal)
    (b : Fin 32) (h : Fin 16) (e : Fin 128) : EReal :=
  gateS (oAt s r b h) (rowOf r b (6144 + 128 * h + e)) (vecOf g (128 * h + e)) e

end Cert.SRet

end
-- ==== Proof.SRet.Regions.lean ====
/-
  What the call of the sample's retention leaves in its two output arrays, from the arrays it finds.
-/
module

public import proofs.«01_k».proof.Proof.Gen.Kernel5Ideal.Frame
public import proofs.«01_k».proof.Proof.SRet.Spec
public import Idealize.ShloMosaic.Lib.Pipeline.ValueKit

@[expose] public section

set_option maxRecDepth 65536
set_option maxHeartbeats 4000000

noncomputable section

namespace Cert.SRet

open Idealize Idealize.ShloMosaic Idealize.ShloMosaic.TcCoe Idealize.ShloMosaic.StableHlo Idealize.ShloMosaic.Tactic
open Cert.Kernel5Ideal Cert.Kernel5Ideal.Gen
open Cert.Ret
open scoped BigOperators

/-- An index of one head's tile, by its last two coordinates. -/
theorem ix_one (x : S1x1x128x128.Idx) (d e : Fin 128) (h2 : (d : ℕ) = (x 2 : ℕ)) (h3 : (e : ℕ) = (x 3 : ℕ)) : x = ix4 0 0 d e := by
  funext a
  refine Fin.ext ?_
  match a with
  | ⟨0, _⟩ => have h := (x 0).isLt; change (x 0 : ℕ) < 1 at h; change (x 0 : ℕ) = 0; omega
  | ⟨1, _⟩ => have h := (x 1).isLt; change (x 1 : ℕ) < 1 at h; change (x 1 : ℕ) = 0; omega
  | ⟨2, _⟩ => exact h2.symm
  | ⟨3, _⟩ => exact h3.symm

/-- The state tile of one sample: all sixteen heads. -/
theorem tile5 (x0 : Vec Ideal S1x16x128x128 .f32) (x1 : Vec Ideal S1x4x16x128 .f32) (x2 x3 : Vec Ideal S16x128 .f32) (h : Fin 16) (d e : Fin 128) :
    out0_5 x0 x1 x2 x3 (ix4 0 h d e) = x0 (ix4 0 h d e) * x2 (ix2 h e) + x1 (ix4 0 1 h d) * dkS * x1 (ix4 0 2 h e) := by
  obtain ⟨n, hn⟩ := h
  unfold_out out0_5
  canon_tiles x g
  all_goals
    obtain rfl := ix_one x d e g2 g3
    have gn : n = _ := g1
    subst gn
    unfold_payloads
    pointwise
    try rfl

/-- An index of one head's row, by its last coordinate. -/
theorem ix_row (x : S1x128.Idx) (e : Fin 128) (h1 : (x 1 : ℕ) = (e : ℕ)) : x = ix2 0 e := by
  funext a
  refine Fin.ext ?_
  match a with
  | ⟨0, _⟩ => have h := (x 0).isLt; change (x 0 : ℕ) < 1 at h; change (x 0 : ℕ) = 0; omega
  | ⟨1, _⟩ => exact h1

/-- The output of head `h` before the normalisation, from the blocks of the call. -/
def oB (x0 : Vec Ideal S1x16x128x128 .f32) (x1 : Vec Ideal S1x4x16x128 .f32) (x2 : Vec Ideal S16x128 .f32) (h : Fin 16) (e : Fin 128) : EReal :=
  (∑ d : Fin 128, x1 (ix4 0 0 h d) * (x1 (ix4 0 1 h d) * dkS)) * x1 (ix4 0 2 h e)
    + ∑ d : Fin 128, x1 (ix4 0 0 h d) * x2 (ix2 h d) * x0 (ix4 0 h d e)

/-- The normalisation and the gate, from the parts of the output. -/
theorem pay1_val (v9 v17 v298 v300 v302 : Vec Ideal S16x128 .f32) (h : Fin 16) (e : Fin 128) :
    k0_pay1 (F := Ideal) v9 v17 v298 v300 v302 (ix3 0 h e)
      = gateS (fun e => v298 (ix2 h e) * v17 (ix2 h e) + v300 (ix2 h e)) (v9 (ix2 h e)) (v302 (ix2 h e)) e := by
  unfold k0_pay1
  pointwise
  try rfl

/-- The output tile of one sample: all sixteen heads. -/
theorem tile4 (x0 : Vec Ideal S1x16x128x128 .f32) (x1 : Vec Ideal S1x4x16x128 .f32) (x2 x3 : Vec Ideal S16x128 .f32) (h : Fin 16) (e : Fin 128) :
    out0_4 x0 x1 x2 x3 (ix3 0 h e) = gateS (oB x0 x1 x2 h) (x1 (ix4 0 3 h e)) (x3 (ix2 h e)) e := by
  obtain ⟨n, hn⟩ := h
  unfold_out out0_4
  rw [View.canon_cons_unit_lit _ _ _ (by decide)]
  refine (pay1_val _ _ _ _ _ ⟨n, hn⟩ e).trans ?_
  congr 1
  · funext f
    unfold oB
    refine congrArg₂ (· + ·) ?_ ?_
    · unfold_payloads
      pointwise
      try rfl
    · concat_tiles i g
      all_goals
        obtain rfl := ix_row i f g1
        have gn : n = _ := g
        subst gn
        unfold_payloads
        pointwise
        try rfl
  · unfold_payloads
    pointwise
    try rfl
  · pointwise
    try rfl

/-- The blocks a point of the call works on. -/
theorem idx0 : ∀ t : Fin cfg0.N, win0_0.index t = ![t.val, 0, 0, 0] ∧ win0_1.index t = ![t.val, 0, 0, 0] ∧ win0_2.index t = ![0, 0]
    ∧ win0_3.index t = ![0, 0] ∧ win0_4.index t = ![t.val, 0, 0] ∧ win0_5.index t = ![t.val, 0, 0, 0] := by decide +kernel

variable (m : (ℓ : Loc nD τ sig) → Buf (Elt Ideal) ℓ) (c : Dev nD)

/-- The given states, as the call finds them. -/
abbrev VS : S32x16x128x128.Idx → EReal := V m c main_v0
/-- The queries, keys, values and gates, as the call finds them. -/
abbrev VR : S32x4x16x128.Idx → EReal := V m c main_v1
/-- The decays, as the call finds them. -/
abbrev VD : S16x128.Idx → EReal := V m c main_v41
/-- The scales, as the call finds them. -/
abbrev VG : S16x128.Idx → EReal := V m c main_v42

/-- The states the call leaves, from the arrays it finds. -/
theorem final5 : (dats m 0 c).arrAt 5 cfg0.N = fun j : S32x16x128x128.Idx =>
    (VS m c (ix4 (j 0) (j 1) (j 2) (j 3)) * VD m c (ix2 (j 1) (j 3))
      + VR m c (ix4 (j 0) 1 (j 1) (j 2)) * dkS * VR m c (ix4 (j 0) 2 (j 1) (j 3)) : EReal) := by
  refine (dats m 0 c).arrAt_eq_of_covers 5 _ (by decide +kernel) fun t hf y => ?_
  obtain ⟨e0, e1, e2, e3, e4, e5⟩ := idx0 t
  blk_simp
  rw [after0_5]
  have ht : t.val < 32 := t.isLt
  have h0 : (y 0).val < 1 := (y 0).isLt
  have h1 : (y 1).val < 16 := (y 1).isLt
  have h2 : (y 2).val < 128 := (y 2).isLt
  have h3 : (y 3).val < 128 := (y 3).isLt
  have hy : y = ix4 (n0 := 1) (n1 := 16) (n2 := 128) (n3 := 128) 0 ⟨_, h1⟩ ⟨_, h2⟩ ⟨_, h3⟩ := by
    refine (eq_ix4 (n0 := 1) (n1 := 16) (n2 := 128) (n3 := 128) y).trans ?_
    exact congrArg (fun z => ix4 z _ _ _) (Fin.ext (show (y 0).val = 0 by omega))
  refine (congrArg (out0_5 _ _ _ _) hy).trans ((tile5 _ _ _ _ ⟨_, h1⟩ ⟨_, h2⟩ ⟨_, h3⟩).trans ?_)
  refine congrArg₂ (· + ·) (congrArg₂ (· * ·) ?_ ?_) (congrArg₂ (· * ·) (congrArg (· * dkS) ?_) ?_)
  · blk_simp [iblk]
    exact congrArg _ (by blk_ext [e0, e5])
  · blk_simp [iblk]
    exact congrArg _ (by blk_ext [e2, e5])
  · blk_simp [iblk]
    exact congrArg _ (by blk_ext [e1, e5])
  · blk_simp [iblk]
    exact congrArg _ (by blk_ext [e1, e5])

/-- The output before the normalisation, from the arrays the call finds. -/
def oV (b : Fin 32) (h : Fin 16) (e : Fin 128) : EReal :=
  (∑ d : Fin 128, VR m c (ix4 b 0 h d) * (VR m c (ix4 b 1 h d) * dkS)) * VR m c (ix4 b 2 h e)
    + ∑ d : Fin 128, VR m c (ix4 b 0 h d) * VD m c (ix2 h d) * VS m c (ix4 b h d e)

/-- The outputs the call leaves, from the arrays it finds. -/
theorem final4 : (dats m 0 c).arrAt 4 cfg0.N = fun j : S32x16x128.Idx =>
    (gateS (oV m c (j 0) (j 1)) (VR m c (ix4 (j 0) 3 (j 1) (j 2))) (VG m c (ix2 (j 1) (j 2))) (j 2) : EReal) := by
  refine (dats m 0 c).arrAt_eq_of_covers 4 _ (by decide +kernel) fun t hf y => ?_
  obtain ⟨e0, e1, e2, e3, e4, e5⟩ := idx0 t
  blk_simp
  rw [after0_4]
  have ht : t.val < 32 := t.isLt
  have h0 : (y 0).val < 1 := (y 0).isLt
  have h1 : (y 1).val < 16 := (y 1).isLt
  have h2 : (y 2).val < 128 := (y 2).isLt
  have hy : y = ix3 (n0 := 1) (n1 := 16) (n2 := 128) 0 ⟨_, h1⟩ ⟨_, h2⟩ := by
    refine (eq_ix3 (n0 := 1) (n1 := 16) (n2 := 128) y).trans ?_
    exact congrArg (fun z => ix3 z _ _) (Fin.ext (show (y 0).val = 0 by omega))
  refine (congrArg (out0_4 _ _ _ _) hy).trans ((tile4 _ _ _ _ ⟨_, h1⟩ ⟨_, h2⟩).trans ?_)
  refine congr (congr (congr (congrArg gateS (funext fun e => ?_)) ?_) ?_) ?_
  · unfold oB oV
    refine congrArg₂ (· + ·) (congrArg₂ (· * ·) (Finset.sum_congr rfl fun d _ => congrArg₂ (· * ·) ?_ (congrArg (· * dkS) ?_)) ?_)
      (Finset.sum_congr rfl fun d _ => congrArg₂ (· * ·) (congrArg₂ (· * ·) ?_ ?_) ?_)
    · blk_simp [iblk]
      exact congrArg _ (by blk_ext [e1, e4])
    · blk_simp [iblk]
      exact congrArg _ (by blk_ext [e1, e4])
    · blk_simp [iblk]
      exact congrArg _ (by blk_ext [e1, e4])
    · blk_simp [iblk]
      exact congrArg _ (by blk_ext [e1, e4])
    · blk_simp [iblk]
      exact congrArg _ (by blk_ext [e2, e4])
    · blk_simp [iblk]
      exact congrArg _ (by blk_ext [e0, e4])
  · blk_simp [iblk]
    exact congrArg _ (by blk_ext [e1, e4])
  · blk_simp [iblk]
    exact congrArg _ (by blk_ext [e3, e4])
  · refine Fin.ext ?_
    blk_simp
    simp [e4]

end Cert.SRet

end
-- ==== Proof.SRet.Values.lean ====
/-
  What the call of the sample's retention leaves in its two results, from the launch arrays.
-/
module

public import proofs.«01_k».proof.Proof.SRet.Regions

@[expose] public section

set_option maxRecDepth 65536
set_option maxHeartbeats 4000000

noncomputable section

namespace Cert.SRet

open Idealize Idealize.ShloMosaic Idealize.ShloMosaic.TcCoe Idealize.ShloMosaic.StableHlo Idealize.ShloMosaic.Tactic Idealize.SL.Sem
open Cert.Kernel5Ideal Cert.Kernel5Ideal.Gen Cert.Ret
open scoped BigOperators

variable (m : (ℓ : Loc nD τ sig) → Buf (Elt Ideal) ℓ) (c : Dev nD)

/-- The given states. -/
abbrev SK : S1x32x16x128x128.Idx → EReal := m ((c.tc : Thread nD τ).loc main_arg0)
/-- The projected rows. -/
abbrev RK : S32x8192.Idx → EReal := m ((c.tc : Thread nD τ).loc main_arg1)
/-- The scales. -/
abbrev GK : S2048.Idx → EReal := m ((c.tc : Thread nD τ).loc main_arg2)

/-- The states the call finds. -/
theorem V_s (b : Fin 32) (h : Fin 16) (d e : Fin 128) : VS m c (ix4 b h d e) = SK m c (ix5 0 b h d e) := by
  unfold VS V
  simp only [hostOps0, hostOps0_1, hostOps0_2, List.flatten_cons, List.flatten_nil, List.append_nil, List.cons_append, List.nil_append]
  after_results_simp
  pointwise

/-- The rows the call finds: part `p` of four, head `h`. -/
theorem V_r (b : Fin 32) (p : Fin 4) (h : Fin 16) (d : Fin 128) (n : ℕ) (hn : 2048 * p.val + 128 * h.val + d.val = n) :
    VR m c (ix4 b p h d) = rowOf (RK m c) b n := by
  unfold VR V
  simp only [hostOps0, hostOps0_1, hostOps0_2, List.flatten_cons, List.flatten_nil, List.append_nil, List.cons_append, List.nil_append]
  after_results_simp
  pointwise
  exact rowOf_eq _ _ _ _ (by omega) (by omega)

/-- The decays the call finds. -/
theorem V_d (h : Fin 16) (d : Fin 128) : VD m c (ix2 h d) = qdT h 0 := by
  unfold VD V
  simp only [hostOps0, hostOps0_1, hostOps0_2, List.flatten_cons, List.flatten_nil, List.append_nil, List.cons_append, List.nil_append]
  after_results_simp
  pointwise
  rfl

/-- The scales the call finds. -/
theorem V_g (h : Fin 16) (d : Fin 128) : VG m c (ix2 h d) = vecOf (GK m c) (128 * h + d) := by
  unfold VG V
  simp only [hostOps0, hostOps0_1, hostOps0_2, List.flatten_cons, List.flatten_nil, List.append_nil, List.cons_append, List.nil_append]
  after_results_simp
  pointwise
  rw [Nat.mul_comm 128 h.val]
  exact vecOf_eq _ _ _

/-- The states after the step. -/
theorem res_s : (dats m 0 c).arrAt 5 cfg0.N = fun j : S32x16x128x128.Idx => (stAt (SK m c) (RK m c) (j 0) (j 1) (j 2) (j 3) : EReal) := by
  refine (final5 m c).trans (funext fun j => ?_)
  unfold stAt
  rw [V_s m c (j 0) (j 1) (j 2) (j 3), V_d m c (j 1) (j 3), V_r m c (j 0) 1 (j 1) (j 2) (2048 + 128 * (j 1).val + (j 2).val) rfl,
    V_r m c (j 0) 2 (j 1) (j 3) (4096 + 128 * (j 1).val + (j 3).val) rfl]

/-- The output before the normalisation. -/
theorem oV_eq (b : Fin 32) (h : Fin 16) : oV m c b h = oAt (SK m c) (RK m c) b h := by
  funext e
  unfold oV oAt
  refine congrArg₂ (· + ·) (congrArg₂ (· * ·) (Finset.sum_congr rfl fun d _ => congrArg₂ (· * ·) ?_ (congrArg (· * dkS) ?_)) ?_)
    (Finset.sum_congr rfl fun d _ => congrArg₂ (· * ·) (congrArg₂ (· * ·) ?_ ?_) ?_)
  · exact V_r m c b 0 h d _ (by simp)
  · exact V_r m c b 1 h d _ rfl
  · exact V_r m c b 2 h e _ rfl
  · exact V_r m c b 0 h d _ (by simp)
  · exact V_d m c h d
  · exact V_s m c b h d e

/-- The outputs. -/
theorem res_o : (dats m 0 c).arrAt 4 cfg0.N = fun j : S32x16x128.Idx => (outAt (SK m c) (RK m c) (GK m c) (j 0) (j 1) (j 2) : EReal) := by
  refine (final4 m c).trans (funext fun j => ?_)
  unfold outAt
  rw [oV_eq m c (j 0) (j 1), V_r m c (j 0) 3 (j 1) (j 2) (6144 + 128 * (j 1).val + (j 2).val) rfl, V_g m c (j 1) (j 2)]

end Cert.SRet

end
-- ==== Proof.SRet.RefValue.lean ====
/-
  What the reference's single step of retention computes, element by element.
-/
module

public import proofs.«01_k».proof.Proof.Gen.Reference5Ideal.Run
public import proofs.«01_k».proof.Proof.SRet.Spec
public import Idealize.ShloMosaic.Lib.IdealHost

@[expose] public section

set_option maxRecDepth 65536
set_option maxHeartbeats 4000000

noncomputable section

namespace Cert.SRet

open Idealize Idealize.ShloMosaic Idealize.ShloMosaic.TcCoe Idealize.ShloMosaic.StableHlo Idealize.SL.Sem
open Cert.Reference5Ideal Cert.Reference5Ideal.Gen Cert.Ret
open scoped BigOperators

/-- The number of the only row is zero. -/
theorem nat_zero : natE 0 = 0 := by
  show (((BitVec.ofNat 32 0).toInt : ℝ) : EReal) = 0
  simp

/-- The exponential of zero is one. -/
theorem exp_zero : Ideal.exp 0 = 1 := by
  show ((Real.exp 0 : ℝ) : EReal) = 1
  simp

/-- The logarithms of the decays. -/
def lgR : FVec Ideal S16 .f32 := Host.log1p (Host.negf (Host.exp (mulf (broadcastInDim S16 ![] bcast_S_S16 (constant S_ .f32 0x3F317218#32)) (subf (broadcastInDim S16 ![] bcast_S_S16 (constant S_ .f32 0xC0A00000#32)) (sitofp .f32 (iotaInDim S16 32 0))))))

/-- Their values. -/
theorem lgR_at (h : Fin 16) : lgR (ix1 h) = lgT h := by
  unfold lgR
  pointwise
  rfl

/-- The decay inside the step. -/
def inR : FVec Ideal S16x1x1 .f32 := select (broadcastInDim S16x1x1 ![1, 2] bcast_S1x1_S16x1x1_1_2 (cmpf .oge (subf (broadcastInDim S1x1 ![0] bcast_S1_S1x1_0 (sitofp .f32 (iotaInDim S1 32 0))) (broadcastInDim S1x1 ![1] bcast_S1_S1x1_1 (sitofp .f32 (iotaInDim S1 32 0))) : FVec Ideal S1x1 .f32) (broadcastInDim S1x1 ![] bcast_S_S1x1 (constant S_ .f32 0x00000000#32)))) (Host.exp (mulf (broadcastInDim S16x1x1 ![0, 1, 2] bcast_S1x1x1_S16x1x1_0_1_2 (broadcastInDim S1x1x1 ![1, 2] bcast_S1x1_S1x1x1_1_2 (maximumf (subf (broadcastInDim S1x1 ![0] bcast_S1_S1x1_0 (sitofp .f32 (iotaInDim S1 32 0))) (broadcastInDim S1x1 ![1] bcast_S1_S1x1_1 (sitofp .f32 (iotaInDim S1 32 0)))) (broadcastInDim S1x1 ![] bcast_S_S1x1 (constant S_ .f32 0x00000000#32))))) (broadcastInDim S16x1x1 ![0] bcast_S16_S16x1x1_0 lgR))) (broadcastInDim S16x1x1 ![] bcast_S_S16x1x1 (id (constant S_ .f32 0x00000000#32)))

/-- It is one. -/
theorem inR_at (h : Fin 16) : inR (ix3 h 0 0) = 1 := by
  unfold inR
  pointwise
  change (if 0 ≤ natE 0 - natE 0 then Ideal.exp (max (natE 0 - natE 0) 0 * lgR (ix1 h)) else Ideal.ofBits FTy.f32 0#32) = 1
  rw [nat_zero, sub_zero, max_self, zero_mul, exp_zero, if_pos le_rfl]

/-- The decay of the given state seen by the query. -/
def qdR : FVec Ideal S1x16 .f32 := Host.exp (mulf (broadcastInDim S1x16 ![0, 1] bcast_S1x1_S1x16_0_1 (addf (broadcastInDim S1x1 ![0] bcast_S1_S1x1_0 (sitofp .f32 (iotaInDim S1 32 0))) (broadcastInDim S1x1 ![] bcast_S_S1x1 (constant S_ .f32 0x3F800000#32)))) (broadcastInDim S1x16 ![1] bcast_S16_S1x16_1 lgR))

/-- Its value. -/
theorem qdR_at (h : Fin 16) : qdR (ix2 0 h) = qdT h 0 := by
  unfold qdR
  pointwise [lgR_at]
  rfl

/-- The decay of the key to the end of the step. -/
def kdR : FVec Ideal S1x16 .f32 := Host.exp (mulf (broadcastInDim S1x16 ![0, 1] bcast_S1x1_S1x16_0_1 (broadcastInDim S1x1 ![0] bcast_S1_S1x1_0 (subf (broadcastInDim S1 ![] bcast_S_S1 (constant S_ .f32 0x00000000#32)) (sitofp .f32 (iotaInDim S1 32 0))))) (broadcastInDim S1x16 ![1] bcast_S16_S1x16_1 lgR))

/-- It is one. -/
theorem kdR_at (h : Fin 16) : kdR (ix2 0 h) = 1 := by
  unfold kdR
  pointwise [lgR_at]
  change Ideal.exp ((0 - natE 0) * lgT h) = 1
  rw [nat_zero, sub_zero, zero_mul, exp_zero]

/-- The decay of the given state over the step. -/
def cdR : FVec Ideal S16 .f32 := Host.exp (mulf (broadcastInDim S16 ![] bcast_S_S16 (constant S_ .f32 0x3F800000#32)) lgR)

/-- It is the decay seen by the query. -/
theorem cdR_at (h : Fin 16) : cdR (ix1 h) = qdT h 0 := by
  unfold cdR
  pointwise [lgR_at]
  unfold qdT
  rw [nat_zero, zero_add, one_mul]

/-- The queries. -/
def qR (r : FVec Ideal S32x8192 .f32) : FVec Ideal S32x1x16x128 .f32 := shapeCast _ (extractStridedSlice S32x1x2048 ![0, 0, 0] (shapeCast _ r shapeCasts_S32x8192_S32x1x8192) slices_S32x1x8192_S32x1x2048_0_0_0) shapeCasts_S32x1x2048_S32x1x16x128

/-- The keys, scaled. -/
def kR (r : FVec Ideal S32x8192 .f32) : FVec Ideal S32x1x16x128 .f32 := mulf (shapeCast _ (extractStridedSlice S32x1x2048 ![0, 0, 2048] (shapeCast _ r shapeCasts_S32x8192_S32x1x8192) slices_S32x1x8192_S32x1x2048_0_0_2048) shapeCasts_S32x1x2048_S32x1x16x128) (broadcastInDim S32x1x16x128 ![] bcast_S_S32x1x16x128 (constant S_ .f32 0x3DB504F3#32))

/-- The values. -/
def vR (r : FVec Ideal S32x8192 .f32) : FVec Ideal S32x1x16x128 .f32 := shapeCast _ (extractStridedSlice S32x1x2048 ![0, 0, 4096] (shapeCast _ r shapeCasts_S32x8192_S32x1x8192) slices_S32x1x8192_S32x1x2048_0_0_4096) shapeCasts_S32x1x2048_S32x1x16x128

/-- The queries, element by element. -/
theorem qR_at (r : FVec Ideal S32x8192 .f32) (b : Fin 32) (h : Fin 16) (d : Fin 128) : qR r (ix4 b 0 h d) = rowOf r b (128 * h + d) := by
  unfold qR
  pointwise
  exact rowOf_eq _ _ _ _ (by omega) (by omega)

/-- The keys, element by element. -/
theorem kR_at (r : FVec Ideal S32x8192 .f32) (b : Fin 32) (h : Fin 16) (d : Fin 128) : kR r (ix4 b 0 h d) = rowOf r b (2048 + 128 * h + d) * dkS := by
  unfold kR
  pointwise
  exact congrArg (· * dkS) (rowOf_eq _ _ _ _ (by omega) (by omega))

/-- The values, element by element. -/
theorem vR_at (r : FVec Ideal S32x8192 .f32) (b : Fin 32) (h : Fin 16) (d : Fin 128) : vR r (ix4 b 0 h d) = rowOf r b (4096 + 128 * h + d) := by
  unfold vR
  pointwise
  exact rowOf_eq _ _ _ _ (by omega) (by omega)

/-- The states after the step, as the reference composes them. -/
def stR (s : FVec Ideal S1x32x16x128x128 .f32) (r : FVec Ideal S32x8192 .f32) : FVec Ideal S32x16x128x128 .f32 :=
  addf (mulf (shapeCast _ s shapeCasts_S1x32x16x128x128_S32x16x128x128) (broadcastInDim S32x16x128x128 ![0, 1, 2, 3] bcast_S1x16x1x1_S32x16x128x128_0_1_2_3 (broadcastInDim S1x16x1x1 ![1] bcast_S16_S1x16x1x1_1 cdR))) (Host.dotGeneral dot_S32x1x16x128_S32x1x16x128_S32x16x128x128_1_1_3_3_02_02 none (mulf (kR r) (broadcastInDim S32x1x16x128 ![0, 1, 2, 3] bcast_S1x1x16x1_S32x1x16x128_0_1_2_3 (broadcastInDim S1x1x16x1 ![1, 2] bcast_S1x16_S1x1x16x1_1_2 kdR))) (vR r))

/-- Their value, element by element. -/
theorem stR_at (s : FVec Ideal S1x32x16x128x128 .f32) (r : FVec Ideal S32x8192 .f32) (b : Fin 32) (h : Fin 16) (d e : Fin 128) :
    stR s r (ix4 b h d e) = stAt s r b h d e := by
  unfold stR
  pointwise [cdR_at, kdR_at, kR_at, vR_at]
  unfold stAt
  refine congrArg (_ + ·) ((Fin.sum_univ_one _).trans ?_)
  rw [kR_at, vR_at]

/-- The output before the normalisation, as the reference composes it. -/
def oR (s : FVec Ideal S1x32x16x128x128 .f32) (r : FVec Ideal S32x8192 .f32) : FVec Ideal S32x1x16x128 .f32 :=
  addf (transpose S32x1x16x128 [0, 3, 1, 2] (Host.dotGeneral dot_S32x1x16x128_S32x16x1x1_S32x16x128x1_1_3_3_2_02_01 none (vR r) (mulf (Host.dotGeneral dot_S32x1x16x128_S32x1x16x128_S32x16x1x1_3_3_1_1_02_02 none (qR r) (kR r)) (broadcastInDim S32x16x1x1 ![0, 1, 2, 3] bcast_S1x16x1x1_S32x16x1x1_0_1_2_3 (broadcastInDim S1x16x1x1 ![1, 2, 3] bcast_S16x1x1_S1x16x1x1_1_2_3 inR)))) transposes_S32x16x128x1_S32x1x16x128_0_3_1_2) (transpose S32x1x16x128 [0, 3, 1, 2] (Host.dotGeneral dot_S32x16x128x128_S32x1x16x128_S32x16x128x1_2_3_3_1_01_02 none (shapeCast _ s shapeCasts_S1x32x16x128x128_S32x16x128x128) (mulf (qR r) (broadcastInDim S32x1x16x128 ![0, 1, 2, 3] bcast_S1x1x16x1_S32x1x16x128_0_1_2_3 (broadcastInDim S1x1x16x1 ![1, 2] bcast_S1x16_S1x1x16x1_1_2 qdR)))) transposes_S32x16x128x1_S32x1x16x128_0_3_1_2)

/-- Its value, element by element. -/
theorem oR_at (s : FVec Ideal S1x32x16x128x128 .f32) (r : FVec Ideal S32x8192 .f32) (b : Fin 32) (h : Fin 16) (e : Fin 128) :
    oR s r (ix4 b 0 h e) = oAt s r b h e := by
  unfold oR
  pointwise [inR_at, qdR_at, kR_at, vR_at, qR_at]
  unfold oAt
  refine congrArg₂ (· + ·) ((Fin.sum_univ_one _).trans ?_) (Finset.sum_congr rfl fun d _ => mul_comm _ _)
  rw [vR_at, mul_comm]
  refine congrArg (· * _) (Finset.sum_congr rfl fun d _ => congrArg (_ * ·) (kR_at r b h d))

/-- The mean of a head. -/
def muR (o : FVec Ideal S32x1x16x128 .f32) : FVec Ideal S32x1x16x1 .f32 := Host.divf (broadcastInDim S32x1x16x1 ![0, 1, 2] bcast_S32x1x16_S32x1x16x1_0_1_2 (Host.reduceAdd o (constant S_ .f32 0x00000000#32) reducesTo_S32x1x16x128_S32x1x16_d3 h_S_)) (broadcastInDim S32x1x16x1 ![] bcast_S_S32x1x16x1 (constant S_ .f32 0x43000000#32))

/-- The normalised output. -/
def nmR (o : FVec Ideal S32x1x16x128 .f32) : FVec Ideal S32x1x16x128 .f32 := mulf (subf o (broadcastInDim S32x1x16x128 ![0, 1, 2, 3] bcast_S32x1x16x1_S32x1x16x128_0_1_2_3 (muR o))) (broadcastInDim S32x1x16x128 ![0, 1, 2, 3] bcast_S32x1x16x1_S32x1x16x128_0_1_2_3 (Host.rsqrt (addf (Host.divf (broadcastInDim S32x1x16x1 ![0, 1, 2] bcast_S32x1x16_S32x1x16x1_0_1_2 (Host.reduceAdd (mulf (subf o (broadcastInDim S32x1x16x128 ![0, 1, 2, 3] bcast_S32x1x16x1_S32x1x16x128_0_1_2_3 (muR o))) (subf o (broadcastInDim S32x1x16x128 ![0, 1, 2, 3] bcast_S32x1x16x1_S32x1x16x128_0_1_2_3 (muR o)))) (constant S_ .f32 0x00000000#32) reducesTo_S32x1x16x128_S32x1x16_d3 h_S_)) (broadcastInDim S32x1x16x1 ![] bcast_S_S32x1x16x1 (constant S_ .f32 0x43000000#32))) (broadcastInDim S32x1x16x1 ![] bcast_S_S32x1x16x1 (constant S_ .f32 0x358637BD#32)))))

/-- The gate. -/
def gtR (r : FVec Ideal S32x8192 .f32) : FVec Ideal S32x1x2048 .f32 := mulf (extractStridedSlice S32x1x2048 ![0, 0, 6144] (shapeCast _ r shapeCasts_S32x8192_S32x1x8192) slices_S32x1x8192_S32x1x2048_0_0_6144) (Host.divf (broadcastInDim S32x1x2048 ![] bcast_S_S32x1x2048 (constant S_ .f32 0x3F800000#32)) (addf (broadcastInDim S32x1x2048 ![] bcast_S_S32x1x2048 (constant S_ .f32 0x3F800000#32)) (Host.exp (Host.negf (extractStridedSlice S32x1x2048 ![0, 0, 6144] (shapeCast _ r shapeCasts_S32x8192_S32x1x8192) slices_S32x1x8192_S32x1x2048_0_0_6144)))))

/-- The result, as the reference composes it. -/
def outR (s : FVec Ideal S1x32x16x128x128 .f32) (r : FVec Ideal S32x8192 .f32) (g : FVec Ideal S2048 .f32) : FVec Ideal S32x16x128 .bf16 :=
  truncf .bf16 (shapeCast _ (mulf (gtR r) (mulf (shapeCast _ (nmR (oR s r)) shapeCasts_S32x1x16x128_S32x1x2048) (broadcastInDim S32x1x2048 ![0, 1, 2] bcast_S1x1x2048_S32x1x2048_0_1_2 (broadcastInDim S1x1x2048 ![2] bcast_S2048_S1x1x2048_2 g)))) shapeCasts_S32x1x2048_S32x16x128) bitsLt_bf16_f32

/-- Its value, element by element. -/
theorem outR_at (s : FVec Ideal S1x32x16x128x128 .f32) (r : FVec Ideal S32x8192 .f32) (g : FVec Ideal S2048 .f32) (b : Fin 32) (h : Fin 16) (e : Fin 128) :
    outR s r g (ix3 b h e) = outAt s r g b h e := by
  unfold outR nmR muR gtR
  pointwise [oR_at]
  rw [rowOf_eq r b _ (6144 + 128 * h + e) (by omega) (by omega), vecOf_eq g _ (by omega), Nat.mul_comm h.val 128, ← zero_sub]
  rfl

end Cert.SRet

end
-- ==== Proof.SRet.RefRun.lean ====
/-
  Every run of the reference ends with its results at the step of retention, its arguments unchanged.
-/
module

public import proofs.«01_k».proof.Proof.SRet.RefValue

@[expose] public section

set_option maxRecDepth 65536
set_option maxHeartbeats 4000000

noncomputable section

namespace Cert.SRet

open Idealize Idealize.ShloMosaic Idealize.ShloMosaic.TcCoe Idealize.ShloMosaic.StableHlo Idealize.SL.Sem
open Cert.Reference5Ideal Cert.Reference5Ideal.Gen Cert.Ret
open scoped BigOperators

variable (m : (ℓ : Loc nD τ sig) → Buf (Elt Ideal) ℓ) (ρ : Dev nD → PrngReg) (c : Dev nD)

/-- The composed output is the reference's. -/
theorem res_eq : Cert.Reference5Ideal.Value.res_main_v95 m c = outR (m ((c.tc : Thread nD τ).loc main_arg0)) (m ((c.tc : Thread nD τ).loc main_arg1)) (m ((c.tc : Thread nD τ).loc main_arg2)) := by
  unfold Cert.Reference5Ideal.Value.res_main_v95 outR nmR muR gtR oR qR kR vR inR qdR lgR
  rfl

/-- Every run of the reference ends with its two results at the step of retention of its arguments. -/
theorem ref_run :
    θ_run (defs (F := Ideal)) (onTc (τ := τ) (main (F := Ideal))) ⟨m, fun _ => 0, ρ⟩ fun r => ∀ c : Dev nD,
      r.2.mem ((c.tc : Thread nD τ).loc main_v95) = (fun j : S32x16x128.Idx => (outAt (m ((c.tc : Thread nD τ).loc main_arg0)) (m ((c.tc : Thread nD τ).loc main_arg1))
        (m ((c.tc : Thread nD τ).loc main_arg2)) (j 0) (j 1) (j 2) : EReal))
      ∧ r.2.mem ((c.tc : Thread nD τ).loc main_v69) = (fun j : S32x16x128x128.Idx => (stAt (m ((c.tc : Thread nD τ).loc main_arg0)) (m ((c.tc : Thread nD τ).loc main_arg1))
        (j 0) (j 1) (j 2) (j 3) : EReal)) := by
  refine (θ_run _ _ _).mono (fun r h c => ?_) (Cert.Reference5Ideal.Value.run (F := Ideal) m ρ)
  obtain ⟨h0, h1, -⟩ := h c
  refine ⟨h0.trans ((res_eq m c).trans (funext fun j => (congrArg _ (eq_ix3 (n0 := 32) (n1 := 16) (n2 := 128) j)).trans (outR_at _ _ _ (j 0) (j 1) (j 2)))),
    h1.trans (funext fun j => (congrArg _ (eq_ix4 (n0 := 32) (n1 := 16) (n2 := 128) (n3 := 128) j)).trans (stR_at _ _ (j 0) (j 1) (j 2) (j 3)))⟩

/-- Every run of the reference leaves its arguments unchanged and its semaphores at zero. -/
theorem ref_frame :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run _ _ _).mono (fun r h => ⟨fun c => (h c).2.2, Idealize.ShloMosaic.sem_eq_zero_of_no_sems (by decide) _⟩) (Cert.Reference5Ideal.Value.run (F := Ideal) m ρ)

end Cert.SRet

end
-- ==== Proof.SRet.Claims.lean ====
/-
  The claims about the sample's step of retention: the frames of its three programs and the equality of the kernel's results
  with the reference's.
-/
module

public import proofs.«01_k».proof.Defs
public import proofs.«01_k».proof.Proof.SRet.Same
public import proofs.«01_k».proof.Proof.SRet.Values
public import proofs.«01_k».proof.Proof.SRet.RefRun

@[expose] public section

set_option maxRecDepth 65536
set_option maxHeartbeats 10000000

noncomputable section

namespace Cert.SRet

open Idealize Idealize.ShloMosaic Idealize.ShloMosaic.TcCoe Idealize.ShloMosaic.StableHlo Idealize.SL.Sem

local instance : Cert.Kernel5.Facts := Cert.Kernel5.Gen.facts
local instance : Cert.Kernel5Ideal.Facts := Cert.Kernel5Ideal.Gen.facts
local instance : Cert.Reference5Ideal.Facts := Cert.Reference5Ideal.Gen.facts

/-- The frame, of any table equal to the kernel's. -/
theorem frame_table (m : (ℓ : Loc Cert.Kernel5Ideal.nD Cert.Kernel5Ideal.τ Cert.Kernel5Ideal.sig) → Buf (Elt Bits) ℓ) (g : Dev Cert.Kernel5Ideal.nD → PrngReg)
    (d) (hd : d = Cert.Kernel5Ideal.defs (F := Bits)) :
    θ_run d (onTc (τ := Cert.Kernel5Ideal.τ) (Cert.Kernel5Ideal.main (F := Bits))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0) := by
  subst hd
  exact Cert.Kernel5Ideal.Gen.frame (F := Bits) m g

/-- The printed kernel leaves its arguments and every counter. -/
theorem frame_P : Cert.quiescent_Kernel5 (hKernel5 := Cert.Kernel5.Gen.facts) := fun m g _ =>
  frame_table m g _ defs_same

/-- So does the kernel over the extended reals. -/
theorem frame_PI : Cert.quiescent_Kernel5Ideal (hKernel5Ideal := Cert.Kernel5Ideal.Gen.facts) := fun m g _ =>
  Cert.Kernel5Ideal.Gen.frame (F := Ideal) m g

/-- The reference leaves its arguments; it has no counters. -/
theorem frame_RI : Cert.quiescent_Reference5Ideal (hReference5Ideal := Cert.Reference5Ideal.Gen.facts) := fun m g _ =>
  ref_frame m g

/-- The two results of the kernel, as the step of retention of its arguments. -/
theorem kernel_run (m : (ℓ : Loc Cert.Kernel5Ideal.nD Cert.Kernel5Ideal.τ Cert.Kernel5Ideal.sig) → Buf (Elt Ideal) ℓ) (g : Dev Cert.Kernel5Ideal.nD → PrngReg) :
    θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
      r.2.mem ((c.tc : Thread Cert.Kernel5Ideal.nD Cert.Kernel5Ideal.τ).loc Cert.Kernel5Ideal.main_v43_0) = (fun j : Cert.Kernel5Ideal.S32x16x128.Idx => (outAt (SK m c) (RK m c) (GK m c) (j 0) (j 1) (j 2) : EReal))
      ∧ r.2.mem ((c.tc : Thread Cert.Kernel5Ideal.nD Cert.Kernel5Ideal.τ).loc Cert.Kernel5Ideal.main_v43_1) = (fun j : Cert.Kernel5Ideal.S32x16x128x128.Idx => (stAt (SK m c) (RK m c) (j 0) (j 1) (j 2) (j 3) : EReal))) :=
  (θ_run Cert.Kernel5Ideal.defs _ _).mono (fun r h c => ⟨(h.1.out_eq c (4 : Fin 6)).trans (res_o m c), (h.1.out_eq c (5 : Fin 6)).trans (res_s m c)⟩)
    (Cert.Kernel5Ideal.Gen.run_main_quiescent (F := Ideal) m g)

/-- The kernel and the reference, over the extended reals, end with equal results. -/
theorem algebraic : Cert.algebraic_Kernel5Ideal_Reference5Ideal (hKernel5Ideal := Cert.Kernel5Ideal.Gen.facts) (hReference5Ideal := Cert.Reference5Ideal.Gen.facts) := by
  intro m g m' g' _ hag
  refine ⟨fun c => (fun j : Cert.Kernel5Ideal.S32x16x128.Idx => (outAt (SK m c) (RK m c) (GK m c) (j 0) (j 1) (j 2) : EReal)), fun c => (fun j : Cert.Kernel5Ideal.S32x16x128x128.Idx => (stAt (SK m c) (RK m c) (j 0) (j 1) (j 2) (j 3) : EReal)), ?_, ?_⟩
  · refine (θ_run Cert.Kernel5Ideal.defs _ _).mono (fun r h c => ?_) (θ_run_and (kernel_run m g) (Cert.Kernel5Ideal.Gen.frame (F := Ideal) m g))
    exact ⟨(h.1 c).1, (h.1 c).2, h.2.1 c⟩
  · refine (θ_run Cert.Reference5Ideal.defs _ _).mono (fun r h c => ?_) (θ_run_and (ref_run m' g') (ref_frame m' g'))
    obtain ⟨e0, e1, e2⟩ := hag c
    obtain ⟨h0, h1⟩ := h.1 c
    have ho := congr (congr (congrArg outAt e0) e1) e2
    have hs := congr (congrArg stAt e0) e1
    exact ⟨h0.trans (funext fun j => congrFun (congrFun (congrFun ho (j 0)) (j 1)) (j 2)),
      h1.trans (funext fun j => congrFun (congrFun (congrFun (congrFun hs (j 0)) (j 1)) (j 2)) (j 3)), h.2.1 c⟩

end Cert.SRet

end
-- ==== Proof.lean ====
/-
  The claims, assembled: for the retention call, the feed-forward half step, the normed input projection, the output projection and
  the sample's step of retention, the frames, the idealization and the equality with the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Ret.Claims
public import proofs.«01_k».proof.Proof.Ffn.Claims
public import proofs.«01_k».proof.Proof.Proj.Claims
public import proofs.«01_k».proof.Proof.Out.Claims
public import proofs.«01_k».proof.Proof.SRet.Claims

@[expose] public section

noncomputable section

namespace Cert.Proof

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Ret.frame_P, Cert.Ret.frame_PI, Cert.Ret.frame_RI, Cert.Ffn.frame_P, Cert.Ffn.frame_PI, Cert.Ffn.frame_RI,
  Cert.Proj.frame_P, Cert.Proj.frame_PI, Cert.Proj.frame_RI, Cert.Out.frame_P, Cert.Out.frame_PI, Cert.Out.frame_RI,
  Cert.SRet.frame_P, Cert.SRet.frame_PI, Cert.SRet.frame_RI,
  trivial, Cert.Ret.algebraic, trivial, Cert.Ffn.algebraic, trivial, Cert.Proj.algebraic, trivial, Cert.Out.algebraic,
  trivial, Cert.SRet.algebraic⟩

end Cert.Proof

end
